-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near_the_ends_and_the_cut [hPre_few_near_the_ends_and_the_cut : Cert.Pre_few_near_the_ends_and_the_cut.Facts] (m : (ℓ : Loc Cert.KernelIdeal.nD Cert.KernelIdeal.τ Cert.KernelIdeal.sig) → Buf (Elt Ideal) ℓ) : Prop :=
  ∀ c : Dev Cert.KernelIdeal.nD,
    (Cert.Pre_few_near_the_ends_and_the_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near_the_ends_and_the_cut [hPre_few_near_the_ends_and_the_cut : Cert.Pre_few_near_the_ends_and_the_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near_the_ends_and_the_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_few_near_the_ends_and_the_cut [hKernelIdeal : Cert.KernelIdeal.Facts] [hPre_few_near_the_ends_and_the_cut : Cert.Pre_few_near_the_ends_and_the_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near_the_ends_and_the_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_few_near_the_ends_and_the_cut [hReferenceIdeal : Cert.ReferenceIdeal.Facts] [hPre_few_near_the_ends_and_the_cut : Cert.Pre_few_near_the_ends_and_the_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near_the_ends_and_the_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "span" .f32 0x40000000#32 ((33554431 / 16777216 : ℝ) : EReal)

def algebraic_KernelIdeal_ReferenceIdeal_pre_few_near_the_ends_and_the_cut [hKernelIdeal : Cert.KernelIdeal.Facts] [hReferenceIdeal : Cert.ReferenceIdeal.Facts] [hPre_few_near_the_ends_and_the_cut : Cert.Pre_few_near_the_ends_and_the_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near_the_ends_and_the_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v121) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_few_near_the_ends_and_the_cut : Cert.Pre_few_near_the_ends_and_the_cut.Facts),
    quiescent_Kernel (hKernel := hKernel)
    ∧ quiescent_KernelIdeal (hKernelIdeal := hKernelIdeal)
    ∧ quiescent_KernelIdeal_pre_few_near_the_ends_and_the_cut (hKernelIdeal := hKernelIdeal) (hPre_few_near_the_ends_and_the_cut := hPre_few_near_the_ends_and_the_cut)
    ∧ quiescent_ReferenceIdeal (hReferenceIdeal := hReferenceIdeal)
    ∧ quiescent_ReferenceIdeal_pre_few_near_the_ends_and_the_cut (hReferenceIdeal := hReferenceIdeal) (hPre_few_near_the_ends_and_the_cut := hPre_few_near_the_ends_and_the_cut)
    ∧ preserves_Kernel_KernelIdeal
    ∧ algebraic_KernelIdeal_ReferenceIdeal_pre_few_near_the_ends_and_the_cut (hKernelIdeal := hKernelIdeal) (hReferenceIdeal := hReferenceIdeal) (hPre_few_near_the_ends_and_the_cut := hPre_few_near_the_ends_and_the_cut)
-- ==== Pre_few_near_the_ends_and_the_cut.lean ====
abbrev S1024x100 : Shape := ⟨2, ![1024, 100]⟩
abbrev S1024x50 : Shape := ⟨2, ![1024, 50]⟩
abbrev S5023x3 : Shape := ⟨2, ![5023, 3]⟩
abbrev S9976x3 : Shape := ⟨2, ![9976, 3]⟩
abbrev S68 : Shape := ⟨1, ![68]⟩
abbrev S68x3 : Shape := ⟨2, ![68, 3]⟩
abbrev S5023x1 : Shape := ⟨2, ![5023, 1]⟩
abbrev S5023 : Shape := ⟨1, ![5023]⟩
abbrev S_ : Shape := ⟨0, ![]⟩

class Facts : Prop where
  slices_S5023x3_S5023x1_0_2 : S5023x3.Slices ![0, 2] S5023x1
  shapeCasts_S5023x1_S5023 : S5023x1.ShapeCasts S5023
  reducesTo_S5023_S_d0 : S5023.ReducesTo [0] S_
  h_S_ : 0 < S_.numel
  bcast_S_S5023 : S_.BroadcastsInDim S5023 (![] : Fin 0 → Fin S5023.rank)
  bcast_S_S9976x3 : S_.BroadcastsInDim S9976x3 (![] : Fin 0 → Fin S9976x3.rank)
  reducesTo_S9976x3_S_d0_1 : S9976x3.ReducesTo [0, 1] S_
  bcast_S_S68 : S_.BroadcastsInDim S68 (![] : Fin 0 → Fin S68.rank)
  reducesTo_S68_S_d0 : S68.ReducesTo [0] S_

variable [Facts]

def fn_part2 {F : FTy → Type} [FloatOps F] (main_arg4 : IVec S68 32) (main_v20 : FVec F S_ .f32) (main_v24 : FVec F S_ .f32) (main_v31 : IVec S_ 1) (main_v33 : IVec S68 1) : IVec S_ 1 :=
  let main_c_12 : IVec S_ 1 := constantI S_ 1 1#1
  let main_v34 : IVec S_ 1 := (fun x v => Host.reduce IntOp.andi x v reducesTo_S68_S_d0 h_S_) main_v33 main_c_12
  let main_v35 : IVec S_ 1 := andi main_v31 main_v34
  let main_c_13 : IVec S_ 32 := constantI S_ 32 9976#32
  let main_v36 : IVec S68 32 := broadcastInDim S68 ![] bcast_S_S68 main_c_13
  let main_v37 : IVec S68 1 := cmpi .slt main_arg4 main_v36
  let main_c_14 : IVec S_ 1 := constantI S_ 1 1#1
  let main_v38 : IVec S_ 1 := (fun x v => Host.reduce IntOp.andi x v reducesTo_S68_S_d0 h_S_) main_v37 main_c_14
  let main_v39 : IVec S_ 1 := andi main_v35 main_v38
  let main_cst_15 : FVec F S_ .f32 := constant S_ .f32 0x43000000#32
  let main_v40 : IVec S_ 1 := cmpf .ole main_v20 main_cst_15
  let main_v41 : IVec S_ 1 := andi main_v39 main_v40
  let main_cst_16 : FVec F S_ .f32 := constant S_ .f32 0x43000000#32
  let main_v42 : IVec S_ 1 := cmpf .ole main_v24 main_cst_16
  let main_v43 : IVec S_ 1 := andi main_v41 main_v42
  main_v43

def fn_part1 {F : FTy → Type} [FloatOps F] (main_arg3 : IVec S9976x3 32) (main_arg4 : IVec S68 32) (main_v8 : FVec F S5023 .f32) (main_v14 : FVec F S5023 .f32) (main_v17 : FVec F S5023 .f32) : IVec S_ 1 :=
  let main_v18 : IVec S5023 1 := cmpf .oge main_v8 main_v17
  let main_v19 : FVec F S5023 .f32 := uitofp .f32 main_v18
  let main_cst_5 : FVec F S_ .f32 := constant S_ .f32 0x00000000#32
  let main_v20 : FVec F S_ .f32 := (fun x v => Host.reduceAdd x v reducesTo_S5023_S_d0 h_S_) main_v19 main_cst_5
  let main_cst_6 : FVec F S_ .f32 := constant S_ .f32 0x3C4CCCCD#32
  let main_v21 : FVec F S5023 .f32 := broadcastInDim S5023 ![] bcast_S_S5023 main_cst_6
  let main_v22 : IVec S5023 1 := cmpf .ole main_v14 main_v21
  let main_v23 : FVec F S5023 .f32 := uitofp .f32 main_v22
  let main_cst_7 : FVec F S_ .f32 := constant S_ .f32 0x00000000#32
  let main_v24 : FVec F S_ .f32 := (fun x v => Host.reduceAdd x v reducesTo_S5023_S_d0 h_S_) main_v23 main_cst_7
  let main_c : IVec S_ 32 := constantI S_ 32 0#32
  let main_v25 : IVec S9976x3 32 := broadcastInDim S9976x3 ![] bcast_S_S9976x3 main_c
  let main_v26 : IVec S9976x3 1 := cmpi .sge main_arg3 main_v25
  let main_c_8 : IVec S_ 1 := constantI S_ 1 1#1
  let main_v27 : IVec S_ 1 := (fun x v => Host.reduce IntOp.andi x v reducesTo_S9976x3_S_d0_1 h_S_) main_v26 main_c_8
  let main_c_9 : IVec S_ 32 := constantI S_ 32 5023#32
  let main_v28 : IVec S9976x3 32 := broadcastInDim S9976x3 ![] bcast_S_S9976x3 main_c_9
  let main_v29 : IVec S9976x3 1 := cmpi .slt main_arg3 main_v28
  let main_c_10 : IVec S_ 1 := constantI S_ 1 1#1
  let main_v30 : IVec S_ 1 := (fun x v => Host.reduce IntOp.andi x v reducesTo_S9976x3_S_d0_1 h_S_) main_v29 main_c_10
  let main_v31 : IVec S_ 1 := andi main_v27 main_v30
  let main_c_11 : IVec S_ 32 := constantI S_ 32 0#32
  let main_v32 : IVec S68 32 := broadcastInDim S68 ![] bcast_S_S68 main_c_11
  let main_v33 : IVec S68 1 := cmpi .sge main_arg4 main_v32
  fn_part2 (F := F) main_arg4 main_v20 main_v24 main_v31 main_v33

def fn {F : FTy → Type} [FloatOps F] (main_arg0 : FVec F S1024x100 .f32) (main_arg1 : FVec F S1024x50 .f32) (main_arg2 : FVec F S5023x3 .f32) (main_arg3 : IVec S9976x3 32) (main_arg4 : IVec S68 32) (main_arg5 : FVec F S68x3 .f32) : IVec S_ 1 :=
  let main_v0 : FVec F S5023x1 .f32 := (extractStridedSlice S5023x1 ![0, 2] · slices_S5023x3_S5023x1_0_2) main_arg2
  let main_v1 : FVec F S5023 .f32 := shapeCast S5023 main_v0 shapeCasts_S5023x1_S5023
  let main_cst : FVec F S_ .f32 := constant S_ .f32 0x7F800000#32
  let main_v2 : FVec F S_ .f32 := (fun x v => Host.reduce FloatOps.minimumf x v reducesTo_S5023_S_d0 h_S_) main_v1 main_cst
  let main_cst_0 : FVec F S_ .f32 := constant S_ .f32 0xFF800000#32
  let main_v3 : FVec F S_ .f32 := (fun x v => Host.reduce FloatOps.maximumf x v reducesTo_S5023_S_d0 h_S_) main_v1 main_cst_0
  let main_v4 : FVec F S_ .f32 := addf main_v2 main_v3
  let main_cst_1 : FVec F S_ .f32 := constant S_ .f32 0x3F000000#32
  let main_v5 : FVec F S_ .f32 := mulf main_cst_1 main_v4
  let main_v6 : FVec F S5023 .f32 := broadcastInDim S5023 ![] bcast_S_S5023 main_v5
  let main_v7 : FVec F S5023 .f32 := subf main_v1 main_v6
  let main_v8 : FVec F S5023 .f32 := Host.absf main_v7
  let main_v9 : FVec F S_ .f32 := subf main_v3 main_v2
  let main_cst_2 : FVec F S_ .f32 := constant S_ .f32 0x3E99999A#32
  let main_v10 : FVec F S_ .f32 := mulf main_cst_2 main_v9
  let main_v11 : FVec F S_ .f32 := addf main_v2 main_v10
  let main_v12 : FVec F S5023 .f32 := broadcastInDim S5023 ![] bcast_S_S5023 main_v11
  let main_v13 : FVec F S5023 .f32 := subf main_v1 main_v12
  let main_v14 : FVec F S5023 .f32 := Host.absf main_v13
  let main_cst_3 : FVec F S_ .f32 := constant S_ .f32 0xFF800000#32
  let main_v15 : FVec F S_ .f32 := (fun x v => Host.reduce FloatOps.maximumf x v reducesTo_S5023_S_d0 h_S_) main_v8 main_cst_3
  let main_cst_4 : FVec F S_ .f32 := constant S_ .f32 0x3C4CCCCD#32
  let main_v16 : FVec F S_ .f32 := subf main_v15 main_cst_4
  let main_v17 : FVec F S5023 .f32 := broadcastInDim S5023 ![] bcast_S_S5023 main_v16
  fn_part1 (F := F) main_arg3 main_arg4 main_v8 main_v14 main_v17
-- ==== Kernel.lean ====
abbrev S1024x100 : Shape := ⟨2, ![1024, 100]⟩
abbrev S1024x50 : Shape := ⟨2, ![1024, 50]⟩
abbrev S5023x3 : Shape := ⟨2, ![5023, 3]⟩
abbrev S9976x3 : Shape := ⟨2, ![9976, 3]⟩
abbrev S68 : Shape := ⟨1, ![68]⟩
abbrev S68x3 : Shape := ⟨2, ![68, 3]⟩
abbrev S5023x1 : Shape := ⟨2, ![5023, 1]⟩
abbrev S5023 : Shape := ⟨1, ![5023]⟩
abbrev S_ : Shape := ⟨0, ![]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x5023 : Shape := ⟨2, ![1, 5023]⟩
abbrev S128x5023 : Shape := ⟨2, ![128, 5023]⟩
abbrev S68x1 : Shape := ⟨2, ![68, 1]⟩
abbrev S3 : Shape := ⟨1, ![3]⟩
abbrev S256 : Shape := ⟨1, ![256]⟩
abbrev S1x3 : Shape := ⟨2, ![1, 3]⟩
abbrev S204 : Shape := ⟨1, ![204]⟩
abbrev S52 : Shape := ⟨1, ![52]⟩
abbrev S1280 : Shape := ⟨1, ![1280]⟩
abbrev S1x1280 : Shape := ⟨2, ![1, 1280]⟩
abbrev S768 : Shape := ⟨1, ![768]⟩
abbrev S1x768 : Shape := ⟨2, ![1, 768]⟩
abbrev S1024x5023 : Shape := ⟨2, ![1024, 5023]⟩
abbrev S1024x204 : Shape := ⟨2, ![1024, 204]⟩
abbrev S256x5023 : Shape := ⟨2, ![256, 5023]⟩
abbrev S256x204 : Shape := ⟨2, ![256, 204]⟩
abbrev S256x1 : Shape := ⟨2, ![256, 1]⟩
abbrev S256x1280 : Shape := ⟨2, ![256, 1280]⟩
abbrev S256x128 : Shape := ⟨2, ![256, 128]⟩
abbrev S1x204 : Shape := ⟨2, ![1, 204]⟩
abbrev S1024x5023x1 : Shape := ⟨3, ![1024, 5023, 1]⟩
abbrev S1024x5023x3 : Shape := ⟨3, ![1024, 5023, 3]⟩
abbrev S1024x68x3 : Shape := ⟨3, ![1024, 68, 3]⟩

abbrev nBuf : Space → Nat
  | .hbm => 288
  | .vmem => 10
  | .smem => 0
  | _ => 0

abbrev hbmTy0_0 (i : Nat) : BufTy := match i % 128 with
  | 0 => ⟨S1024x100, .f32⟩
  | 1 => ⟨S1024x50, .f32⟩
  | 2 => ⟨S5023x3, .f32⟩
  | 3 => ⟨S9976x3, .i32⟩
  | 4 => ⟨S68, .i32⟩
  | 5 => ⟨S68x3, .f32⟩
  | 6 => ⟨S5023x1, .f32⟩
  | 7 => ⟨S5023, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S5023, .f32⟩
  | 20 => ⟨S5023, .f32⟩
  | 21 => ⟨S5023, .f32⟩
  | 22 => ⟨S128, .f32⟩
  | 23 => ⟨S128, .i32⟩
  | 24 => ⟨S5023, .f32⟩
  | 25 => ⟨S5023, .f32⟩
  | 26 => ⟨S5023, .f32⟩
  | 27 => ⟨S5023, .f32⟩
  | 28 => ⟨S128, .f32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S1, .i32⟩
  | 39 => ⟨S_, .i32⟩
  | 40 => ⟨S128x1, .i32⟩
  | 41 => ⟨S128x1, .i1⟩
  | 42 => ⟨S1x1, .i32⟩
  | 43 => ⟨S128x1, .i32⟩
  | 44 => ⟨S128x1, .i1⟩
  | 45 => ⟨S128x1, .i1⟩
  | 46 => ⟨S_, .i1⟩
  | 47 => ⟨S128, .i1⟩
  | 48 => ⟨S128, .f32⟩
  | 49 => ⟨S_, .f32⟩
  | 50 => ⟨S128, .f32⟩
  | 51 => ⟨S128, .f32⟩
  | 52 => ⟨S_, .i32⟩
  | 53 => ⟨S128, .i32⟩
  | 54 => ⟨S128, .i1⟩
  | 55 => ⟨S_, .i32⟩
  | 56 => ⟨S128, .i32⟩
  | 57 => ⟨S128, .i32⟩
  | 58 => ⟨S128, .i32⟩
  | 59 => ⟨S128x1, .i32⟩
  | 60 => ⟨S1, .i32⟩
  | 61 => ⟨S_, .i32⟩
  | 62 => ⟨S128x1, .i32⟩
  | 63 => ⟨S128x1, .i1⟩
  | 64 => ⟨S1x1, .i32⟩
  | 65 => ⟨S128x1, .i32⟩
  | 66 => ⟨S128x1, .i1⟩
  | 67 => ⟨S128x1, .i1⟩
  | 68 => ⟨S_, .i1⟩
  | 69 => ⟨S128, .i1⟩
  | 70 => ⟨S128, .f32⟩
  | 71 => ⟨S_, .f32⟩
  | 72 => ⟨S128, .f32⟩
  | 73 => ⟨S128, .f32⟩
  | 74 => ⟨S128x1, .i32⟩
  | 75 => ⟨S5023, .i32⟩
  | 76 => ⟨S1x5023, .i32⟩
  | 77 => ⟨S128x5023, .i32⟩
  | 78 => ⟨S128x5023, .i32⟩
  | 79 => ⟨S128x5023, .i1⟩
  | 80 => ⟨S128x5023, .f32⟩
  | 81 => ⟨S_, .f32⟩
  | 82 => ⟨S5023, .f32⟩
  | 83 => ⟨S1x5023, .f32⟩
  | 84 => ⟨S_, .i32⟩
  | 85 => ⟨S68, .i32⟩
  | 86 => ⟨S68, .i1⟩
  | 87 => ⟨S_, .i32⟩
  | 88 => ⟨S68, .i32⟩
  | 89 => ⟨S68, .i32⟩
  | 90 => ⟨S68, .i32⟩
  | 91 => ⟨S68x1, .i32⟩
  | 92 => ⟨S1, .i32⟩
  | 93 => ⟨S_, .i32⟩
  | 94 => ⟨S68x1, .i32⟩
  | 95 => ⟨S68x1, .i1⟩
  | 96 => ⟨S1x1, .i32⟩
  | 97 => ⟨S68x1, .i32⟩
  | 98 => ⟨S68x1, .i1⟩
  | 99 => ⟨S68x1, .i1⟩
  | 100 => ⟨S_, .i1⟩
  | 101 => ⟨S68, .i1⟩
  | 102 => ⟨S68x3, .i32⟩
  | 103 => ⟨S68x3, .i1⟩
  | 104 => ⟨S_, .i32⟩
  | 105 => ⟨S68x3, .i32⟩
  | 106 => ⟨S68x3, .i32⟩
  | 107 => ⟨S3, .i32⟩
  | 108 => ⟨S_, .i32⟩
  | 109 => ⟨S128, .i32⟩
  | 110 => ⟨S128, .i32⟩
  | 111 => ⟨S_, .i32⟩
  | 112 => ⟨S128, .i32⟩
  | 113 => ⟨S128, .i32⟩
  | 114 => ⟨S_, .i32⟩
  | 115 => ⟨S128, .i32⟩
  | 116 => ⟨S256, .i32⟩
  | 117 => ⟨S_, .i32⟩
  | 118 => ⟨S128, .i32⟩
  | 119 => ⟨S128, .i32⟩
  | 120 => ⟨S_, .i32⟩
  | 121 => ⟨S128, .i32⟩
  | 122 => ⟨S128, .i32⟩
  | 123 => ⟨S_, .i32⟩
  | 124 => ⟨S128, .i32⟩
  | 125 => ⟨S256, .i32⟩
  | 126 => ⟨S_, .f32⟩
  | 127 => ⟨S128, .f32⟩
  | _ => ⟨S1024x100, .f32⟩

abbrev hbmTy0_1 (i : Nat) : BufTy := match i % 128 with
  | 0 => ⟨S256, .f32⟩
  | 1 => ⟨S_, .f32⟩
  | 2 => ⟨S128, .f32⟩
  | 3 => ⟨S256, .f32⟩
  | 4 => ⟨S68x1, .i32⟩
  | 5 => ⟨S68, .i32⟩
  | 6 => ⟨S68x1, .i32⟩
  | 7 => ⟨S_, .i32⟩
  | 8 => ⟨S68x1, .i32⟩
  | 9 => ⟨S68x1, .i32⟩
  | 10 => ⟨S1x3, .i32⟩
  | 11 => ⟨S68x3, .i32⟩
  | 12 => ⟨S68x3, .i32⟩
  | 13 => ⟨S68x3, .i32⟩
  | 14 => ⟨S204, .i32⟩
  | 15 => ⟨S_, .i32⟩
  | 16 => ⟨S68, .i32⟩
  | 17 => ⟨S68, .i1⟩
  | 18 => ⟨S_, .i32⟩
  | 19 => ⟨S68, .i32⟩
  | 20 => ⟨S68, .i32⟩
  | 21 => ⟨S68, .i32⟩
  | 22 => ⟨S68x1, .i32⟩
  | 23 => ⟨S1, .i32⟩
  | 24 => ⟨S_, .i32⟩
  | 25 => ⟨S68x1, .i32⟩
  | 26 => ⟨S68x1, .i1⟩
  | 27 => ⟨S1x1, .i32⟩
  | 28 => ⟨S68x1, .i32⟩
  | 29 => ⟨S68x1, .i1⟩
  | 30 => ⟨S68x1, .i1⟩
  | 31 => ⟨S_, .i1⟩
  | 32 => ⟨S68, .i1⟩
  | 33 => ⟨S68x3, .f32⟩
  | 34 => ⟨S68x3, .i1⟩
  | 35 => ⟨S_, .f32⟩
  | 36 => ⟨S68x3, .f32⟩
  | 37 => ⟨S68x3, .f32⟩
  | 38 => ⟨S204, .f32⟩
  | 39 => ⟨S68x1, .f32⟩
  | 40 => ⟨S68, .f32⟩
  | 41 => ⟨S68x3, .f32⟩
  | 42 => ⟨S204, .f32⟩
  | 43 => ⟨S_, .i32⟩
  | 44 => ⟨S52, .i32⟩
  | 45 => ⟨S256, .i32⟩
  | 46 => ⟨S_, .f32⟩
  | 47 => ⟨S52, .f32⟩
  | 48 => ⟨S256, .f32⟩
  | 49 => ⟨S_, .f32⟩
  | 50 => ⟨S52, .f32⟩
  | 51 => ⟨S256, .f32⟩
  | 52 => ⟨S68x1, .i32⟩
  | 53 => ⟨S68, .i32⟩
  | 54 => ⟨S68x1, .i32⟩
  | 55 => ⟨S_, .i32⟩
  | 56 => ⟨S68x1, .i32⟩
  | 57 => ⟨S68x1, .i32⟩
  | 58 => ⟨S1x3, .i32⟩
  | 59 => ⟨S68x3, .i32⟩
  | 60 => ⟨S68x3, .i32⟩
  | 61 => ⟨S68x3, .i32⟩
  | 62 => ⟨S204, .i32⟩
  | 63 => ⟨S_, .i32⟩
  | 64 => ⟨S68, .i32⟩
  | 65 => ⟨S68, .i1⟩
  | 66 => ⟨S_, .i32⟩
  | 67 => ⟨S68, .i32⟩
  | 68 => ⟨S68, .i32⟩
  | 69 => ⟨S68, .i32⟩
  | 70 => ⟨S68x1, .i32⟩
  | 71 => ⟨S1, .i32⟩
  | 72 => ⟨S_, .i32⟩
  | 73 => ⟨S68x1, .i32⟩
  | 74 => ⟨S68x1, .i1⟩
  | 75 => ⟨S1x1, .i32⟩
  | 76 => ⟨S68x1, .i32⟩
  | 77 => ⟨S68x1, .i1⟩
  | 78 => ⟨S68x1, .i1⟩
  | 79 => ⟨S_, .i1⟩
  | 80 => ⟨S68, .i1⟩
  | 81 => ⟨S68x3, .f32⟩
  | 82 => ⟨S68x3, .i1⟩
  | 83 => ⟨S_, .f32⟩
  | 84 => ⟨S68x3, .f32⟩
  | 85 => ⟨S68x3, .f32⟩
  | 86 => ⟨S204, .f32⟩
  | 87 => ⟨S68x1, .f32⟩
  | 88 => ⟨S68, .f32⟩
  | 89 => ⟨S68x3, .f32⟩
  | 90 => ⟨S204, .f32⟩
  | 91 => ⟨S_, .i32⟩
  | 92 => ⟨S52, .i32⟩
  | 93 => ⟨S256, .i32⟩
  | 94 => ⟨S_, .f32⟩
  | 95 => ⟨S52, .f32⟩
  | 96 => ⟨S256, .f32⟩
  | 97 => ⟨S_, .f32⟩
  | 98 => ⟨S52, .f32⟩
  | 99 => ⟨S256, .f32⟩
  | 100 => ⟨S68x1, .i32⟩
  | 101 => ⟨S68, .i32⟩
  | 102 => ⟨S68x1, .i32⟩
  | 103 => ⟨S_, .i32⟩
  | 104 => ⟨S68x1, .i32⟩
  | 105 => ⟨S68x1, .i32⟩
  | 106 => ⟨S1x3, .i32⟩
  | 107 => ⟨S68x3, .i32⟩
  | 108 => ⟨S68x3, .i32⟩
  | 109 => ⟨S68x3, .i32⟩
  | 110 => ⟨S204, .i32⟩
  | 111 => ⟨S_, .i32⟩
  | 112 => ⟨S68, .i32⟩
  | 113 => ⟨S68, .i1⟩
  | 114 => ⟨S_, .i32⟩
  | 115 => ⟨S68, .i32⟩
  | 116 => ⟨S68, .i32⟩
  | 117 => ⟨S68, .i32⟩
  | 118 => ⟨S68x1, .i32⟩
  | 119 => ⟨S1, .i32⟩
  | 120 => ⟨S_, .i32⟩
  | 121 => ⟨S68x1, .i32⟩
  | 122 => ⟨S68x1, .i1⟩
  | 123 => ⟨S1x1, .i32⟩
  | 124 => ⟨S68x1, .i32⟩
  | 125 => ⟨S68x1, .i1⟩
  | 126 => ⟨S68x1, .i1⟩
  | 127 => ⟨S_, .i1⟩
  | _ => ⟨S1024x100, .f32⟩

abbrev hbmTy0_2 (i : Nat) : BufTy := match i % 128 with
  | 0 => ⟨S68, .i1⟩
  | 1 => ⟨S68x3, .f32⟩
  | 2 => ⟨S68x3, .i1⟩
  | 3 => ⟨S_, .f32⟩
  | 4 => ⟨S68x3, .f32⟩
  | 5 => ⟨S68x3, .f32⟩
  | 6 => ⟨S204, .f32⟩
  | 7 => ⟨S68x1, .f32⟩
  | 8 => ⟨S68, .f32⟩
  | 9 => ⟨S68x3, .f32⟩
  | 10 => ⟨S204, .f32⟩
  | 11 => ⟨S_, .i32⟩
  | 12 => ⟨S52, .i32⟩
  | 13 => ⟨S256, .i32⟩
  | 14 => ⟨S_, .f32⟩
  | 15 => ⟨S52, .f32⟩
  | 16 => ⟨S256, .f32⟩
  | 17 => ⟨S_, .f32⟩
  | 18 => ⟨S52, .f32⟩
  | 19 => ⟨S256, .f32⟩
  | 20 => ⟨S1280, .i32⟩
  | 21 => ⟨S1x1280, .i32⟩
  | 22 => ⟨S1280, .f32⟩
  | 23 => ⟨S1x1280, .f32⟩
  | 24 => ⟨S768, .f32⟩
  | 25 => ⟨S1x768, .f32⟩
  | 26 => ⟨S1x5023, .f32⟩
  | 27 => ⟨S1024x5023, .f32⟩
  | 28 => ⟨S1024x204, .f32⟩
  | 29 => ⟨S1024x5023x1, .f32⟩
  | 30 => ⟨S1024x5023x3, .f32⟩
  | 31 => ⟨S1024x68x3, .f32⟩
  | _ => ⟨S1024x100, .f32⟩

abbrev hbmTy (i : Nat) : BufTy := match i / 128 with
  | 0 => hbmTy0_0 i
  | 1 => hbmTy0_1 i
  | 2 => hbmTy0_2 i
  | _ => ⟨S1024x100, .f32⟩

abbrev bufTy : (tb : Table) → Fin (tcTables nBuf tb) → BufTy
  | .hbm, ⟨i, _⟩ => hbmTy i
  | .local _ .vmem, ⟨0, _⟩ => ⟨S1x5023, .f32⟩
  | .local _ .vmem, ⟨1, _⟩ => ⟨S1x5023, .f32⟩
  | .local _ .vmem, ⟨2, _⟩ => ⟨S128x5023, .f32⟩
  | .local _ .vmem, ⟨3, _⟩ => ⟨S1x1280, .i32⟩
  | .local _ .vmem, ⟨4, _⟩ => ⟨S1x1280, .f32⟩
  | .local _ .vmem, ⟨5, _⟩ => ⟨S1x768, .f32⟩
  | .local _ .vmem, ⟨6, _⟩ => ⟨S256x5023, .f32⟩
  | .local _ .vmem, ⟨7, _⟩ => ⟨S256x5023, .f32⟩
  | .local _ .vmem, ⟨8, _⟩ => ⟨S256x204, .f32⟩
  | .local _ .vmem, ⟨9, _⟩ => ⟨S256x204, .f32⟩
  | _, _ => ⟨S1024x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_values : Ref sig .tc := ⟨.hbm, 22, rfl⟩
abbrev main_indices : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_values_3 : Ref sig .tc := ⟨.hbm, 28, rfl⟩
abbrev main_indices_4 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v16 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_cst : Ref sig .tc := ⟨.hbm, 71, rfl⟩
abbrev main_call1_v14 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_cst_5 : Ref sig .tc := ⟨.hbm, 81, rfl⟩
abbrev main_v25 : Ref sig .tc := ⟨.hbm, 82, rfl⟩
abbrev main_v26 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_c_4 : Ref sig .tc := ⟨.hbm, 104, rfl⟩
abbrev main_call2_v15 : Ref sig .tc := ⟨.hbm, 105, rfl⟩
abbrev main_v27 : Ref sig .tc := ⟨.hbm, 106, rfl⟩
abbrev main_v28 : Ref sig .tc := ⟨.hbm, 107, rfl⟩
abbrev main_c : Ref sig .tc := ⟨.hbm, 108, rfl⟩
abbrev main_v29 : Ref sig .tc := ⟨.hbm, 109, rfl⟩
abbrev main_v30 : Ref sig .tc := ⟨.hbm, 110, rfl⟩
abbrev main_c_6 : Ref sig .tc := ⟨.hbm, 111, rfl⟩
abbrev main_v31 : Ref sig .tc := ⟨.hbm, 112, rfl⟩
abbrev main_v32 : Ref sig .tc := ⟨.hbm, 113, rfl⟩
abbrev main_c_7 : Ref sig .tc := ⟨.hbm, 114, rfl⟩
abbrev main_v33 : Ref sig .tc := ⟨.hbm, 115, rfl⟩
abbrev main_v34 : Ref sig .tc := ⟨.hbm, 116, rfl⟩
abbrev main_c_8 : Ref sig .tc := ⟨.hbm, 117, rfl⟩
abbrev main_v35 : Ref sig .tc := ⟨.hbm, 118, rfl⟩
abbrev main_v36 : Ref sig .tc := ⟨.hbm, 119, rfl⟩
abbrev main_c_9 : Ref sig .tc := ⟨.hbm, 120, rfl⟩
abbrev main_v37 : Ref sig .tc := ⟨.hbm, 121, rfl⟩
abbrev main_v38 : Ref sig .tc := ⟨.hbm, 122, rfl⟩
abbrev main_c_10 : Ref sig .tc := ⟨.hbm, 123, rfl⟩
abbrev main_v39 : Ref sig .tc := ⟨.hbm, 124, rfl⟩
abbrev main_v40 : Ref sig .tc := ⟨.hbm, 125, rfl⟩
abbrev main_cst_11 : Ref sig .tc := ⟨.hbm, 126, rfl⟩
abbrev main_v41 : Ref sig .tc := ⟨.hbm, 127, rfl⟩
abbrev main_v42 : Ref sig .tc := ⟨.hbm, 128, rfl⟩
abbrev main_cst_12 : Ref sig .tc := ⟨.hbm, 129, rfl⟩
abbrev main_v43 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_c_13 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_call3_cst : Ref sig .tc := ⟨.hbm, 163, rfl⟩
abbrev main_call3_v15 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩
abbrev main_v58 : Ref sig .tc := ⟨.hbm, 168, rfl⟩
abbrev main_v59 : Ref sig .tc := ⟨.hbm, 169, rfl⟩
abbrev main_v60 : Ref sig .tc := ⟨.hbm, 170, rfl⟩
abbrev main_c_14 : Ref sig .tc := ⟨.hbm, 171, rfl⟩
abbrev main_v61 : Ref sig .tc := ⟨.hbm, 172, rfl⟩
abbrev main_v62 : Ref sig .tc := ⟨.hbm, 173, rfl⟩
abbrev main_cst_15 : Ref sig .tc := ⟨.hbm, 174, rfl⟩
abbrev main_v63 : Ref sig .tc := ⟨.hbm, 175, rfl⟩
abbrev main_v64 : Ref sig .tc := ⟨.hbm, 176, rfl⟩
abbrev main_cst_16 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_c_17 : Ref sig .tc := ⟨.hbm, 183, rfl⟩
abbrev main_v70 : Ref sig .tc := ⟨.hbm, 184, rfl⟩
abbrev main_v71 : Ref sig .tc := ⟨.hbm, 185, rfl⟩
abbrev main_v72 : Ref sig .tc := ⟨.hbm, 186, rfl⟩
abbrev main_v73 : Ref sig .tc := ⟨.hbm, 187, rfl⟩
abbrev main_v74 : Ref sig .tc := ⟨.hbm, 188, rfl⟩
abbrev main_v75 : Ref sig .tc := ⟨.hbm, 189, rfl⟩
abbrev main_v76 : Ref sig .tc := ⟨.hbm, 190, rfl⟩
abbrev main_call4_c : Ref sig .tc := ⟨.hbm, 191, rfl⟩
abbrev main_call4_v0 : Ref sig .tc := ⟨.hbm, 192, rfl⟩
abbrev main_call4_v1 : Ref sig .tc := ⟨.hbm, 193, rfl⟩
abbrev main_call4_c_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_c_1 : Ref sig .tc := ⟨.hbm, 199, rfl⟩
abbrev main_call4_c_2 : Ref sig .tc := ⟨.hbm, 200, rfl⟩
abbrev main_call4_v6 : Ref sig .tc := ⟨.hbm, 201, rfl⟩
abbrev main_call4_v7 : Ref sig .tc := ⟨.hbm, 202, rfl⟩
abbrev main_call4_v8 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_c_3 : Ref sig .tc := ⟨.hbm, 207, rfl⟩
abbrev main_call4_v12 : Ref sig .tc := ⟨.hbm, 208, rfl⟩
abbrev main_call4_v13 : Ref sig .tc := ⟨.hbm, 209, rfl⟩
abbrev main_call4_v14 : Ref sig .tc := ⟨.hbm, 210, rfl⟩
abbrev main_call4_cst : Ref sig .tc := ⟨.hbm, 211, rfl⟩
abbrev main_call4_v15 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_c_18 : Ref sig .tc := ⟨.hbm, 219, rfl⟩
abbrev main_v83 : Ref sig .tc := ⟨.hbm, 220, rfl⟩
abbrev main_v84 : Ref sig .tc := ⟨.hbm, 221, rfl⟩
abbrev main_cst_19 : Ref sig .tc := ⟨.hbm, 222, rfl⟩
abbrev main_v85 : Ref sig .tc := ⟨.hbm, 223, rfl⟩
abbrev main_v86 : Ref sig .tc := ⟨.hbm, 224, rfl⟩
abbrev main_cst_20 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_c_21 : Ref sig .tc := ⟨.hbm, 231, rfl⟩
abbrev main_v92 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_v96 : Ref sig .tc := ⟨.hbm, 236, rfl⟩
abbrev main_v97 : Ref sig .tc := ⟨.hbm, 237, rfl⟩
abbrev main_v98 : Ref sig .tc := ⟨.hbm, 238, rfl⟩
abbrev main_call5_c : Ref sig .tc := ⟨.hbm, 239, rfl⟩
abbrev main_call5_v0 : Ref sig .tc := ⟨.hbm, 240, rfl⟩
abbrev main_call5_v1 : Ref sig .tc := ⟨.hbm, 241, rfl⟩
abbrev main_call5_c_0 : Ref sig .tc := ⟨.hbm, 242, rfl⟩
abbrev main_call5_v2 : Ref sig .tc := ⟨.hbm, 243, rfl⟩
abbrev main_call5_v3 : Ref sig .tc := ⟨.hbm, 244, rfl⟩
abbrev main_call5_v4 : Ref sig .tc := ⟨.hbm, 245, rfl⟩
abbrev main_call5_v5 : Ref sig .tc := ⟨.hbm, 246, rfl⟩
abbrev main_call5_c_1 : Ref sig .tc := ⟨.hbm, 247, rfl⟩
abbrev main_call5_c_2 : Ref sig .tc := ⟨.hbm, 248, rfl⟩
abbrev main_call5_v6 : Ref sig .tc := ⟨.hbm, 249, rfl⟩
abbrev main_call5_v7 : Ref sig .tc := ⟨.hbm, 250, rfl⟩
abbrev main_call5_v8 : Ref sig .tc := ⟨.hbm, 251, rfl⟩
abbrev main_call5_v9 : Ref sig .tc := ⟨.hbm, 252, rfl⟩
abbrev main_call5_v10 : Ref sig .tc := ⟨.hbm, 253, rfl⟩
abbrev main_call5_v11 : Ref sig .tc := ⟨.hbm, 254, rfl⟩
abbrev main_call5_c_3 : Ref sig .tc := ⟨.hbm, 255, rfl⟩
abbrev main_call5_v12 : Ref sig .tc := ⟨.hbm, 256, rfl⟩
abbrev main_call5_v13 : Ref sig .tc := ⟨.hbm, 257, rfl⟩
abbrev main_call5_v14 : Ref sig .tc := ⟨.hbm, 258, rfl⟩
abbrev main_call5_cst : Ref sig .tc := ⟨.hbm, 259, rfl⟩
abbrev main_call5_v15 : Ref sig .tc := ⟨.hbm, 260, rfl⟩
abbrev main_v99 : Ref sig .tc := ⟨.hbm, 261, rfl⟩
abbrev main_v100 : Ref sig .tc := ⟨.hbm, 262, rfl⟩
abbrev main_v101 : Ref sig .tc := ⟨.hbm, 263, rfl⟩
abbrev main_v102 : Ref sig .tc := ⟨.hbm, 264, rfl⟩
abbrev main_v103 : Ref sig .tc := ⟨.hbm, 265, rfl⟩
abbrev main_v104 : Ref sig .tc := ⟨.hbm, 266, rfl⟩
abbrev main_c_22 : Ref sig .tc := ⟨.hbm, 267, rfl⟩
abbrev main_v105 : Ref sig .tc := ⟨.hbm, 268, rfl⟩
abbrev main_v106 : Ref sig .tc := ⟨.hbm, 269, rfl⟩
abbrev main_cst_23 : Ref sig .tc := ⟨.hbm, 270, rfl⟩
abbrev main_v107 : Ref sig .tc := ⟨.hbm, 271, rfl⟩
abbrev main_v108 : Ref sig .tc := ⟨.hbm, 272, rfl⟩
abbrev main_cst_24 : Ref sig .tc := ⟨.hbm, 273, rfl⟩
abbrev main_v109 : Ref sig .tc := ⟨.hbm, 274, rfl⟩
abbrev main_v110 : Ref sig .tc := ⟨.hbm, 275, rfl⟩
abbrev main_v111 : Ref sig .tc := ⟨.hbm, 276, rfl⟩
abbrev main_v112 : Ref sig .tc := ⟨.hbm, 277, rfl⟩
abbrev main_v113 : Ref sig .tc := ⟨.hbm, 278, rfl⟩
abbrev main_v114 : Ref sig .tc := ⟨.hbm, 279, rfl⟩
abbrev main_v115 : Ref sig .tc := ⟨.hbm, 280, rfl⟩
abbrev main_v116 : Ref sig .tc := ⟨.hbm, 281, rfl⟩
abbrev main_v117 : Ref sig .tc := ⟨.hbm, 282, rfl⟩
abbrev main_v118_0 : Ref sig .tc := ⟨.hbm, 283, rfl⟩
abbrev main_v118_1 : Ref sig .tc := ⟨.hbm, 284, rfl⟩
abbrev main_v119 : Ref sig .tc := ⟨.hbm, 285, rfl⟩
abbrev main_v120 : Ref sig .tc := ⟨.hbm, 286, rfl⟩
abbrev main_v121 : Ref sig .tc := ⟨.hbm, 287, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x5023 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5023 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x5023 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5023 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x204 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "span" => some ((33554431 / 16777216 : ℝ) : EReal)
  | _ => none
-- ==== ReferenceIdeal.lean ====
abbrev S1024x100 : Shape := ⟨2, ![1024, 100]⟩
abbrev S1024x50 : Shape := ⟨2, ![1024, 50]⟩
abbrev S5023x3 : Shape := ⟨2, ![5023, 3]⟩
abbrev S9976x3 : Shape := ⟨2, ![9976, 3]⟩
abbrev S68 : Shape := ⟨1, ![68]⟩
abbrev S68x3 : Shape := ⟨2, ![68, 3]⟩
abbrev S_ : Shape := ⟨0, ![]⟩
abbrev S1 : Shape := ⟨1, ![1]⟩
abbrev S2 : Shape := ⟨1, ![2]⟩
abbrev S1x1x1 : Shape := ⟨3, ![1, 1, 1]⟩
abbrev S1024x5023x3 : Shape := ⟨3, ![1024, 5023, 3]⟩
abbrev S1x5023x3 : Shape := ⟨3, ![1, 5023, 3]⟩
abbrev S68x1 : Shape := ⟨2, ![68, 1]⟩
abbrev S1x1 : Shape := ⟨2, ![1, 1]⟩
abbrev S68x3x1 : Shape := ⟨3, ![68, 3, 1]⟩
abbrev S1024x68x3x3 : Shape := ⟨4, ![1024, 68, 3, 3]⟩
abbrev S1x68x3x1 : Shape := ⟨4, ![1, 68, 3, 1]⟩
abbrev S1024x68x3 : Shape := ⟨3, ![1024, 68, 3]⟩
abbrev S1024x5023x1 : Shape := ⟨3, ![1024, 5023, 1]⟩
abbrev S1024x5023 : Shape := ⟨2, ![1024, 5023]⟩
abbrev S1024 : Shape := ⟨1, ![1024]⟩
abbrev S1024x1 : Shape := ⟨2, ![1024, 1]⟩

abbrev nBuf : Space → Nat
  | .hbm => 353
  | .vmem => 2
  | .smem => 0
  | _ => 0

abbrev hbmTy0_0 (i : Nat) : BufTy := match i % 128 with
  | 0 => ⟨S1024x100, .f32⟩
  | 1 => ⟨S1024x50, .f32⟩
  | 2 => ⟨S5023x3, .f32⟩
  | 3 => ⟨S9976x3, .i32⟩
  | 4 => ⟨S68, .i32⟩
  | 5 => ⟨S68x3, .f32⟩
  | 6 => ⟨S_, .i32⟩
  | 7 => ⟨S_, .i32⟩
  | 8 => ⟨S_, .i32⟩
  | 9 => ⟨S_, .i32⟩
  | 10 => ⟨S1, .i32⟩
  | 11 => ⟨S_, .i32⟩
  | 12 => ⟨S_, .i32⟩
  | 13 => ⟨S_, .i32⟩
  | 14 => ⟨S1, .i32⟩
  | 15 => ⟨S2, .i32⟩
  | 16 => ⟨S_, .f32⟩
  | 17 => ⟨S_, .f32⟩
  | 18 => ⟨S_, .f32⟩
  | 19 => ⟨S1x1x1, .f32⟩
  | 20 => ⟨S1x1x1, .f32⟩
  | 21 => ⟨S1, .i32⟩
  | 22 => ⟨S_, .i32⟩
  | 23 => ⟨S1, .i32⟩
  | 24 => ⟨S_, .i32⟩
  | 25 => ⟨S1024x5023x3, .i64⟩
  | 26 => ⟨S1024x5023x3, .i64⟩
  | 27 => ⟨S1024x5023x3, .i64⟩
  | 28 => ⟨S_, .i64⟩
  | 29 => ⟨S1024x5023x3, .i64⟩
  | 30 => ⟨S1024x5023x3, .i64⟩
  | 31 => ⟨S_, .i64⟩
  | 32 => ⟨S1024x5023x3, .i64⟩
  | 33 => ⟨S1024x5023x3, .i64⟩
  | 34 => ⟨S_, .i64⟩
  | 35 => ⟨S1024x5023x3, .i64⟩
  | 36 => ⟨S1024x5023x3, .i64⟩
  | 37 => ⟨S1024x5023x3, .i64⟩
  | 38 => ⟨S1024x5023x3, .i64⟩
  | 39 => ⟨S_, .i64⟩
  | 40 => ⟨S1024x5023x3, .i64⟩
  | 41 => ⟨S1024x5023x3, .i64⟩
  | 42 => ⟨S1024x5023x3, .i32⟩
  | 43 => ⟨S1024x5023x3, .i32⟩
  | 44 => ⟨S_, .i32⟩
  | 45 => ⟨S_, .i32⟩
  | 46 => ⟨S_, .i32⟩
  | 47 => ⟨S1024x5023x3, .i32⟩
  | 48 => ⟨S1024x5023x3, .i32⟩
  | 49 => ⟨S1024x5023x3, .i32⟩
  | 50 => ⟨S1024x5023x3, .i32⟩
  | 51 => ⟨S1024x5023x3, .i32⟩
  | 52 => ⟨S_, .i32⟩
  | 53 => ⟨S1024x5023x3, .i32⟩
  | 54 => ⟨S1024x5023x3, .i32⟩
  | 55 => ⟨S_, .i32⟩
  | 56 => ⟨S1024x5023x3, .i32⟩
  | 57 => ⟨S1024x5023x3, .i32⟩
  | 58 => ⟨S1024x5023x3, .i32⟩
  | 59 => ⟨S1024x5023x3, .i32⟩
  | 60 => ⟨S1024x5023x3, .i32⟩
  | 61 => ⟨S_, .i32⟩
  | 62 => ⟨S1024x5023x3, .i32⟩
  | 63 => ⟨S1024x5023x3, .i32⟩
  | 64 => ⟨S_, .i32⟩
  | 65 => ⟨S1024x5023x3, .i32⟩
  | 66 => ⟨S1024x5023x3, .i32⟩
  | 67 => ⟨S1024x5023x3, .i32⟩
  | 68 => ⟨S1024x5023x3, .i32⟩
  | 69 => ⟨S1024x5023x3, .i32⟩
  | 70 => ⟨S_, .i32⟩
  | 71 => ⟨S1024x5023x3, .i32⟩
  | 72 => ⟨S1024x5023x3, .i32⟩
  | 73 => ⟨S_, .i32⟩
  | 74 => ⟨S1024x5023x3, .i32⟩
  | 75 => ⟨S1024x5023x3, .i32⟩
  | 76 => ⟨S1024x5023x3, .i32⟩
  | 77 => ⟨S1024x5023x3, .i32⟩
  | 78 => ⟨S1024x5023x3, .i32⟩
  | 79 => ⟨S_, .i32⟩
  | 80 => ⟨S1024x5023x3, .i32⟩
  | 81 => ⟨S1024x5023x3, .i32⟩
  | 82 => ⟨S_, .i32⟩
  | 83 => ⟨S1024x5023x3, .i32⟩
  | 84 => ⟨S1024x5023x3, .i32⟩
  | 85 => ⟨S1024x5023x3, .i32⟩
  | 86 => ⟨S1024x5023x3, .i32⟩
  | 87 => ⟨S1024x5023x3, .i32⟩
  | 88 => ⟨S1024x5023x3, .i32⟩
  | 89 => ⟨S1024x5023x3, .i32⟩
  | 90 => ⟨S1024x5023x3, .i32⟩
  | 91 => ⟨S_, .i32⟩
  | 92 => ⟨S1024x5023x3, .i32⟩
  | 93 => ⟨S1024x5023x3, .i32⟩
  | 94 => ⟨S1024x5023x3, .i32⟩
  | 95 => ⟨S_, .i32⟩
  | 96 => ⟨S1024x5023x3, .i32⟩
  | 97 => ⟨S1024x5023x3, .i32⟩
  | 98 => ⟨S_, .i32⟩
  | 99 => ⟨S1024x5023x3, .i32⟩
  | 100 => ⟨S1024x5023x3, .i32⟩
  | 101 => ⟨S1024x5023x3, .i32⟩
  | 102 => ⟨S1024x5023x3, .i32⟩
  | 103 => ⟨S1024x5023x3, .i32⟩
  | 104 => ⟨S_, .i32⟩
  | 105 => ⟨S1024x5023x3, .i32⟩
  | 106 => ⟨S1024x5023x3, .i32⟩
  | 107 => ⟨S_, .i32⟩
  | 108 => ⟨S1024x5023x3, .i32⟩
  | 109 => ⟨S1024x5023x3, .i32⟩
  | 110 => ⟨S1024x5023x3, .i32⟩
  | 111 => ⟨S1024x5023x3, .i32⟩
  | 112 => ⟨S1024x5023x3, .i32⟩
  | 113 => ⟨S_, .i32⟩
  | 114 => ⟨S1024x5023x3, .i32⟩
  | 115 => ⟨S1024x5023x3, .i32⟩
  | 116 => ⟨S_, .i32⟩
  | 117 => ⟨S1024x5023x3, .i32⟩
  | 118 => ⟨S1024x5023x3, .i32⟩
  | 119 => ⟨S1024x5023x3, .i32⟩
  | 120 => ⟨S1024x5023x3, .i32⟩
  | 121 => ⟨S1024x5023x3, .i32⟩
  | 122 => ⟨S_, .i32⟩
  | 123 => ⟨S1024x5023x3, .i32⟩
  | 124 => ⟨S1024x5023x3, .i32⟩
  | 125 => ⟨S_, .i32⟩
  | 126 => ⟨S1024x5023x3, .i32⟩
  | 127 => ⟨S1024x5023x3, .i32⟩
  | _ => ⟨S1024x100, .f32⟩

abbrev hbmTy0_1 (i : Nat) : BufTy := match i % 128 with
  | 0 => ⟨S1024x5023x3, .i32⟩
  | 1 => ⟨S1024x5023x3, .i32⟩
  | 2 => ⟨S1024x5023x3, .i32⟩
  | 3 => ⟨S1024x5023x3, .i32⟩
  | 4 => ⟨S1024x5023x3, .i32⟩
  | 5 => ⟨S1024x5023x3, .i32⟩
  | 6 => ⟨S_, .i32⟩
  | 7 => ⟨S1024x5023x3, .i32⟩
  | 8 => ⟨S1024x5023x3, .i32⟩
  | 9 => ⟨S1024x5023x3, .i32⟩
  | 10 => ⟨S_, .i32⟩
  | 11 => ⟨S1024x5023x3, .i32⟩
  | 12 => ⟨S1024x5023x3, .i32⟩
  | 13 => ⟨S_, .i32⟩
  | 14 => ⟨S1024x5023x3, .i32⟩
  | 15 => ⟨S1024x5023x3, .i32⟩
  | 16 => ⟨S1024x5023x3, .i32⟩
  | 17 => ⟨S1024x5023x3, .i32⟩
  | 18 => ⟨S1024x5023x3, .i32⟩
  | 19 => ⟨S_, .i32⟩
  | 20 => ⟨S1024x5023x3, .i32⟩
  | 21 => ⟨S1024x5023x3, .i32⟩
  | 22 => ⟨S_, .i32⟩
  | 23 => ⟨S1024x5023x3, .i32⟩
  | 24 => ⟨S1024x5023x3, .i32⟩
  | 25 => ⟨S1024x5023x3, .i32⟩
  | 26 => ⟨S1024x5023x3, .i32⟩
  | 27 => ⟨S1024x5023x3, .i32⟩
  | 28 => ⟨S_, .i32⟩
  | 29 => ⟨S1024x5023x3, .i32⟩
  | 30 => ⟨S1024x5023x3, .i32⟩
  | 31 => ⟨S_, .i32⟩
  | 32 => ⟨S1024x5023x3, .i32⟩
  | 33 => ⟨S1024x5023x3, .i32⟩
  | 34 => ⟨S1024x5023x3, .i32⟩
  | 35 => ⟨S1024x5023x3, .i32⟩
  | 36 => ⟨S1024x5023x3, .i32⟩
  | 37 => ⟨S_, .i32⟩
  | 38 => ⟨S1024x5023x3, .i32⟩
  | 39 => ⟨S1024x5023x3, .i32⟩
  | 40 => ⟨S_, .i32⟩
  | 41 => ⟨S1024x5023x3, .i32⟩
  | 42 => ⟨S1024x5023x3, .i32⟩
  | 43 => ⟨S1024x5023x3, .i32⟩
  | 44 => ⟨S1024x5023x3, .i32⟩
  | 45 => ⟨S1024x5023x3, .i32⟩
  | 46 => ⟨S1024x5023x3, .i32⟩
  | 47 => ⟨S1024x5023x3, .i32⟩
  | 48 => ⟨S1024x5023x3, .i32⟩
  | 49 => ⟨S_, .i32⟩
  | 50 => ⟨S1024x5023x3, .i32⟩
  | 51 => ⟨S1024x5023x3, .i32⟩
  | 52 => ⟨S1024x5023x3, .i32⟩
  | 53 => ⟨S_, .i32⟩
  | 54 => ⟨S1024x5023x3, .i32⟩
  | 55 => ⟨S1024x5023x3, .i32⟩
  | 56 => ⟨S_, .i32⟩
  | 57 => ⟨S1024x5023x3, .i32⟩
  | 58 => ⟨S1024x5023x3, .i32⟩
  | 59 => ⟨S1024x5023x3, .i32⟩
  | 60 => ⟨S1024x5023x3, .i32⟩
  | 61 => ⟨S1024x5023x3, .i32⟩
  | 62 => ⟨S_, .i32⟩
  | 63 => ⟨S1024x5023x3, .i32⟩
  | 64 => ⟨S1024x5023x3, .i32⟩
  | 65 => ⟨S_, .i32⟩
  | 66 => ⟨S1024x5023x3, .i32⟩
  | 67 => ⟨S1024x5023x3, .i32⟩
  | 68 => ⟨S1024x5023x3, .i32⟩
  | 69 => ⟨S1024x5023x3, .i32⟩
  | 70 => ⟨S1024x5023x3, .i32⟩
  | 71 => ⟨S_, .i32⟩
  | 72 => ⟨S1024x5023x3, .i32⟩
  | 73 => ⟨S1024x5023x3, .i32⟩
  | 74 => ⟨S_, .i32⟩
  | 75 => ⟨S1024x5023x3, .i32⟩
  | 76 => ⟨S1024x5023x3, .i32⟩
  | 77 => ⟨S1024x5023x3, .i32⟩
  | 78 => ⟨S1024x5023x3, .i32⟩
  | 79 => ⟨S1024x5023x3, .i32⟩
  | 80 => ⟨S_, .i32⟩
  | 81 => ⟨S1024x5023x3, .i32⟩
  | 82 => ⟨S1024x5023x3, .i32⟩
  | 83 => ⟨S_, .i32⟩
  | 84 => ⟨S1024x5023x3, .i32⟩
  | 85 => ⟨S1024x5023x3, .i32⟩
  | 86 => ⟨S1024x5023x3, .i32⟩
  | 87 => ⟨S1024x5023x3, .i32⟩
  | 88 => ⟨S1024x5023x3, .i32⟩
  | 89 => ⟨S1024x5023x3, .i32⟩
  | 90 => ⟨S1024x5023x3, .i32⟩
  | 91 => ⟨S1024x5023x3, .i32⟩
  | 92 => ⟨S_, .i32⟩
  | 93 => ⟨S1024x5023x3, .i32⟩
  | 94 => ⟨S1024x5023x3, .i32⟩
  | 95 => ⟨S1024x5023x3, .i32⟩
  | 96 => ⟨S_, .i32⟩
  | 97 => ⟨S1024x5023x3, .i32⟩
  | 98 => ⟨S1024x5023x3, .i32⟩
  | 99 => ⟨S_, .i32⟩
  | 100 => ⟨S1024x5023x3, .i32⟩
  | 101 => ⟨S1024x5023x3, .i32⟩
  | 102 => ⟨S1024x5023x3, .i32⟩
  | 103 => ⟨S1024x5023x3, .i32⟩
  | 104 => ⟨S1024x5023x3, .i32⟩
  | 105 => ⟨S_, .i32⟩
  | 106 => ⟨S1024x5023x3, .i32⟩
  | 107 => ⟨S1024x5023x3, .i32⟩
  | 108 => ⟨S_, .i32⟩
  | 109 => ⟨S1024x5023x3, .i32⟩
  | 110 => ⟨S1024x5023x3, .i32⟩
  | 111 => ⟨S1024x5023x3, .i32⟩
  | 112 => ⟨S1024x5023x3, .i32⟩
  | 113 => ⟨S1024x5023x3, .i32⟩
  | 114 => ⟨S_, .i32⟩
  | 115 => ⟨S1024x5023x3, .i32⟩
  | 116 => ⟨S1024x5023x3, .i32⟩
  | 117 => ⟨S_, .i32⟩
  | 118 => ⟨S1024x5023x3, .i32⟩
  | 119 => ⟨S1024x5023x3, .i32⟩
  | 120 => ⟨S1024x5023x3, .i32⟩
  | 121 => ⟨S1024x5023x3, .i32⟩
  | 122 => ⟨S1024x5023x3, .i32⟩
  | 123 => ⟨S_, .i32⟩
  | 124 => ⟨S1024x5023x3, .i32⟩
  | 125 => ⟨S1024x5023x3, .i32⟩
  | 126 => ⟨S_, .i32⟩
  | 127 => ⟨S1024x5023x3, .i32⟩
  | _ => ⟨S1024x100, .f32⟩

abbrev hbmTy0_2 (i : Nat) : BufTy := match i % 128 with
  | 0 => ⟨S1024x5023x3, .i32⟩
  | 1 => ⟨S1024x5023x3, .i32⟩
  | 2 => ⟨S1024x5023x3, .i32⟩
  | 3 => ⟨S1024x5023x3, .i32⟩
  | 4 => ⟨S1024x5023x3, .i32⟩
  | 5 => ⟨S1024x5023x3, .i32⟩
  | 6 => ⟨S1024x5023x3, .i32⟩
  | 7 => ⟨S_, .i32⟩
  | 8 => ⟨S1024x5023x3, .i32⟩
  | 9 => ⟨S1024x5023x3, .i32⟩
  | 10 => ⟨S1024x5023x3, .i32⟩
  | 11 => ⟨S_, .i32⟩
  | 12 => ⟨S1024x5023x3, .i32⟩
  | 13 => ⟨S1024x5023x3, .i32⟩
  | 14 => ⟨S_, .i32⟩
  | 15 => ⟨S1024x5023x3, .i32⟩
  | 16 => ⟨S1024x5023x3, .i32⟩
  | 17 => ⟨S1024x5023x3, .f32⟩
  | 18 => ⟨S_, .f32⟩
  | 19 => ⟨S1024x5023x3, .f32⟩
  | 20 => ⟨S1024x5023x3, .f32⟩
  | 21 => ⟨S1x1x1, .f32⟩
  | 22 => ⟨S1024x5023x3, .f32⟩
  | 23 => ⟨S1024x5023x3, .f32⟩
  | 24 => ⟨S1024x5023x3, .f32⟩
  | 25 => ⟨S1024x5023x3, .f32⟩
  | 26 => ⟨S1024x5023x3, .f32⟩
  | 27 => ⟨S1024x5023x3, .f32⟩
  | 28 => ⟨S1024x5023x3, .f32⟩
  | 29 => ⟨S_, .f32⟩
  | 30 => ⟨S1024x5023x3, .f32⟩
  | 31 => ⟨S1024x5023x3, .f32⟩
  | 32 => ⟨S_, .f32⟩
  | 33 => ⟨S1024x5023x3, .f32⟩
  | 34 => ⟨S1024x5023x3, .f32⟩
  | 35 => ⟨S1x5023x3, .f32⟩
  | 36 => ⟨S1024x5023x3, .f32⟩
  | 37 => ⟨S1024x5023x3, .f32⟩
  | 38 => ⟨S_, .i32⟩
  | 39 => ⟨S68, .i32⟩
  | 40 => ⟨S68, .i1⟩
  | 41 => ⟨S_, .i32⟩
  | 42 => ⟨S68, .i32⟩
  | 43 => ⟨S68, .i32⟩
  | 44 => ⟨S68, .i32⟩
  | 45 => ⟨S68x1, .i32⟩
  | 46 => ⟨S1, .i32⟩
  | 47 => ⟨S_, .i32⟩
  | 48 => ⟨S68x1, .i32⟩
  | 49 => ⟨S68x1, .i1⟩
  | 50 => ⟨S1x1, .i32⟩
  | 51 => ⟨S68x1, .i32⟩
  | 52 => ⟨S68x1, .i1⟩
  | 53 => ⟨S68x1, .i1⟩
  | 54 => ⟨S_, .i1⟩
  | 55 => ⟨S68, .i1⟩
  | 56 => ⟨S68x3, .i32⟩
  | 57 => ⟨S68x3, .i1⟩
  | 58 => ⟨S_, .i32⟩
  | 59 => ⟨S68x3, .i32⟩
  | 60 => ⟨S68x3, .i32⟩
  | 61 => ⟨S_, .i32⟩
  | 62 => ⟨S68x3, .i32⟩
  | 63 => ⟨S68x3, .i1⟩
  | 64 => ⟨S_, .i32⟩
  | 65 => ⟨S68x3, .i32⟩
  | 66 => ⟨S68x3, .i32⟩
  | 67 => ⟨S68x3, .i32⟩
  | 68 => ⟨S68x3x1, .i32⟩
  | 69 => ⟨S1024x68x3x3, .f32⟩
  | 70 => ⟨S1x68x3x1, .f32⟩
  | 71 => ⟨S1024x68x3x3, .f32⟩
  | 72 => ⟨S1024x68x3x3, .f32⟩
  | 73 => ⟨S_, .f32⟩
  | 74 => ⟨S1024x68x3, .f32⟩
  | 75 => ⟨S1024x5023x1, .f32⟩
  | 76 => ⟨S1024x5023, .f32⟩
  | 77 => ⟨S_, .f32⟩
  | 78 => ⟨S1024, .f32⟩
  | 79 => ⟨S1024x1, .f32⟩
  | 80 => ⟨S_, .f32⟩
  | 81 => ⟨S1024, .f32⟩
  | 82 => ⟨S1024x1, .f32⟩
  | 83 => ⟨S1024x5023, .f32⟩
  | 84 => ⟨S1024x5023, .f32⟩
  | 85 => ⟨S1024x1, .f32⟩
  | 86 => ⟨S_, .f32⟩
  | 87 => ⟨S1024x1, .f32⟩
  | 88 => ⟨S1024x1, .f32⟩
  | 89 => ⟨S1024x5023, .f32⟩
  | 90 => ⟨S1024x5023, .f32⟩
  | 91 => ⟨S_, .f32⟩
  | 92 => ⟨S1024x5023, .f32⟩
  | 93 => ⟨S1024x5023, .i1⟩
  | 94 => ⟨S1024x5023, .f32⟩
  | 95 => ⟨S1024x5023x1, .f32⟩
  | 96 => ⟨S1024x5023x3, .f32⟩
  | _ => ⟨S1024x100, .f32⟩

abbrev hbmTy (i : Nat) : BufTy := match i / 128 with
  | 0 => hbmTy0_0 i
  | 1 => hbmTy0_1 i
  | 2 => hbmTy0_2 i
  | _ => ⟨S1024x100, .f32⟩

abbrev bufTy : (tb : Table) → Fin (tcTables nBuf tb) → BufTy
  | .hbm, ⟨i, _⟩ => hbmTy i
  | .local _ .vmem, ⟨0, _⟩ => ⟨S1024x5023x3, .f32⟩
  | .local _ .vmem, ⟨1, _⟩ => ⟨S1024x5023x3, .f32⟩
  | _, _ => ⟨S1024x100, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_c : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_call0_c_1 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_c_2 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_call0_v0 : Ref sig .tc := ⟨.hbm, 44, rfl⟩
abbrev main_call0_call0_c : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_c_0 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_c_1 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_call0_v12 : Ref sig .tc := ⟨.hbm, 59, rfl⟩
abbrev main_call0_call0_v13 : Ref sig .tc := ⟨.hbm, 60, rfl⟩
abbrev main_call0_call0_c_2 : Ref sig .tc := ⟨.hbm, 61, rfl⟩
abbrev main_call0_call0_v14 : Ref sig .tc := ⟨.hbm, 62, rfl⟩
abbrev main_call0_call0_v15 : Ref sig .tc := ⟨.hbm, 63, rfl⟩
abbrev main_call0_call0_c_3 : Ref sig .tc := ⟨.hbm, 64, rfl⟩
abbrev main_call0_call0_v16 : Ref sig .tc := ⟨.hbm, 65, rfl⟩
abbrev main_call0_call0_v17 : Ref sig .tc := ⟨.hbm, 66, rfl⟩
abbrev main_call0_call0_v18 : Ref sig .tc := ⟨.hbm, 67, rfl⟩
abbrev main_call0_call0_v19 : Ref sig .tc := ⟨.hbm, 68, rfl⟩
abbrev main_call0_call0_v20 : Ref sig .tc := ⟨.hbm, 69, rfl⟩
abbrev main_call0_call0_c_4 : Ref sig .tc := ⟨.hbm, 70, rfl⟩
abbrev main_call0_call0_v21 : Ref sig .tc := ⟨.hbm, 71, rfl⟩
abbrev main_call0_call0_v22 : Ref sig .tc := ⟨.hbm, 72, rfl⟩
abbrev main_call0_call0_c_5 : Ref sig .tc := ⟨.hbm, 73, rfl⟩
abbrev main_call0_call0_v23 : Ref sig .tc := ⟨.hbm, 74, rfl⟩
abbrev main_call0_call0_v24 : Ref sig .tc := ⟨.hbm, 75, rfl⟩
abbrev main_call0_call0_v25 : Ref sig .tc := ⟨.hbm, 76, rfl⟩
abbrev main_call0_call0_v26 : Ref sig .tc := ⟨.hbm, 77, rfl⟩
abbrev main_call0_call0_v27 : Ref sig .tc := ⟨.hbm, 78, rfl⟩
abbrev main_call0_call0_c_6 : Ref sig .tc := ⟨.hbm, 79, rfl⟩
abbrev main_call0_call0_v28 : Ref sig .tc := ⟨.hbm, 80, rfl⟩
abbrev main_call0_call0_v29 : Ref sig .tc := ⟨.hbm, 81, rfl⟩
abbrev main_call0_call0_c_7 : Ref sig .tc := ⟨.hbm, 82, rfl⟩
abbrev main_call0_call0_v30 : Ref sig .tc := ⟨.hbm, 83, rfl⟩
abbrev main_call0_call0_v31 : Ref sig .tc := ⟨.hbm, 84, rfl⟩
abbrev main_call0_call0_v32 : Ref sig .tc := ⟨.hbm, 85, rfl⟩
abbrev main_call0_call0_v33 : Ref sig .tc := ⟨.hbm, 86, rfl⟩
abbrev main_call0_call0_v34 : Ref sig .tc := ⟨.hbm, 87, rfl⟩
abbrev main_call0_call0_v35 : Ref sig .tc := ⟨.hbm, 88, rfl⟩
abbrev main_call0_call0_v36 : Ref sig .tc := ⟨.hbm, 89, rfl⟩
abbrev main_call0_call0_v37 : Ref sig .tc := ⟨.hbm, 90, rfl⟩
abbrev main_call0_call0_c_8 : Ref sig .tc := ⟨.hbm, 91, rfl⟩
abbrev main_call0_call0_v38 : Ref sig .tc := ⟨.hbm, 92, rfl⟩
abbrev main_call0_call0_v39 : Ref sig .tc := ⟨.hbm, 93, rfl⟩
abbrev main_call0_call0_v40 : Ref sig .tc := ⟨.hbm, 94, rfl⟩
abbrev main_call0_call0_c_9 : Ref sig .tc := ⟨.hbm, 95, rfl⟩
abbrev main_call0_call0_v41 : Ref sig .tc := ⟨.hbm, 96, rfl⟩
abbrev main_call0_call0_v42 : Ref sig .tc := ⟨.hbm, 97, rfl⟩
abbrev main_call0_call0_c_10 : Ref sig .tc := ⟨.hbm, 98, rfl⟩
abbrev main_call0_call0_v43 : Ref sig .tc := ⟨.hbm, 99, rfl⟩
abbrev main_call0_call0_v44 : Ref sig .tc := ⟨.hbm, 100, rfl⟩
abbrev main_call0_call0_v45 : Ref sig .tc := ⟨.hbm, 101, rfl⟩
abbrev main_call0_call0_v46 : Ref sig .tc := ⟨.hbm, 102, rfl⟩
abbrev main_call0_call0_v47 : Ref sig .tc := ⟨.hbm, 103, rfl⟩
abbrev main_call0_call0_c_11 : Ref sig .tc := ⟨.hbm, 104, rfl⟩
abbrev main_call0_call0_v48 : Ref sig .tc := ⟨.hbm, 105, rfl⟩
abbrev main_call0_call0_v49 : Ref sig .tc := ⟨.hbm, 106, rfl⟩
abbrev main_call0_call0_c_12 : Ref sig .tc := ⟨.hbm, 107, rfl⟩
abbrev main_call0_call0_v50 : Ref sig .tc := ⟨.hbm, 108, rfl⟩
abbrev main_call0_call0_v51 : Ref sig .tc := ⟨.hbm, 109, rfl⟩
abbrev main_call0_call0_v52 : Ref sig .tc := ⟨.hbm, 110, rfl⟩
abbrev main_call0_call0_v53 : Ref sig .tc := ⟨.hbm, 111, rfl⟩
abbrev main_call0_call0_v54 : Ref sig .tc := ⟨.hbm, 112, rfl⟩
abbrev main_call0_call0_c_13 : Ref sig .tc := ⟨.hbm, 113, rfl⟩
abbrev main_call0_call0_v55 : Ref sig .tc := ⟨.hbm, 114, rfl⟩
abbrev main_call0_call0_v56 : Ref sig .tc := ⟨.hbm, 115, rfl⟩
abbrev main_call0_call0_c_14 : Ref sig .tc := ⟨.hbm, 116, rfl⟩
abbrev main_call0_call0_v57 : Ref sig .tc := ⟨.hbm, 117, rfl⟩
abbrev main_call0_call0_v58 : Ref sig .tc := ⟨.hbm, 118, rfl⟩
abbrev main_call0_call0_v59 : Ref sig .tc := ⟨.hbm, 119, rfl⟩
abbrev main_call0_call0_v60 : Ref sig .tc := ⟨.hbm, 120, rfl⟩
abbrev main_call0_call0_v61 : Ref sig .tc := ⟨.hbm, 121, rfl⟩
abbrev main_call0_call0_c_15 : Ref sig .tc := ⟨.hbm, 122, rfl⟩
abbrev main_call0_call0_v62 : Ref sig .tc := ⟨.hbm, 123, rfl⟩
abbrev main_call0_call0_v63 : Ref sig .tc := ⟨.hbm, 124, rfl⟩
abbrev main_call0_call0_c_16 : Ref sig .tc := ⟨.hbm, 125, rfl⟩
abbrev main_call0_call0_v64 : Ref sig .tc := ⟨.hbm, 126, rfl⟩
abbrev main_call0_call0_v65 : Ref sig .tc := ⟨.hbm, 127, rfl⟩
abbrev main_call0_call0_v66 : Ref sig .tc := ⟨.hbm, 128, rfl⟩
abbrev main_call0_call0_v67 : Ref sig .tc := ⟨.hbm, 129, rfl⟩
abbrev main_call0_call0_v68 : Ref sig .tc := ⟨.hbm, 130, rfl⟩
abbrev main_call0_call0_v69 : Ref sig .tc := ⟨.hbm, 131, rfl⟩
abbrev main_call0_call0_v70 : Ref sig .tc := ⟨.hbm, 132, rfl⟩
abbrev main_call0_call0_v71 : Ref sig .tc := ⟨.hbm, 133, rfl⟩
abbrev main_call0_call0_c_17 : Ref sig .tc := ⟨.hbm, 134, rfl⟩
abbrev main_call0_call0_v72 : Ref sig .tc := ⟨.hbm, 135, rfl⟩
abbrev main_call0_call0_v73 : Ref sig .tc := ⟨.hbm, 136, rfl⟩
abbrev main_call0_call0_v74 : Ref sig .tc := ⟨.hbm, 137, rfl⟩
abbrev main_call0_call0_c_18 : Ref sig .tc := ⟨.hbm, 138, rfl⟩
abbrev main_call0_call0_v75 : Ref sig .tc := ⟨.hbm, 139, rfl⟩
abbrev main_call0_call0_v76 : Ref sig .tc := ⟨.hbm, 140, rfl⟩
abbrev main_call0_call0_c_19 : Ref sig .tc := ⟨.hbm, 141, rfl⟩
abbrev main_call0_call0_v77 : Ref sig .tc := ⟨.hbm, 142, rfl⟩
abbrev main_call0_call0_v78 : Ref sig .tc := ⟨.hbm, 143, rfl⟩
abbrev main_call0_call0_v79 : Ref sig .tc := ⟨.hbm, 144, rfl⟩
abbrev main_call0_call0_v80 : Ref sig .tc := ⟨.hbm, 145, rfl⟩
abbrev main_call0_call0_v81 : Ref sig .tc := ⟨.hbm, 146, rfl⟩
abbrev main_call0_call0_c_20 : Ref sig .tc := ⟨.hbm, 147, rfl⟩
abbrev main_call0_call0_v82 : Ref sig .tc := ⟨.hbm, 148, rfl⟩
abbrev main_call0_call0_v83 : Ref sig .tc := ⟨.hbm, 149, rfl⟩
abbrev main_call0_call0_c_21 : Ref sig .tc := ⟨.hbm, 150, rfl⟩
abbrev main_call0_call0_v84 : Ref sig .tc := ⟨.hbm, 151, rfl⟩
abbrev main_call0_call0_v85 : Ref sig .tc := ⟨.hbm, 152, rfl⟩
abbrev main_call0_call0_v86 : Ref sig .tc := ⟨.hbm, 153, rfl⟩
abbrev main_call0_call0_v87 : Ref sig .tc := ⟨.hbm, 154, rfl⟩
abbrev main_call0_call0_v88 : Ref sig .tc := ⟨.hbm, 155, rfl⟩
abbrev main_call0_call0_c_22 : Ref sig .tc := ⟨.hbm, 156, rfl⟩
abbrev main_call0_call0_v89 : Ref sig .tc := ⟨.hbm, 157, rfl⟩
abbrev main_call0_call0_v90 : Ref sig .tc := ⟨.hbm, 158, rfl⟩
abbrev main_call0_call0_c_23 : Ref sig .tc := ⟨.hbm, 159, rfl⟩
abbrev main_call0_call0_v91 : Ref sig .tc := ⟨.hbm, 160, rfl⟩
abbrev main_call0_call0_v92 : Ref sig .tc := ⟨.hbm, 161, rfl⟩
abbrev main_call0_call0_v93 : Ref sig .tc := ⟨.hbm, 162, rfl⟩
abbrev main_call0_call0_v94 : Ref sig .tc := ⟨.hbm, 163, rfl⟩
abbrev main_call0_call0_v95 : Ref sig .tc := ⟨.hbm, 164, rfl⟩
abbrev main_call0_call0_c_24 : Ref sig .tc := ⟨.hbm, 165, rfl⟩
abbrev main_call0_call0_v96 : Ref sig .tc := ⟨.hbm, 166, rfl⟩
abbrev main_call0_call0_v97 : Ref sig .tc := ⟨.hbm, 167, rfl⟩
abbrev main_call0_call0_c_25 : Ref sig .tc := ⟨.hbm, 168, rfl⟩
abbrev main_call0_call0_v98 : Ref sig .tc := ⟨.hbm, 169, rfl⟩
abbrev main_call0_call0_v99 : Ref sig .tc := ⟨.hbm, 170, rfl⟩
abbrev main_call0_call0_v100 : Ref sig .tc := ⟨.hbm, 171, rfl⟩
abbrev main_call0_call0_v101 : Ref sig .tc := ⟨.hbm, 172, rfl⟩
abbrev main_call0_call0_v102 : Ref sig .tc := ⟨.hbm, 173, rfl⟩
abbrev main_call0_call0_v103 : Ref sig .tc := ⟨.hbm, 174, rfl⟩
abbrev main_call0_call0_v104 : Ref sig .tc := ⟨.hbm, 175, rfl⟩
abbrev main_call0_call0_v105 : Ref sig .tc := ⟨.hbm, 176, rfl⟩
abbrev main_call0_call0_c_26 : Ref sig .tc := ⟨.hbm, 177, rfl⟩
abbrev main_call0_call0_v106 : Ref sig .tc := ⟨.hbm, 178, rfl⟩
abbrev main_call0_call0_v107 : Ref sig .tc := ⟨.hbm, 179, rfl⟩
abbrev main_call0_call0_v108 : Ref sig .tc := ⟨.hbm, 180, rfl⟩
abbrev main_call0_call0_c_27 : Ref sig .tc := ⟨.hbm, 181, rfl⟩
abbrev main_call0_call0_v109 : Ref sig .tc := ⟨.hbm, 182, rfl⟩
abbrev main_call0_call0_v110 : Ref sig .tc := ⟨.hbm, 183, rfl⟩
abbrev main_call0_call0_c_28 : Ref sig .tc := ⟨.hbm, 184, rfl⟩
abbrev main_call0_call0_v111 : Ref sig .tc := ⟨.hbm, 185, rfl⟩
abbrev main_call0_call0_v112 : Ref sig .tc := ⟨.hbm, 186, rfl⟩
abbrev main_call0_call0_v113 : Ref sig .tc := ⟨.hbm, 187, rfl⟩
abbrev main_call0_call0_v114 : Ref sig .tc := ⟨.hbm, 188, rfl⟩
abbrev main_call0_call0_v115 : Ref sig .tc := ⟨.hbm, 189, rfl⟩
abbrev main_call0_call0_c_29 : Ref sig .tc := ⟨.hbm, 190, rfl⟩
abbrev main_call0_call0_v116 : Ref sig .tc := ⟨.hbm, 191, rfl⟩
abbrev main_call0_call0_v117 : Ref sig .tc := ⟨.hbm, 192, rfl⟩
abbrev main_call0_call0_c_30 : Ref sig .tc := ⟨.hbm, 193, rfl⟩
abbrev main_call0_call0_v118 : Ref sig .tc := ⟨.hbm, 194, rfl⟩
abbrev main_call0_call0_v119 : Ref sig .tc := ⟨.hbm, 195, rfl⟩
abbrev main_call0_call0_v120 : Ref sig .tc := ⟨.hbm, 196, rfl⟩
abbrev main_call0_call0_v121 : Ref sig .tc := ⟨.hbm, 197, rfl⟩
abbrev main_call0_call0_v122 : Ref sig .tc := ⟨.hbm, 198, rfl⟩
abbrev main_call0_call0_c_31 : Ref sig .tc := ⟨.hbm, 199, rfl⟩
abbrev main_call0_call0_v123 : Ref sig .tc := ⟨.hbm, 200, rfl⟩
abbrev main_call0_call0_v124 : Ref sig .tc := ⟨.hbm, 201, rfl⟩
abbrev main_call0_call0_c_32 : Ref sig .tc := ⟨.hbm, 202, rfl⟩
abbrev main_call0_call0_v125 : Ref sig .tc := ⟨.hbm, 203, rfl⟩
abbrev main_call0_call0_v126 : Ref sig .tc := ⟨.hbm, 204, rfl⟩
abbrev main_call0_call0_v127 : Ref sig .tc := ⟨.hbm, 205, rfl⟩
abbrev main_call0_call0_v128 : Ref sig .tc := ⟨.hbm, 206, rfl⟩
abbrev main_call0_call0_v129 : Ref sig .tc := ⟨.hbm, 207, rfl⟩
abbrev main_call0_call0_c_33 : Ref sig .tc := ⟨.hbm, 208, rfl⟩
abbrev main_call0_call0_v130 : Ref sig .tc := ⟨.hbm, 209, rfl⟩
abbrev main_call0_call0_v131 : Ref sig .tc := ⟨.hbm, 210, rfl⟩
abbrev main_call0_call0_c_34 : Ref sig .tc := ⟨.hbm, 211, rfl⟩
abbrev main_call0_call0_v132 : Ref sig .tc := ⟨.hbm, 212, rfl⟩
abbrev main_call0_call0_v133 : Ref sig .tc := ⟨.hbm, 213, rfl⟩
abbrev main_call0_call0_v134 : Ref sig .tc := ⟨.hbm, 214, rfl⟩
abbrev main_call0_call0_v135 : Ref sig .tc := ⟨.hbm, 215, rfl⟩
abbrev main_call0_call0_v136 : Ref sig .tc := ⟨.hbm, 216, rfl⟩
abbrev main_call0_call0_v137 : Ref sig .tc := ⟨.hbm, 217, rfl⟩
abbrev main_call0_call0_v138 : Ref sig .tc := ⟨.hbm, 218, rfl⟩
abbrev main_call0_call0_v139 : Ref sig .tc := ⟨.hbm, 219, rfl⟩
abbrev main_call0_call0_c_35 : Ref sig .tc := ⟨.hbm, 220, rfl⟩
abbrev main_call0_call0_v140 : Ref sig .tc := ⟨.hbm, 221, rfl⟩
abbrev main_call0_call0_v141 : Ref sig .tc := ⟨.hbm, 222, rfl⟩
abbrev main_call0_call0_v142 : Ref sig .tc := ⟨.hbm, 223, rfl⟩
abbrev main_call0_call0_c_36 : Ref sig .tc := ⟨.hbm, 224, rfl⟩
abbrev main_call0_call0_v143 : Ref sig .tc := ⟨.hbm, 225, rfl⟩
abbrev main_call0_call0_v144 : Ref sig .tc := ⟨.hbm, 226, rfl⟩
abbrev main_call0_call0_c_37 : Ref sig .tc := ⟨.hbm, 227, rfl⟩
abbrev main_call0_call0_v145 : Ref sig .tc := ⟨.hbm, 228, rfl⟩
abbrev main_call0_call0_v146 : Ref sig .tc := ⟨.hbm, 229, rfl⟩
abbrev main_call0_call0_v147 : Ref sig .tc := ⟨.hbm, 230, rfl⟩
abbrev main_call0_call0_v148 : Ref sig .tc := ⟨.hbm, 231, rfl⟩
abbrev main_call0_call0_v149 : Ref sig .tc := ⟨.hbm, 232, rfl⟩
abbrev main_call0_call0_c_38 : Ref sig .tc := ⟨.hbm, 233, rfl⟩
abbrev main_call0_call0_v150 : Ref sig .tc := ⟨.hbm, 234, rfl⟩
abbrev main_call0_call0_v151 : Ref sig .tc := ⟨.hbm, 235, rfl⟩
abbrev main_call0_call0_c_39 : Ref sig .tc := ⟨.hbm, 236, rfl⟩
abbrev main_call0_call0_v152 : Ref sig .tc := ⟨.hbm, 237, rfl⟩
abbrev main_call0_call0_v153 : Ref sig .tc := ⟨.hbm, 238, rfl⟩
abbrev main_call0_call0_v154 : Ref sig .tc := ⟨.hbm, 239, rfl⟩
abbrev main_call0_call0_v155 : Ref sig .tc := ⟨.hbm, 240, rfl⟩
abbrev main_call0_call0_v156 : Ref sig .tc := ⟨.hbm, 241, rfl⟩
abbrev main_call0_call0_c_40 : Ref sig .tc := ⟨.hbm, 242, rfl⟩
abbrev main_call0_call0_v157 : Ref sig .tc := ⟨.hbm, 243, rfl⟩
abbrev main_call0_call0_v158 : Ref sig .tc := ⟨.hbm, 244, rfl⟩
abbrev main_call0_call0_c_41 : Ref sig .tc := ⟨.hbm, 245, rfl⟩
abbrev main_call0_call0_v159 : Ref sig .tc := ⟨.hbm, 246, rfl⟩
abbrev main_call0_call0_v160 : Ref sig .tc := ⟨.hbm, 247, rfl⟩
abbrev main_call0_call0_v161 : Ref sig .tc := ⟨.hbm, 248, rfl⟩
abbrev main_call0_call0_v162 : Ref sig .tc := ⟨.hbm, 249, rfl⟩
abbrev main_call0_call0_v163 : Ref sig .tc := ⟨.hbm, 250, rfl⟩
abbrev main_call0_call0_c_42 : Ref sig .tc := ⟨.hbm, 251, rfl⟩
abbrev main_call0_call0_v164 : Ref sig .tc := ⟨.hbm, 252, rfl⟩
abbrev main_call0_call0_v165 : Ref sig .tc := ⟨.hbm, 253, rfl⟩
abbrev main_call0_call0_c_43 : Ref sig .tc := ⟨.hbm, 254, rfl⟩
abbrev main_call0_call0_v166 : Ref sig .tc := ⟨.hbm, 255, rfl⟩
abbrev main_call0_call0_v167 : Ref sig .tc := ⟨.hbm, 256, rfl⟩
abbrev main_call0_call0_v168 : Ref sig .tc := ⟨.hbm, 257, rfl⟩
abbrev main_call0_call0_v169 : Ref sig .tc := ⟨.hbm, 258, rfl⟩
abbrev main_call0_call0_v170 : Ref sig .tc := ⟨.hbm, 259, rfl⟩
abbrev main_call0_v22_0 : Ref sig .tc := ⟨.hbm, 260, rfl⟩
abbrev main_call0_call0_v172 : Ref sig .tc := ⟨.hbm, 261, rfl⟩
abbrev main_call0_call0_v173 : Ref sig .tc := ⟨.hbm, 262, rfl⟩
abbrev main_call0_call0_c_44 : Ref sig .tc := ⟨.hbm, 263, rfl⟩
abbrev main_call0_call0_v174 : Ref sig .tc := ⟨.hbm, 264, rfl⟩
abbrev main_call0_v22_1 : Ref sig .tc := ⟨.hbm, 265, rfl⟩
abbrev main_call0_v23 : Ref sig .tc := ⟨.hbm, 266, rfl⟩
abbrev main_call0_c_3 : Ref sig .tc := ⟨.hbm, 267, rfl⟩
abbrev main_call0_v24 : Ref sig .tc := ⟨.hbm, 268, rfl⟩
abbrev main_call0_v25 : Ref sig .tc := ⟨.hbm, 269, rfl⟩
abbrev main_call0_c_4 : Ref sig .tc := ⟨.hbm, 270, rfl⟩
abbrev main_call0_v26 : Ref sig .tc := ⟨.hbm, 271, rfl⟩
abbrev main_call0_v27 : Ref sig .tc := ⟨.hbm, 272, rfl⟩
abbrev main_call0_v28 : Ref sig .tc := ⟨.hbm, 273, rfl⟩
abbrev main_call0_cst : Ref sig .tc := ⟨.hbm, 274, rfl⟩
abbrev main_call0_v29 : Ref sig .tc := ⟨.hbm, 275, rfl⟩
abbrev main_call0_v30 : Ref sig .tc := ⟨.hbm, 276, rfl⟩
abbrev main_call0_v31 : Ref sig .tc := ⟨.hbm, 277, rfl⟩
abbrev main_call0_v32 : Ref sig .tc := ⟨.hbm, 278, rfl⟩
abbrev main_call0_v33 : Ref sig .tc := ⟨.hbm, 279, rfl⟩
abbrev main_call0_v34 : Ref sig .tc := ⟨.hbm, 280, rfl⟩
abbrev main_call0_v35 : Ref sig .tc := ⟨.hbm, 281, rfl⟩
abbrev main_call0_v36 : Ref sig .tc := ⟨.hbm, 282, rfl⟩
abbrev main_v7 : Ref sig .tc := ⟨.hbm, 283, rfl⟩
abbrev main_v8 : Ref sig .tc := ⟨.hbm, 284, rfl⟩
abbrev main_cst_3 : Ref sig .tc := ⟨.hbm, 285, rfl⟩
abbrev main_v9 : Ref sig .tc := ⟨.hbm, 286, rfl⟩
abbrev main_v10 : Ref sig .tc := ⟨.hbm, 287, rfl⟩
abbrev main_cst_4 : Ref sig .tc := ⟨.hbm, 288, rfl⟩
abbrev main_v11 : Ref sig .tc := ⟨.hbm, 289, rfl⟩
abbrev main_v12 : Ref sig .tc := ⟨.hbm, 290, rfl⟩
abbrev main_v13 : Ref sig .tc := ⟨.hbm, 291, rfl⟩
abbrev main_v14 : Ref sig .tc := ⟨.hbm, 292, rfl⟩
abbrev main_v15 : Ref sig .tc := ⟨.hbm, 293, rfl⟩
abbrev main_call1_c : Ref sig .tc := ⟨.hbm, 294, rfl⟩
abbrev main_call1_v0 : Ref sig .tc := ⟨.hbm, 295, rfl⟩
abbrev main_call1_v1 : Ref sig .tc := ⟨.hbm, 296, rfl⟩
abbrev main_call1_c_0 : Ref sig .tc := ⟨.hbm, 297, rfl⟩
abbrev main_call1_v2 : Ref sig .tc := ⟨.hbm, 298, rfl⟩
abbrev main_call1_v3 : Ref sig .tc := ⟨.hbm, 299, rfl⟩
abbrev main_call1_v4 : Ref sig .tc := ⟨.hbm, 300, rfl⟩
abbrev main_call1_v5 : Ref sig .tc := ⟨.hbm, 301, rfl⟩
abbrev main_call1_c_1 : Ref sig .tc := ⟨.hbm, 302, rfl⟩
abbrev main_call1_c_2 : Ref sig .tc := ⟨.hbm, 303, rfl⟩
abbrev main_call1_v6 : Ref sig .tc := ⟨.hbm, 304, rfl⟩
abbrev main_call1_v7 : Ref sig .tc := ⟨.hbm, 305, rfl⟩
abbrev main_call1_v8 : Ref sig .tc := ⟨.hbm, 306, rfl⟩
abbrev main_call1_v9 : Ref sig .tc := ⟨.hbm, 307, rfl⟩
abbrev main_call1_v10 : Ref sig .tc := ⟨.hbm, 308, rfl⟩
abbrev main_call1_v11 : Ref sig .tc := ⟨.hbm, 309, rfl⟩
abbrev main_call1_c_3 : Ref sig .tc := ⟨.hbm, 310, rfl⟩
abbrev main_call1_v12 : Ref sig .tc := ⟨.hbm, 311, rfl⟩
abbrev main_call1_v13 : Ref sig .tc := ⟨.hbm, 312, rfl⟩
abbrev main_call1_v14 : Ref sig .tc := ⟨.hbm, 313, rfl⟩
abbrev main_call1_c_4 : Ref sig .tc := ⟨.hbm, 314, rfl⟩
abbrev main_call1_v15 : Ref sig .tc := ⟨.hbm, 315, rfl⟩
abbrev main_v16 : Ref sig .tc := ⟨.hbm, 316, rfl⟩
abbrev main_c_5 : Ref sig .tc := ⟨.hbm, 317, rfl⟩
abbrev main_v17 : Ref sig .tc := ⟨.hbm, 318, rfl⟩
abbrev main_v18 : Ref sig .tc := ⟨.hbm, 319, rfl⟩
abbrev main_c_6 : Ref sig .tc := ⟨.hbm, 320, rfl⟩
abbrev main_v19 : Ref sig .tc := ⟨.hbm, 321, rfl⟩
abbrev main_v20 : Ref sig .tc := ⟨.hbm, 322, rfl⟩
abbrev main_v21 : Ref sig .tc := ⟨.hbm, 323, rfl⟩
abbrev main_v22 : Ref sig .tc := ⟨.hbm, 324, rfl⟩
abbrev main_v23 : Ref sig .tc := ⟨.hbm, 325, rfl⟩
abbrev main_v24 : Ref sig .tc := ⟨.hbm, 326, rfl⟩
abbrev main_v25 : Ref sig .tc := ⟨.hbm, 327, rfl⟩
abbrev main_v26 : Ref sig .tc := ⟨.hbm, 328, rfl⟩
abbrev main_cst_7 : Ref sig .tc := ⟨.hbm, 329, rfl⟩
abbrev main_v27 : Ref sig .tc := ⟨.hbm, 330, rfl⟩
abbrev main_v28 : Ref sig .tc := ⟨.hbm, 331, rfl⟩
abbrev main_v29 : Ref sig .tc := ⟨.hbm, 332, rfl⟩
abbrev main_cst_8 : Ref sig .tc := ⟨.hbm, 333, rfl⟩
abbrev main_v30 : Ref sig .tc := ⟨.hbm, 334, rfl⟩
abbrev main_v31 : Ref sig .tc := ⟨.hbm, 335, rfl⟩
abbrev main_cst_9 : Ref sig .tc := ⟨.hbm, 336, rfl⟩
abbrev main_v32 : Ref sig .tc := ⟨.hbm, 337, rfl⟩
abbrev main_v33 : Ref sig .tc := ⟨.hbm, 338, rfl⟩
abbrev main_v34 : Ref sig .tc := ⟨.hbm, 339, rfl⟩
abbrev main_v35 : Ref sig .tc := ⟨.hbm, 340, rfl⟩
abbrev main_v36 : Ref sig .tc := ⟨.hbm, 341, rfl⟩
abbrev main_cst_10 : Ref sig .tc := ⟨.hbm, 342, rfl⟩
abbrev main_v37 : Ref sig .tc := ⟨.hbm, 343, rfl⟩
abbrev main_v38 : Ref sig .tc := ⟨.hbm, 344, rfl⟩
abbrev main_v39 : Ref sig .tc := ⟨.hbm, 345, rfl⟩
abbrev main_v40 : Ref sig .tc := ⟨.hbm, 346, rfl⟩
abbrev main_cst_11 : Ref sig .tc := ⟨.hbm, 347, rfl⟩
abbrev main_v41 : Ref sig .tc := ⟨.hbm, 348, rfl⟩
abbrev main_v42 : Ref sig .tc := ⟨.hbm, 349, rfl⟩
abbrev main_v43 : Ref sig .tc := ⟨.hbm, 350, rfl⟩
abbrev main_v44 : Ref sig .tc := ⟨.hbm, 351, rfl⟩
abbrev main_v45 : Ref sig .tc := ⟨.hbm, 352, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x5023x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x5023x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRegion.lean ====
/- The kernel's region: each grid point writes its own rows of the two results, so the arrays after the run are
   the blocks' values, row by row. -/
module

public import proofs.«01_k».proof.Proof.Gen.KernelIdeal.Frame
public import Idealize.ShloMosaic.Lib.Pipeline.ValueKit
public import Idealize.ShloMosaic.Lib.Pointwise

@[expose] public section

set_option maxRecDepth 100000

noncomputable section

namespace Cert.Proof.KernelRegion

open Idealize.ShloMosaic Idealize.ShloMosaic.TcCoe Cert.KernelIdeal Cert.KernelIdeal.Gen
open Idealize.ShloMosaic.Pipeline (Dat)

variable {F : FTy → Type} [FloatOps F] [Named F] (m : (ℓ : Loc nD τ sig) → Buf (Elt F) ℓ)

theorem idx_in : ∀ t, win0_0.index t = ![0, 0] ∧ win0_1.index t = ![0, 0] ∧ win0_2.index t = ![0, 0] ∧ win0_3.index t = ![0, 0]
    ∧ win0_4.index t = ![0, 0] ∧ win0_5.index t = ![0, 0] := by decide +kernel
theorem idx6 : ∀ t, win0_6.index t = ![t.val, 0] := by decide +kernel
theorem idx7 : ∀ t, win0_7.index t = ![t.val, 0] := by decide +kernel

theorem coord (t : Fin cfg0.N) : (grid0.coords t 0).val = t.val := by
  revert t; decide +kernel

/-- The inputs' windows are their whole arrays at every grid point. -/
theorem iblk0 (c : Dev nD) (t : Fin cfg0.N) : @Eq (Vec F S1x5023 .f32) (iblk m c 0 t) (V m c main_v117) := by
  funext (y : S1x5023.Idx)
  have h := (idx_in t).1
  have e : ((((cfg0.win 0).blk t).view.emb y : S1x5023.Idx)) = y := by
    funext a
    fin_cases a
    · refine Fin.ext ?_
      show ((((cfg0.win 0).blk t).view.emb y : S1x5023.Idx) 0).val = (y 0).val
      blk_simp [h]
    · refine Fin.ext ?_
      show ((((cfg0.win 0).blk t).view.emb y : S1x5023.Idx) 1).val = (y 1).val
      blk_simp [h]
  exact congrArg (V m c main_v117) e
theorem iblk1 (c : Dev nD) (t : Fin cfg0.N) : @Eq (Vec F S1x5023 .f32) (iblk m c 1 t) (V m c main_v26) := by
  funext (y : S1x5023.Idx)
  have h := (idx_in t).2.1
  have e : ((((cfg0.win 1).blk t).view.emb y : S1x5023.Idx)) = y := by
    funext a
    fin_cases a
    · refine Fin.ext ?_
      show ((((cfg0.win 1).blk t).view.emb y : S1x5023.Idx) 0).val = (y 0).val
      blk_simp [h]
    · refine Fin.ext ?_
      show ((((cfg0.win 1).blk t).view.emb y : S1x5023.Idx) 1).val = (y 1).val
      blk_simp [h]
  exact congrArg (V m c main_v26) e
theorem iblk2 (c : Dev nD) (t : Fin cfg0.N) : @Eq (Vec F S128x5023 .f32) (iblk m c 2 t) (V m c main_v24) := by
  funext (y : S128x5023.Idx)
  have h := (idx_in t).2.2.1
  have e : ((((cfg0.win 2).blk t).view.emb y : S128x5023.Idx)) = y := by
    funext a
    fin_cases a
    · refine Fin.ext ?_
      show ((((cfg0.win 2).blk t).view.emb y : S128x5023.Idx) 0).val = (y 0).val
      blk_simp [h]
    · refine Fin.ext ?_
      show ((((cfg0.win 2).blk t).view.emb y : S128x5023.Idx) 1).val = (y 1).val
      blk_simp [h]
  exact congrArg (V m c main_v24) e
theorem iblk3 (c : Dev nD) (t : Fin cfg0.N) : @Eq (Vec F S1x1280 .i32) (iblk m c 3 t) (V m c main_v112) := by
  funext (y : S1x1280.Idx)
  have h := (idx_in t).2.2.2.1
  have e : ((((cfg0.win 3).blk t).view.emb y : S1x1280.Idx)) = y := by
    funext a
    fin_cases a
    · refine Fin.ext ?_
      show ((((cfg0.win 3).blk t).view.emb y : S1x1280.Idx) 0).val = (y 0).val
      blk_simp [h]
    · refine Fin.ext ?_
      show ((((cfg0.win 3).blk t).view.emb y : S1x1280.Idx) 1).val = (y 1).val
      blk_simp [h]
  exact congrArg (V m c main_v112) e
theorem iblk4 (c : Dev nD) (t : Fin cfg0.N) : @Eq (Vec F S1x1280 .f32) (iblk m c 4 t) (V m c main_v114) := by
  funext (y : S1x1280.Idx)
  have h := (idx_in t).2.2.2.2.1
  have e : ((((cfg0.win 4).blk t).view.emb y : S1x1280.Idx)) = y := by
    funext a
    fin_cases a
    · refine Fin.ext ?_
      show ((((cfg0.win 4).blk t).view.emb y : S1x1280.Idx) 0).val = (y 0).val
      blk_simp [h]
    · refine Fin.ext ?_
      show ((((cfg0.win 4).blk t).view.emb y : S1x1280.Idx) 1).val = (y 1).val
      blk_simp [h]
  exact congrArg (V m c main_v114) e
theorem iblk5 (c : Dev nD) (t : Fin cfg0.N) : @Eq (Vec F S1x768 .f32) (iblk m c 5 t) (V m c main_v116) := by
  funext (y : S1x768.Idx)
  have h := (idx_in t).2.2.2.2.2
  have e : ((((cfg0.win 5).blk t).view.emb y : S1x768.Idx)) = y := by
    funext a
    fin_cases a
    · refine Fin.ext ?_
      show ((((cfg0.win 5).blk t).view.emb y : S1x768.Idx) 0).val = (y 0).val
      blk_simp [h]
    · refine Fin.ext ?_
      show ((((cfg0.win 5).blk t).view.emb y : S1x768.Idx) 1).val = (y 1).val
      blk_simp [h]
  exact congrArg (V m c main_v116) e

theorem divmod256 (a t y : Nat) (h : a = t * 256 + y) (l : y < 256) : a / 256 = t ∧ a % 256 = y := by omega

/-- The grid point that writes row `b`, and the row of its block. -/
abbrev pt (b : Fin 1024) : Fin cfg0.N := ⟨b.val / 256, by have : cfg0.N = 4 := N_0; omega⟩
abbrev rw256 (b : Fin 1024) : Fin 256 := ⟨b.val % 256, by omega⟩

/-- What the two result arrays hold after the region. -/
abbrev G6 (c : Dev nD) : Buf (Elt F) ((c : Thread nD τ).loc main_v118_0) := fun i : S1024x5023.Idx =>
  out0_6 (F := F) (grid0.coords (pt (i 0))) (V m c main_v117) (V m c main_v26) (V m c main_v24) (V m c main_v112)
    (V m c main_v114) (V m c main_v116) (ix2 (rw256 (i 0)) (i 1))
abbrev G7 (c : Dev nD) : Buf (Elt F) ((c : Thread nD τ).loc main_v118_1) := fun i : S1024x204.Idx =>
  out0_7 (F := F) (grid0.coords (pt (i 0))) (V m c main_v117) (V m c main_v26) (V m c main_v24) (V m c main_v112)
    (V m c main_v114) (V m c main_v116) (ix2 (rw256 (i 0)) (i 1))

theorem G6_row (c : Dev nD) (t : Fin cfg0.N) (z : S1024x5023.Idx) (y : S256x5023.Idx) (h0 : (z 0).val = t.val * 256 + (y 0).val)
    (h1 : (z 1).val = (y 1).val) : G6 m c z = out0_6 (F := F) (grid0.coords t) (V m c main_v117) (V m c main_v26)
      (V m c main_v24) (V m c main_v112) (V m c main_v114) (V m c main_v116) y := by
  have l0 : (y 0).val < 256 := (y 0).isLt
  have hp : pt (z 0) = t := Fin.ext (divmod256 _ _ _ h0 l0).1
  have hr : ix2 (rw256 (z 0)) (z 1) = y := by
    funext a
    fin_cases a
    · exact Fin.ext (divmod256 _ _ _ h0 l0).2
    · exact Fin.ext h1
  exact congrArg₂ (fun p x => out0_6 (F := F) (grid0.coords p) (V m c main_v117) (V m c main_v26) (V m c main_v24)
    (V m c main_v112) (V m c main_v114) (V m c main_v116) x) hp hr

theorem final6 (c : Dev nD) : (dats m 0 c).arrAt 6 cfg0.N = G6 m c := by
  refine (dats m 0 c).arrAt_eq_of_covers 6 _ (by decide +kernel) fun t hf y => ?_
  blk_simp
  rw [after0_6, iblk0, iblk1, iblk2, iblk3, iblk4, iblk5]
  refine (G6_row m c t _ y ?_ ?_).symm
  · blk_simp [idx6 t]
  · blk_simp [idx6 t]

theorem G7_row (c : Dev nD) (t : Fin cfg0.N) (z : S1024x204.Idx) (y : S256x204.Idx) (h0 : (z 0).val = t.val * 256 + (y 0).val)
    (h1 : (z 1).val = (y 1).val) : G7 m c z = out0_7 (F := F) (grid0.coords t) (V m c main_v117) (V m c main_v26)
      (V m c main_v24) (V m c main_v112) (V m c main_v114) (V m c main_v116) y := by
  have l0 : (y 0).val < 256 := (y 0).isLt
  have hp : pt (z 0) = t := Fin.ext (divmod256 _ _ _ h0 l0).1
  have hr : ix2 (rw256 (z 0)) (z 1) = y := by
    funext a
    fin_cases a
    · exact Fin.ext (divmod256 _ _ _ h0 l0).2
    · exact Fin.ext h1
  exact congrArg₂ (fun p x => out0_7 (F := F) (grid0.coords p) (V m c main_v117) (V m c main_v26) (V m c main_v24)
    (V m c main_v112) (V m c main_v114) (V m c main_v116) x) hp hr

theorem final7 (c : Dev nD) : (dats m 0 c).arrAt 7 cfg0.N = G7 m c := by
  refine (dats m 0 c).arrAt_eq_of_covers 7 _ (by decide +kernel) fun t hf y => ?_
  blk_simp
  rw [after0_7, iblk0, iblk1, iblk2, iblk3, iblk4, iblk5]
  refine (G7_row m c t _ y ?_ ?_).symm
  · blk_simp [idx7 t]
  · blk_simp [idx7 t]

end Cert.Proof.KernelRegion

end
-- ==== Proof.KernelRun.lean ====
/- The kernel's two results, as the lines after the region leave them. -/
module

public import proofs.«01_k».proof.Proof.KernelRegion
public import Idealize.ShloMosaic.Lib.StableHlo.RunRead

@[expose] public section

set_option maxRecDepth 100000

noncomputable section

namespace Cert.Proof.KernelRun

open Idealize.ShloMosaic Idealize.ShloMosaic.TcCoe Cert.KernelIdeal Cert.KernelIdeal.Gen Cert.Proof.KernelRegion

variable {F : FTy → Type} [FloatOps F] [Named F] (m : (ℓ : Loc nD τ sig) → Buf (Elt F) ℓ) (c : Dev nD)

theorem tail120 (U : Valuation τ sig (Elt F)) (X : FVec F S1024x5023 .f32) (h : U (Proc.devRef .tc main_v118_0) = X) (b : Fin 1024)
    (v : Fin 5023) (k : Fin 3) :
    (StableHlo.after hostOps1 U (Proc.devRef .tc main_v120) : FVec F S1024x5023x3 .f32) (ix3 b v k) = X (ix2 b v) := by
  after_reads_simp
  rw [h]
  pointwise

theorem tail121 (U : Valuation τ sig (Elt F)) (X : FVec F S1024x204 .f32) (h : U (Proc.devRef .tc main_v118_1) = X) (b : Fin 1024)
    (l : Fin 68) (k : Fin 3) :
    (StableHlo.after hostOps1 U (Proc.devRef .tc main_v121) : FVec F S1024x68x3 .f32) (ix3 b l k) = X (ix2 b ⟨l.val * 3 + k.val, by omega⟩) := by
  after_reads_simp
  rw [h]
  pointwise

def R : Valuation τ sig (Elt F) := Pipeline.withArrays spec0 c (V0 m c) (fun w => (dats m 0 c).arrAt w cfg0.N)

theorem tail_eq (b : Ref sig .tc) : Pipeline.afterTail₀ cfgs (dats m) 0 (V0 m) [hostOps1] c b
    = StableHlo.after hostOps1 (R m c) (Proc.devRef .tc b) := by
  unfold Pipeline.afterTail₀
  simp only [List.flatten_cons, List.flatten_nil, List.append_nil]
  rfl

theorem v120_at (b : Fin 1024) (v : Fin 5023) (k : Fin 3) :
    (Pipeline.afterTail₀ cfgs (dats m) 0 (V0 m) [hostOps1] c main_v120 : FVec F S1024x5023x3 .f32) (ix3 b v k) = G6 m c (ix2 b v) := by
  rw [tail_eq]
  exact tail120 _ _ ((Pipeline.withArrays_arr spec0 (by decide) c (V0 m c) _ 6).trans (final6 m c)) b v k

theorem v121_at (b : Fin 1024) (l : Fin 68) (k : Fin 3) :
    (Pipeline.afterTail₀ cfgs (dats m) 0 (V0 m) [hostOps1] c main_v121 : FVec F S1024x68x3 .f32) (ix3 b l k)
      = G7 m c (ix2 b ⟨l.val * 3 + k.val, by omega⟩) := by
  rw [tail_eq]
  exact tail121 _ _ ((Pipeline.withArrays_arr spec0 (by decide) c (V0 m c) _ 7).trans (final7 m c)) b l k

end Cert.Proof.KernelRun

end
-- ==== Proof.Spec.lean ====
/- The generator and the inverse error function on scalars: what one counter gives, written once, over the extended
   reals. The two programs' values are stated by it. -/
module

public import Idealize.ShloMosaic.PureOps.Ideal

@[expose] public section

noncomputable section

namespace Cert.Proof.Spec

open Idealize.ShloMosaic

abbrev W := BitVec 32

/-- A word rotated, by shifts of `s` and `t`. -/
def rot (s t x : W) : W := (x <<< s) ||| (x >>> t)

/-- One round. -/
def rd (s t : W) (p : W × W) : W × W := (p.1 + p.2, rot s t p.2 ^^^ (p.1 + p.2))

/-- Four rounds, with the first and with the second group's rotations. -/
def qa (p : W × W) : W × W := rd 6#32 26#32 (rd 26#32 6#32 (rd 15#32 17#32 (rd 13#32 19#32 p)))
def qb (p : W × W) : W × W := rd 24#32 8#32 (rd 16#32 16#32 (rd 29#32 3#32 (rd 17#32 15#32 p)))

/-- The keys added. -/
def inj (a b k : W) (p : W × W) : W × W := (p.1 + a, p.2 + b + k)

/-- The words of counter `c`, exclusive-or'ed. -/
def fin5 (c : W) : W × W :=
  inj 466689008#32 0#32 5#32 (qa (inj 42#32 466689008#32 4#32 (qb (inj 0#32 42#32 3#32 (qa
    (inj 466689008#32 0#32 2#32 (qb (inj 42#32 466689008#32 1#32 (qa (0#32, c + 42#32))))))))))

def bits (c : W) : W := (fin5 c).1 ^^^ (fin5 c).2

variable {F : FTy → Type} [FloatOps F]

/-- The uniform number of a word, for the interval's length `sp`. -/
def unif (sp : F .f32) (b : W) : F .f32 :=
  FloatOps.maximumf (FloatOps.addf (FloatOps.mulf (FloatOps.subf (FloatOps.ofBits .f32 ((b >>> 9#32) ||| 1065353216#32))
    (FloatOps.ofBits .f32 0x3F800000#32)) sp) (FloatOps.ofBits .f32 0xBF7FFFFF#32)) (FloatOps.ofBits .f32 0xBF7FFFFF#32)

def ew (u : F .f32) : F .f32 :=
  FloatOps.subf (FloatOps.ofBits .f32 0x00000000#32)
    (FloatOps.log1p (FloatOps.mulf u (FloatOps.subf (FloatOps.ofBits .f32 0x00000000#32) u)))

def elt (u : F .f32) : BitVec 1 := FloatOps.cmpf .olt (ew u) (FloatOps.ofBits .f32 0x40A00000#32)

def ex (u : F .f32) : F .f32 :=
  Scalar.select (elt u) (FloatOps.subf (ew u) (FloatOps.ofBits .f32 0x40200000#32))
    (FloatOps.subf (FloatOps.sqrt (ew u)) (FloatOps.ofBits .f32 0x40400000#32))

/-- One coefficient of the polynomial, and one step of its evaluation at `x`, on branch `l`. -/
def co (l : BitVec 1) (a b : W) : F .f32 := Scalar.select l (FloatOps.ofBits .f32 a) (FloatOps.ofBits .f32 b)
def stp (l : BitVec 1) (x : F .f32) (a b : W) (p : F .f32) : F .f32 := FloatOps.addf (co l a b) (FloatOps.mulf p x)

def poly (l : BitVec 1) (x : F .f32) : F .f32 :=
  stp l x 0x3FC02E2F#32 0x40354F7E#32 (stp l x 0x3E7C8F63#32 0x3F8036DB#32 (stp l x 0xBB88E4EF#32 0x3C1AA57E#32
    (stp l x 0xBAA45408#32 0xBBF9C5D7#32 (stp l x 0x396532DB#32 0x3BBC127B#32 (stp l x 0xB6935AC1#32 0xBB70BDE7#32
      (stp l x 0xB66C7357#32 0x3AB0DC72#32 (stp l x 0x34B84B36#32 0x38D3B56B#32 (co l 0x32F16588#32 0xB951F09B#32))))))))

/-- The inverse error function as both programs compute it. -/
def erfi (u : F .f32) : F .f32 :=
  Scalar.select (FloatOps.cmpf .oeq (FloatOps.absf u) (FloatOps.ofBits .f32 0x3F800000#32))
    (FloatOps.mulf (FloatOps.ofBits .f32 0x7F800000#32) u) (FloatOps.mulf (poly (elt u) (ex u)) u)

/-- The noise of counter `c`. -/
def noise (sp : F .f32) (c : W) : F .f32 :=
  FloatOps.mulf (FloatOps.mulf (FloatOps.ofBits .f32 0x3FB504F3#32) (erfi (unif sp (bits c))))
    (FloatOps.ofBits .f32 0x3A83126F#32)

end Cert.Proof.Spec

end
-- ==== Proof.KernelNoise.lean ====
/- The kernel's noise, lane by lane: the value at a lane is the scalar function of the lane's counter. -/
module

public import proofs.«01_k».proof.Proof.Gen.KernelIdeal.Frame
public import proofs.«01_k».proof.Proof.Spec

@[expose] public section

noncomputable section

namespace Cert.Proof.KernelNoise

open Idealize.ShloMosaic Cert.KernelIdeal Cert.KernelIdeal.Gen Cert.Proof.Spec

variable {F : FTy → Type} [FloatOps F] [Named F] (i : grid0.Coords) (o : Vec F S1x1280 .i32) (a b c : IVec S256x1280 32) (x : S256x1280.Idx)

theorem g1 : (k0_pay10 (F := F) i o x, k0_pay11 (F := F) i o x ^^^ k0_pay10 (F := F) i o x)
    = qa (0#32, k0_pay3 (F := F) i o x) := by
  have h1 : (k0_pay4 (F := F) i o x, k0_pay5 (F := F) i o x) = rd 13#32 19#32 (0#32, k0_pay3 (F := F) i o x) := rfl
  have h2 : (k0_pay6 (F := F) i o x, k0_pay7 (F := F) i o x) = rd 15#32 17#32 (k0_pay4 (F := F) i o x, k0_pay5 (F := F) i o x) := rfl
  have h3 : (k0_pay8 (F := F) i o x, k0_pay9 (F := F) i o x) = rd 26#32 6#32 (k0_pay6 (F := F) i o x, k0_pay7 (F := F) i o x) := rfl
  have h4 : (k0_pay10 (F := F) i o x, k0_pay11 (F := F) i o x ^^^ k0_pay10 (F := F) i o x)
      = rd 6#32 26#32 (k0_pay8 (F := F) i o x, k0_pay9 (F := F) i o x) := rfl
  rw [h4, h3, h2, h1, qa]

theorem g2 (p : W × W) (hp : (a x, b x ^^^ a x) = p) :
    (k0_pay19 a b x + 466689008#32, k0_pay20 a b x) = inj 466689008#32 0#32 2#32 (qb (inj 42#32 466689008#32 1#32 p)) := by
  have h0 : (a x + 42#32, k0_pay12 a b x) = inj 42#32 466689008#32 1#32 (a x, b x ^^^ a x) := rfl
  have h1 : (k0_pay13 a b x, k0_pay14 a b x) = rd 17#32 15#32 (a x + 42#32, k0_pay12 a b x) := rfl
  have h2 : (k0_pay15 a b x, k0_pay16 a b x) = rd 29#32 3#32 (k0_pay13 a b x, k0_pay14 a b x) := rfl
  have h3 : (k0_pay17 a b x, k0_pay18 a b x) = rd 16#32 16#32 (k0_pay15 a b x, k0_pay16 a b x) := rfl
  have h4 : (k0_pay19 a b x + 466689008#32, k0_pay20 a b x)
      = inj 466689008#32 0#32 2#32 (rd 24#32 8#32 (k0_pay17 a b x, k0_pay18 a b x)) := rfl
  rw [h4, h3, h2, h1, h0, hp, qb]

theorem g3 (p : W × W) (hb : b x = p.1 + p.2) (ha : a x = p.2) (hc : c x = p.2 <<< 13#32) :
    (k0_pay32 a b c 19#32 x, k0_pay33 a b c 19#32 x)
      = rd 29#32 3#32 (rd 17#32 15#32 (inj 0#32 42#32 3#32 (qa p))) := by
  have h0 : (b x, k0_pay23 a b c 19#32 x) = rd 13#32 19#32 p := by
    have : k0_pay23 a b c 19#32 x = (c x ||| a x >>> 19#32) ^^^ b x := rfl
    rw [this, hb, ha, hc]; rfl
  have h1 : (k0_pay24 a b c 19#32 x, k0_pay25 a b c 19#32 x) = rd 15#32 17#32 (b x, k0_pay23 a b c 19#32 x) := rfl
  have h2 : (k0_pay26 a b c 19#32 x, k0_pay27 a b c 19#32 x) = rd 26#32 6#32 (k0_pay24 a b c 19#32 x, k0_pay25 a b c 19#32 x) := rfl
  have h3 : (k0_pay28 a b c 19#32 x + 0#32, k0_pay29 a b c 19#32 x)
      = inj 0#32 42#32 3#32 (rd 6#32 26#32 (k0_pay26 a b c 19#32 x, k0_pay27 a b c 19#32 x)) := rfl
  have h4 : (k0_pay30 a b c 19#32 x, k0_pay31 a b c 19#32 x) = rd 17#32 15#32 (k0_pay28 a b c 19#32 x + 0#32, k0_pay29 a b c 19#32 x) := rfl
  have h5 : (k0_pay32 a b c 19#32 x, k0_pay33 a b c 19#32 x) = rd 29#32 3#32 (k0_pay30 a b c 19#32 x, k0_pay31 a b c 19#32 x) := rfl
  rw [h5, h4, h3, h2, h1, h0, qa]

theorem g4 (p : W × W) (ha : a x = p.2) (hb : b x = p.1 + p.2) :
    (k0_pay44 a b 16#32 x, k0_pay45 a b 16#32 x ^^^ k0_pay44 a b 16#32 x)
      = qa (inj 42#32 466689008#32 4#32 (rd 24#32 8#32 (rd 16#32 16#32 p))) := by
  have h0 : (b x, k0_pay35 a b 16#32 x) = rd 16#32 16#32 p := by
    have : k0_pay35 a b 16#32 x = (a x <<< 16#32 ||| a x >>> 16#32) ^^^ b x := rfl
    rw [this, hb, ha]; rfl
  have h1 : (k0_pay36 a b 16#32 x + 42#32, k0_pay37 a b 16#32 x)
      = inj 42#32 466689008#32 4#32 (rd 24#32 8#32 (b x, k0_pay35 a b 16#32 x)) := rfl
  have h2 : (k0_pay38 a b 16#32 x, k0_pay39 a b 16#32 x) = rd 13#32 19#32 (k0_pay36 a b 16#32 x + 42#32, k0_pay37 a b 16#32 x) := rfl
  have h3 : (k0_pay40 a b 16#32 x, k0_pay41 a b 16#32 x) = rd 15#32 17#32 (k0_pay38 a b 16#32 x, k0_pay39 a b 16#32 x) := rfl
  have h4 : (k0_pay42 a b 16#32 x, k0_pay43 a b 16#32 x) = rd 26#32 6#32 (k0_pay40 a b 16#32 x, k0_pay41 a b 16#32 x) := rfl
  have h5 : (k0_pay44 a b 16#32 x, k0_pay45 a b 16#32 x ^^^ k0_pay44 a b 16#32 x)
      = rd 6#32 26#32 (k0_pay42 a b 16#32 x, k0_pay43 a b 16#32 x) := rfl
  rw [h5, h4, h3, h2, h1, h0, qa]

/-- The uniform number, from the last round's words. -/
theorem g5 (p : W × W) (h : (a x, b x ^^^ a x) = p) :
    k0_pay46 (F := F) a b x = unif (Named.named κ "span" (φ := .f32) 0x40000000#32)
      ((inj 466689008#32 0#32 5#32 p).1 ^^^ (inj 466689008#32 0#32 5#32 p).2) := by
  subst h; rfl

/-- The inverse error function's polynomial at a lane. -/
theorem g6 : k0_pay52 (F := F) (k0_pay46 a b) (k0_pay48 (F := F) a b) (k0_pay49 a b) (k0_pay50 a b) (k0_pay51 a b) x
    = erfi (k0_pay46 (F := F) a b x) := by
  have h48 : k0_pay48 (F := F) a b x = elt (k0_pay46 (F := F) a b x) := rfl
  have h49 : k0_pay49 (F := F) a b x = ex (k0_pay46 (F := F) a b x) := rfl
  have h50 : k0_pay50 (F := F) a b x = co (k0_pay48 (F := F) a b x) 0x34B84B36#32 0x38D3B56B#32 := rfl
  have h51 : k0_pay51 (F := F) a b x
      = FloatOps.mulf (co (k0_pay48 (F := F) a b x) 0x32F16588#32 0xB951F09B#32) (k0_pay49 (F := F) a b x) := rfl
  unfold erfi poly
  rw [← h48, ← h49]
  generalize k0_pay46 (F := F) a b = v46 at *
  generalize k0_pay48 (F := F) a b = v48 at *
  generalize k0_pay49 (F := F) a b = v49 at *
  generalize k0_pay50 (F := F) a b = v50 at *
  generalize k0_pay51 (F := F) a b = v51 at *
  unfold stp
  rw [← h51, ← h50]
  rfl

/-- The noise factor of the whole block, at a lane. -/
theorem z_at (x0 x1 : Vec F S1x5023 .f32) (x2 : Vec F S128x5023 .f32) (x3 : Vec F S1x1280 .i32)
    (x4 : Vec F S1x1280 .f32) (x5 : Vec F S1x768 .f32) (w : W)
    (hw : k0_pay3 (F := F) i (View.ld x3 r0_0) x = w + 42#32) :
    k0_pay70 (F := F) i x0 x1 x2 x3 x4 x5 x
      = erfi (unif (Named.named κ "span" (φ := .f32) 0x40000000#32) (bits w)) := by
  have e1 := g1 i (View.ld x3 r0_0) x
  rw [hw] at e1
  have e2 := g2 _ _ x _ e1
  generalize h2 : inj 466689008#32 0#32 2#32 (qb (inj 42#32 466689008#32 1#32 (qa (0#32, w + 42#32)))) = p2 at e2
  have e3 := g3 (k0_pay63 (F := F) i x0 x1 x2 x3 x4 x5) (k0_pay64 (F := F) i x0 x1 x2 x3 x4 x5)
    (k0_pay65 (F := F) i x0 x1 x2 x3 x4 x5) x p2 (by subst e2; rfl) (by subst e2; rfl) (by subst e2; rfl)
  generalize h3 : rd 29#32 3#32 (rd 17#32 15#32 (inj 0#32 42#32 3#32 (qa p2))) = p3 at e3
  have e4 := g4 (k0_pay66 (F := F) i x0 x1 x2 x3 x4 x5) (k0_pay67 (F := F) i x0 x1 x2 x3 x4 x5) x p3
    (by subst e3; rfl) (by subst e3; rfl)
  have e5 := g5 (F := F) (k0_pay68 (F := F) i x0 x1 x2 x3 x4 x5) (k0_pay69 (F := F) i x0 x1 x2 x3 x4 x5) x _ e4
  refine (g6 (k0_pay68 (F := F) i x0 x1 x2 x3 x4 x5) (k0_pay69 (F := F) i x0 x1 x2 x3 x4 x5) x).trans ?_
  rw [e5, bits, fin5, ← h3, ← h2]
  rfl

end Cert.Proof.KernelNoise

end
-- ==== Proof.KernelBlock.lean ====
/- What one block of the kernel computes, element by element. -/
module

public import proofs.«01_k».proof.Proof.KernelNoise
public import Idealize.ShloMosaic.Lib.Pointwise

@[expose] public section

set_option maxRecDepth 16384

noncomputable section

namespace Cert.Proof.KernelBlock

open Idealize.ShloMosaic Cert.KernelIdeal Cert.KernelIdeal.Gen

open Cert.Proof.Spec Cert.Proof.KernelNoise

section generic

variable {F : FTy → Type} [FloatOps F] [Named F]

/-- A coordinate with the noise of a counter added. -/
def dv (a : F .f32) (w : W) : F .f32 := FloatOps.addf a (noise (Named.named κ "span" (φ := .f32) 0x40000000#32) w)

theorem d_at (Z : FVec F S256x1280 .f32) (s : F .f32) (ta : Vec F S1x1280 .f32) (r : Fin 256) (c : Fin 1280) :
    k0_pay53 Z s ta (ix2 r c)
      = FloatOps.addf (ta (ix2 0 c)) (FloatOps.mulf (FloatOps.mulf s (Z (ix2 r c))) (FloatOps.ofBits .f32 0x3A83126F#32)) := by
  pointwise [k0_pay53]

theorem lmk_at (D : FVec F S256x1280 .f32) (w : Vec F S1x768 .f32) (r : Fin 256) (c : Fin 204) : k0_pay2 D w w w (ix2 r c)
    = FloatOps.addf (FloatOps.addf
        (FloatOps.mulf (D (ix2 r ⟨512 + c.val, by omega⟩)) (w (ix2 0 ⟨c.val, by omega⟩)))
        (FloatOps.mulf (D (ix2 r ⟨768 + c.val, by omega⟩)) (w (ix2 0 ⟨256 + c.val, by omega⟩))))
      (FloatOps.mulf (D (ix2 r ⟨1024 + c.val, by omega⟩)) (w (ix2 0 ⟨512 + c.val, by omega⟩))) := by
  pointwise [k0_pay2]

theorem cnt_at (i : grid0.Coords) (o : Vec F S1x1280 .i32) (r : Fin 256) (c : Fin 1280) : k0_pay3 (F := F) i o (ix2 r c)
    = (BitVec.ofNat 32 (((i 0).val * 256 + r.val) * 15069) + o (ix2 0 c)) + 42#32 := by
  have h : k0_pay3 (F := F) i o (ix2 r c) = IntOp.addi
      (IntOp.addi (IntOp.muli (IntOp.addi (Scalar.muli (BitVec.ofNat 32 (i 0).val) 256#32) (BitVec.ofNat 32 r.val)) 15069#32)
        (o (ix2 0 c))) 42#32 := by
    pointwise [k0_pay3]
  rw [h, BitVec.ofNat_mul, BitVec.ofNat_add, BitVec.ofNat_mul]
  rfl

theorem hz : (![0, 0] : Fin 2 → Nat) = fun _ => 0 := funext fun a => by fin_cases a <;> rfl

variable (i : grid0.Coords) (x0 x1 : Vec F S1x5023 .f32) (x2 : Vec F S128x5023 .f32) (x3 : Vec F S1x1280 .i32)
    (x4 : Vec F S1x1280 .f32) (x5 : Vec F S1x768 .f32)

/-- The deformed coordinates of a block. -/
theorem blk_d (r : Fin 256) (c : Fin 1280) :
    k0_pay53 (k0_pay70 (F := F) i x0 x1 x2 x3 x4 x5) (Scalar.ofBits .f32 0x3FB504F3#32) x4 (ix2 r c)
      = dv (x4 (ix2 0 c)) (BitVec.ofNat 32 (((i 0).val * 256 + r.val) * 15069) + x3 (ix2 0 c)) := by
  rw [d_at, z_at i (ix2 r c) x0 x1 x2 x3 x4 x5 (BitVec.ofNat 32 (((i 0).val * 256 + r.val) * 15069) + x3 (ix2 0 c))
    (by rw [View.ld_unit_zero hz, cnt_at])]
  rfl

/-- The landmarks of a block. -/
theorem out7_at (r : Fin 256) (c : Fin 204) (D : Fin 1280 → F .f32)
    (hD : ∀ c, D c = dv (x4 (ix2 0 c)) (BitVec.ofNat 32 (((i 0).val * 256 + r.val) * 15069) + x3 (ix2 0 c))) :
    out0_7 (F := F) i x0 x1 x2 x3 x4 x5 (ix2 r c)
      = FloatOps.addf (FloatOps.addf
          (FloatOps.mulf (D ⟨512 + c.val, by omega⟩) (x5 (ix2 0 ⟨c.val, by omega⟩)))
          (FloatOps.mulf (D ⟨768 + c.val, by omega⟩) (x5 (ix2 0 ⟨256 + c.val, by omega⟩))))
        (FloatOps.mulf (D ⟨1024 + c.val, by omega⟩) (x5 (ix2 0 ⟨512 + c.val, by omega⟩))) := by
  unfold out0_7
  rw [View.canon_unit_zero hz, View.ld_unit_zero hz, View.ld_unit_zero hz, lmk_at, blk_d, blk_d, blk_d, hD, hD, hD]

theorem out6_eq : out0_6 (F := F) i x0 x1 x2 x3 x4 x5
    = k0_pay1 (k0_pay57 (k0_pay70 i x0 x1 x2 x3 x4 x5) (Scalar.ofBits .f32 0x3FB504F3#32) x4 x2)
        (k0_pay58 (k0_pay70 i x0 x1 x2 x3 x4 x5) (Scalar.ofBits .f32 0x3FB504F3#32) x4 x0) (k0_pay59 x1) (k0_pay60 (F := F)) := by
  unfold out0_6
  rw [View.canon_unit_zero hz, View.ld_unit_zero hz, View.ld_unit_zero hz, View.ld_unit_zero hz, View.ld_unit_zero hz]

end generic

section ideal

variable (Z : FVec Ideal S256x1280 .f32) (s : Ideal .f32) (ta : Vec Ideal S1x1280 .f32)

/-- A comparison's bit as a number. -/
theorem bit_num (p : Prop) [Decidable p] :
    (FloatOps.sitofp .f32 (BitVec.setWidth 32 (BitVec.ofBool (decide p))) : Ideal .f32) = (if p then 1 else 0 : EReal) := by
  have e1 : (FloatOps.sitofp .f32 (1#32 : BitVec 32) : Ideal .f32) = (1 : EReal) := by
    show (((1#32 : BitVec 32).toInt : ℝ) : EReal) = 1
    simp
  have e0 : (FloatOps.sitofp .f32 (0#32 : BitVec 32) : Ideal .f32) = (0 : EReal) := by
    show (((0#32 : BitVec 32).toInt : ℝ) : EReal) = 0
    simp
  by_cases h : p
  · simp [h, e1]
  · simp [h, e0]

theorem lo_at (r : Fin 256) : k0_pay55 Z s ta (ix2 r 0)
    = Finset.univ.fold min (⊤ : EReal) (fun c : Fin 128 => (k0_pay53 Z s ta (ix2 r ⟨c.val, by omega⟩) : EReal)) := by
  unfold k0_pay55 k0_pay54
  generalize k0_pay53 Z s ta = D
  have e : Ideal.ofBits FTy.f32 2139095040#32 = ⊤ := by simp [Ideal.ofBits, Ideal.ieee]
  rw [← e]
  pointwise

theorem den_at (r : Fin 256) : k0_pay56 Z s ta (ix2 r 0)
    = (Finset.univ.fold max (⊥ : EReal) (fun c : Fin 128 => (k0_pay53 Z s ta (ix2 r ⟨c.val, by omega⟩) : EReal))
        - k0_pay55 Z s ta (ix2 r 0)) + Ideal.ofBits .f32 0x322BCC77#32 := by
  unfold k0_pay56 k0_pay54
  generalize k0_pay53 Z s ta = D
  generalize k0_pay55 Z s ta = L
  have e : Ideal.ofBits FTy.f32 4286578688#32 = ⊥ := by simp [Ideal.ofBits, Ideal.ieee]
  rw [← e]
  pointwise

theorem rend_at (tz mk : Vec Ideal S1x5023 .f32) (sm : Vec Ideal S128x5023 .f32) (r : Fin 256) (v : Fin 5023) :
    (k0_pay1 (k0_pay57 Z s ta sm) (k0_pay58 Z s ta tz) (k0_pay59 mk) k0_pay60 (ix2 r v) : EReal)
      = if Ideal.ofBits .f32 0x3F000000#32 < mk (ix2 0 v) then
          ∑ p : Fin 128, (if Ideal.ofBits .f32 0x3E99999A#32
              < Ideal.div (k0_pay53 Z s ta (ix2 r ⟨256 + p.val, by omega⟩) - k0_pay55 Z s ta (ix2 r 0)) (k0_pay56 Z s ta (ix2 r 0))
            then 1 else 0 : EReal) * sm (ix2 p v)
        else if k0_pay55 Z s ta (ix2 r 0) + Ideal.ofBits .f32 0x3E99999A#32 * k0_pay56 Z s ta (ix2 r 0) < tz (ix2 0 v)
          then 1 else 0 := by
  unfold k0_pay1 k0_pay57 k0_pay58 k0_pay59 k0_pay60
  generalize k0_pay53 Z s ta = D
  generalize k0_pay55 Z s ta = L
  generalize k0_pay56 Z s ta = E
  pointwise
  simp only [bit_num]

end ideal

end Cert.Proof.KernelBlock

end
-- ==== Proof.Gathers.lean ====
/-
  The gathers of the two programs, read at an index: rows of a table, entries of a vector, and the reference's gather of the
  vertices of the landmark faces.
-/
module

public import proofs.«01_k».proof.Proof.Gen.ReferenceIdeal.Frame
public import Idealize.ShloMosaic.Lib.Pointwise
public import Idealize.ShloMosaic.Lib.Routing.OpsSet

@[expose] public section

set_option maxRecDepth 16384

noncomputable section

namespace Cert.Proof.Gathers

open Idealize.ShloMosaic

variable {α : Type}

/-- Rows of a table: entry `(c, y)` of the result is the table's entry `(b, y)` where row `c` of the indices holds `b`. -/
theorem rows {nb B n : Nat} (d : GatherDims ⟨2, ![nb, B]⟩ ⟨2, ![n, 1]⟩ ⟨2, ![n, B]⟩) (hoff : d.offsetDims = [1])
    (hcoll : d.collapsedSliceDims = [0]) (hob : d.operandBatchingDims = [])
    (hsim : d.startIndexMap = [0]) (hivd : d.indexVectorDim = 1) (x : (⟨2, ![nb, B]⟩ : Shape).Idx → α) (idx : IVec ⟨2, ![n, 1]⟩ 32)
    (c : Fin n) (y : Fin B) (b : Fin nb) (hb : idx (ix2 c (0 : Fin 1)) = BitVec.ofNat 32 b.val) (hnb : nb < 2 ^ 31) :
    Host.gather d x idx (ix2 c y) = x (ix2 b y) :=
  Routing.gather_row d hoff hcoll hob hsim hivd x idx c y b hb hnb

/-- Entries of a vector. -/
theorem entries {N n : Nat} (d : GatherDims ⟨1, ![N]⟩ ⟨2, ![n, 1]⟩ ⟨1, ![n]⟩) (hcoll : d.collapsedSliceDims = [0])
    (hob : d.operandBatchingDims = []) (hsim : d.startIndexMap = [0]) (hivd : d.indexVectorDim = 1) (x : (⟨1, ![N]⟩ : Shape).Idx → α)
    (idx : IVec ⟨2, ![n, 1]⟩ 32) (p : Fin n) (b : Fin N) (hb : idx (ix2 p (0 : Fin 1)) = BitVec.ofNat 32 b.val) (hN : N < 2 ^ 31) :
    Host.gather d x idx (ix1 p) = x (ix1 b) :=
  Routing.gather_take1 d hcoll hob hsim hivd x idx p b hb hN

open Cert.ReferenceIdeal

/-- The landmark gather: entry `(b, l, j, k)` is coordinate `k` of the vertex named at `(l, j)`, in sample `b`. -/
theorem verts (x : S1024x5023x3.Idx → α) (idx : IVec S68x3x1 32) (b : Fin 1024) (l : Fin 68) (j k : Fin 3) (v : Fin 5023)
    (hv : idx (ix3 l j (0 : Fin 1)) = BitVec.ofNat 32 v.val) :
    Host.gather gather_S1024x5023x3_S68x3x1_S1024x68x3x3_03_1_n_n_1_2_102413 x idx (ix4 b l j k) = x (ix3 b v k) := by
  unfold Host.gather
  refine congrArg x (funext fun a => Fin.ext ?_)
  set d := gather_S1024x5023x3_S68x3x1_S1024x68x3x3_03_1_n_n_1_2_102413
  have hbN : ∀ a', a' ∉ d.operandBatchingDims := fun a' => List.not_mem_nil
  have hm0 : (0 : Fin S1024x5023x3.rank) ∉ d.startIndexMap := show (0 : Fin 3) ∉ ([1] : List (Fin 3)) by decide
  have hm2 : (2 : Fin S1024x5023x3.rank) ∉ d.startIndexMap := show (2 : Fin 3) ∉ ([1] : List (Fin 3)) by decide
  have hk0 : (0 : Fin S1024x5023x3.rank) ∈ d.sKept := show (0 : Fin 3) ∈ ([0, 2] : List (Fin 3)) by decide
  have hk2 : (2 : Fin S1024x5023x3.rank) ∈ d.sKept := show (2 : Fin 3) ∈ ([0, 2] : List (Fin 3)) by decide
  match a with
  | ⟨0, _⟩ =>
    show d.start _ idx 0 + d.batchCoord _ 0 + d.offCoord _ 0 = b.val
    rw [d.batchCoord_eq_zero _ _ (hbN 0)]
    unfold GatherDims.start GatherDims.offCoord
    rw [dif_neg hm0, dif_pos hk0]
    simp only [Nat.zero_add]
    rfl
  | ⟨1, _⟩ =>
    have hk : (1 : Fin 3) ∉ d.sKept := show (1 : Fin 3) ∉ ([0, 2] : List (Fin 3)) by decide
    have hm : (1 : Fin 3) ∈ d.startIndexMap := show (1 : Fin 3) ∈ ([1] : List (Fin 3)) by decide
    show d.start _ idx 1 + d.batchCoord _ 1 + d.offCoord _ 1 = v.val
    rw [d.batchCoord_eq_zero _ _ (hbN 1), d.offCoord_eq_zero _ _ hk]
    simp only [Nat.add_zero]
    unfold GatherDims.start
    rw [dif_pos hm]
    have hsi : d.siIdx (ix4 b l j k) ⟨d.startIndexMap.idxOf 1, List.idxOf_lt_length_iff.2 hm⟩ = ix3 l j (0 : Fin 1) := by
      funext b'
      apply Fin.ext
      match b' with
      | ⟨0, _⟩ =>
        unfold GatherDims.siIdx
        refine (congrArg Fin.val (dif_neg (show ¬ (0 : Nat) = 2 by decide))).trans ?_
        rfl
      | ⟨1, _⟩ =>
        unfold GatherDims.siIdx
        refine (congrArg Fin.val (dif_neg (show ¬ (1 : Nat) = 2 by decide))).trans ?_
        rfl
      | ⟨2, _⟩ => rfl
    have hbl := v.isLt
    rw [hsi, hv, StableHlo.Predicate.toInt_ofNat_small _ (by omega)]
    show min ((v.val : Int)).toNat (5023 - 1) = v.val
    omega
  | ⟨2, _⟩ =>
    show d.start _ idx 2 + d.batchCoord _ 2 + d.offCoord _ 2 = k.val
    rw [d.batchCoord_eq_zero _ _ (hbN 2)]
    unfold GatherDims.start GatherDims.offCoord
    rw [dif_neg hm2, dif_pos hk2]
    simp only [Nat.zero_add]
    rfl

/-- A signed comparison of a small index with a small bound. -/
theorem slt_zero (n : Nat) (h : n < 2 ^ 31) : (BitVec.ofNat 32 n).slt 0#32 = false := by
  have := StableHlo.Predicate.toInt_ofNat_small n h
  simp only [BitVec.slt, this]
  simp

theorem zero_sle (n : Nat) (h : n < 2 ^ 31) : (0#32).sle (BitVec.ofNat 32 n) = true := by
  have := StableHlo.Predicate.toInt_ofNat_small n h
  simp only [BitVec.sle, this]
  simp

theorem sle_of (n m : Nat) (h : n ≤ m) (hm : m < 2 ^ 31) : (BitVec.ofNat 32 n).sle (BitVec.ofNat 32 m) = true := by
  have h1 := StableHlo.Predicate.toInt_ofNat_small n (by omega)
  have h2 := StableHlo.Predicate.toInt_ofNat_small m hm
  simp only [BitVec.sle, h1, h2]
  simpa using h

/-- The wrap of a negative index leaves a small index as it is. -/
theorem wrap_small (n : Nat) (h : n < 2 ^ 31) (y : BitVec 32) :
    Scalar.select (IntOp.cmpi .slt (BitVec.ofNat 32 n) 0#32) y (BitVec.ofNat 32 n) = BitVec.ofNat 32 n := by
  have e : IntOp.cmpi .slt (BitVec.ofNat 32 n) 0#32 = 0#1 := by
    show BitVec.ofBool ((BitVec.ofNat 32 n).slt 0#32) = 0#1
    rw [slt_zero n h]; rfl
  rw [e]; rfl

/-- The in-range mask of a take is one at an index of the table. -/
theorem in_range (n m : Nat) (h : n ≤ m) (hm : m < 2 ^ 31) :
    Finset.fold IntOp.andi 1#1 (fun _ : Fin 1 => IntOp.andi (IntOp.cmpi .sge (BitVec.ofNat 32 n) 0#32)
      (IntOp.cmpi .sle (BitVec.ofNat 32 n) (BitVec.ofNat 32 m))) Finset.univ = 1#1 := by
  have e1 : IntOp.cmpi .sge (BitVec.ofNat 32 n) 0#32 = 1#1 := by
    show BitVec.ofBool ((0#32).sle (BitVec.ofNat 32 n)) = 1#1
    rw [zero_sle n (by omega)]; rfl
  have e2 : IntOp.cmpi .sle (BitVec.ofNat 32 n) (BitVec.ofNat 32 m) = 1#1 := by
    show BitVec.ofBool ((BitVec.ofNat 32 n).sle (BitVec.ofNat 32 m)) = 1#1
    rw [sle_of n m h hm]; rfl
  rw [e1, e2]
  rfl

theorem select_one {γ : Type} (x y : γ) : Scalar.select 1#1 x y = x := rfl

end Cert.Proof.Gathers

end
-- ==== Proof.KernelHostA.lean ====
/-
  What the kernel's host operations compute before its call, first part: the depths, the two selections, their one-hot
  matrix, and the faces of the landmarks.
-/
module

public import proofs.«01_k».proof.Proof.Gen.KernelIdeal.Frame
public import Idealize.ShloMosaic.Lib.StableHlo.RunRead
public import Idealize.ShloMosaic.Lib.Pointwise
public import Idealize.ShloMosaic.Lib.Tactic
public import proofs.«01_k».proof.Proof.Gathers

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

/-- The depths of the template. -/
def depth (t : FVec F S5023x3 .f32) : FVec F S5023 .f32 := fun i => t (ix2 (i 0) 2)

/-- The least depth of the template. -/
def tlo (z : FVec F S5023 .f32) : FVec F S_ .f32 :=
  Host.reduce FloatOps.minimumf z (constant S_ FTy.f32 2139095040#32) reducesTo_S5023_S_d0 h_S_

/-- The greatest depth of the template. -/
def thi (z : FVec F S5023 .f32) : FVec F S_ .f32 :=
  Host.reduce FloatOps.maximumf z (constant S_ FTy.f32 4286578688#32) reducesTo_S5023_S_d0 h_S_

/-- The distance of each depth from the middle. -/
def fromMid (z : FVec F S5023 .f32) : FVec F S5023 .f32 :=
  Host.absf (subf z (broadcastInDim S5023 ![] bcast_S_S5023 (mulf (constant S_ FTy.f32 1056964608#32) (addf (tlo z) (thi z)))))

/-- The distance of each depth from the cut, negated. -/
def fromCut (z : FVec F S5023 .f32) : FVec F S5023 .f32 :=
  Host.negf (Host.absf (subf z (broadcastInDim S5023 ![] bcast_S_S5023
    (addf (tlo z) (mulf (constant S_ FTy.f32 0x3E99999A#32) (subf (thi z) (tlo z)))))))

theorem cut0 : (hostOps0 : List (HloOp τ sig (Elt F))) = hostOps0.take 2 ++ hostOps0.drop 2 := rfl

theorem v1_eq (V : Valuation τ sig (Elt F)) (t : FVec F S5023x3 .f32) (ht : V (Proc.devRef .tc main_arg2) = t) :
    (StableHlo.after (hostOps0.take 2) V (Proc.devRef .tc main_v1) : FVec F S5023 .f32) = depth t := by
  after_reads_simp
  rw [ht]
  funext i
  idx_vars i
  pointwise [depth]

theorem keep_v1 (V : Valuation τ sig (Elt F)) : StableHlo.after (hostOps0.drop 2) V (Proc.devRef .tc main_v1) = V (Proc.devRef .tc main_v1) := by
  after_reads_simp

theorem ends_eq (V : Valuation τ sig (Elt F)) (z : FVec F S5023 .f32) (hz : V (Proc.devRef .tc main_v1) = z) :
    (StableHlo.after (hostOps0.drop 2) V (Proc.devRef .tc main_indices) : IVec S128 32)
      = (Host.topK S128 0 (FloatOps.cmpfTotal CmpDirection.gt) (fromMid z) sliceFits_S5023_S128).2 := by
  after_reads_simp
  rw [hz]
  rfl

theorem band_eq (V : Valuation τ sig (Elt F)) (z : FVec F S5023 .f32) (hz : V (Proc.devRef .tc main_v1) = z) :
    (StableHlo.after (hostOps0.drop 2) V (Proc.devRef .tc main_indices_4) : IVec S128 32)
      = (Host.topK S128 0 (FloatOps.cmpfTotal CmpDirection.gt) (fromCut z) sliceFits_S5023_S128).2 := by
  after_reads_simp
  rw [hz]
  rfl

theorem v16_at (V : Valuation τ sig (Elt F)) (z : FVec F S5023 .f32) (hz : V (Proc.devRef .tc main_v1) = z) (idx : IVec S128 32) (hi : V (Proc.devRef .tc main_indices) = idx)
    (e : Fin 128 → Fin 5023) (he : ∀ p, idx (ix1 p) = BitVec.ofNat 32 (e p).val) (p : Fin 128) :
    (StableHlo.after hostOps0_1 V (Proc.devRef .tc main_v16) : FVec F S128 .f32) (ix1 p) = z (ix1 (e p)) := by
  after_reads_simp
  simp -implicitDefEqProofs only [StableHlo.TRef.toBuf, StableHlo.TRef.ofBuf, cast_cast, cast_eq]
  rw [hi, hz]
  pointwise
  have hl := (e p).isLt
  rw [he, Gathers.wrap_small _ (by omega), Gathers.in_range _ 5022 (by omega) (by omega), Gathers.select_one]
  refine Gathers.entries _ rfl rfl rfl rfl z _ p (e p) ?_ (by omega)
  pointwise
  rw [he, Gathers.wrap_small _ (by omega)]

theorem v17_at (V : Valuation τ sig (Elt F)) (z : FVec F S5023 .f32) (hz : V (Proc.devRef .tc main_v1) = z) (idx : IVec S128 32) (hi : V (Proc.devRef .tc main_indices_4) = idx)
    (e : Fin 128 → Fin 5023) (he : ∀ p, idx (ix1 p) = BitVec.ofNat 32 (e p).val) (p : Fin 128) :
    (StableHlo.after hostOps0_2 V (Proc.devRef .tc main_v17) : FVec F S128 .f32) (ix1 p) = z (ix1 (e p)) := by
  after_reads_simp
  simp -implicitDefEqProofs only [StableHlo.TRef.toBuf, StableHlo.TRef.ofBuf, cast_cast, cast_eq]
  rw [hi, hz]
  pointwise
  have hl := (e p).isLt
  rw [he, Gathers.wrap_small _ (by omega), Gathers.in_range _ 5022 (by omega) (by omega), Gathers.select_one]
  refine Gathers.entries _ rfl rfl rfl rfl z _ p (e p) ?_ (by omega)
  pointwise
  rw [he, Gathers.wrap_small _ (by omega)]

theorem v24_at (V : Valuation τ sig (Elt F)) (idx : IVec S128 32) (hi : V (Proc.devRef .tc main_indices_4) = idx) (p : Fin 128) (v : Fin 5023) :
    (StableHlo.after hostOps0_3 V (Proc.devRef .tc main_v24) : FVec F S128x5023 .f32) (ix2 p v) = FloatOps.uitofp .f32 (IntOp.cmpi .eq (idx (ix1 p)) (BitVec.ofNat 32 v.val)) := by
  after_reads_simp
  rw [hi]
  pointwise

theorem v26_at (V : Valuation τ sig (Elt F)) (v : Fin 5023) :
    (StableHlo.after hostOps0_3 V (Proc.devRef .tc main_v26) : FVec F S1x5023 .f32) (ix2 0 v)
      = Host.reduce FloatOps.maximumf (StableHlo.after hostOps0_3 V (Proc.devRef .tc main_v24) : FVec F S128x5023 .f32) (constant S_ FTy.f32 4286578688#32)
    reducesTo_S128x5023_S5023_d0 h_S_ (ix1 v) := by
  after_reads_simp
  pointwise

theorem v27_at (V : Valuation τ sig (Elt F)) (idx : IVec S68 32) (faces : IVec S9976x3 32) (h4 : V (Proc.devRef .tc main_arg4) = idx)
    (h3 : V (Proc.devRef .tc main_arg3) = faces) (fi : Fin 68 → Fin 9976) (hi : ∀ l, idx (ix1 l) = BitVec.ofNat 32 (fi l).val)
    (l : Fin 68) (j : Fin 3) :
    (StableHlo.after hostOps0_4 V (Proc.devRef .tc main_v27) : IVec S68x3 32) (ix2 l j) = faces (ix2 (fi l) j) := by
  after_reads_simp
  simp -implicitDefEqProofs only [StableHlo.TRef.toBuf, StableHlo.TRef.ofBuf, cast_cast, cast_eq]
  rw [h4, h3]
  pointwise
  have hl := (fi l).isLt
  rw [hi, Gathers.wrap_small _ (by omega), Gathers.in_range _ 9975 (by omega) (by omega), Gathers.select_one]
  refine Gathers.rows _ rfl rfl rfl rfl rfl faces _ l j (fi l) ?_ (by omega)
  pointwise
  rw [hi, Gathers.wrap_small _ (by omega)]

end Cert.Proof.KernelHost

end
-- ==== Proof.KernelHostB.lean ====
/-
  Second part: the counter offsets of the sections, and the template values at the landmark vertices.
-/
module

public import proofs.«01_k».proof.Proof.Gen.KernelIdeal.Frame
public import Idealize.ShloMosaic.Lib.StableHlo.RunRead
public import Idealize.ShloMosaic.Lib.Pointwise
public import Idealize.ShloMosaic.Lib.Tactic
public import proofs.«01_k».proof.Proof.Gathers

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

theorem v34_at (V : Valuation τ sig (Elt F)) (idx : IVec S128 32) (hi : V (Proc.devRef .tc main_indices) = idx) (c : Fin 256) (h : c.val < 128) :
    (StableHlo.after hostOps0_5 V (Proc.devRef .tc main_v34) : IVec S256 32) (ix1 c) = idx (ix1 ⟨c.val, h⟩) * 3#32 + 2#32 := by
  subst hi
  after_reads_simp
  pointwise
  rw [dif_pos h]
  rfl

theorem v40_at (V : Valuation τ sig (Elt F)) (idx : IVec S128 32) (hi : V (Proc.devRef .tc main_indices_4) = idx) (c : Fin 256) (h : c.val < 128) :
    (StableHlo.after hostOps0_5 V (Proc.devRef .tc main_v40) : IVec S256 32) (ix1 c) = idx (ix1 ⟨c.val, h⟩) * 3#32 + 2#32 := by
  subst hi
  after_reads_simp
  pointwise
  rw [dif_pos h]
  rfl

theorem v42_at (V : Valuation τ sig (Elt F)) (z : FVec F S128 .f32) (hz : V (Proc.devRef .tc main_v16) = z) (c : Fin 256) (h : c.val < 128) :
    (StableHlo.after hostOps0_5 V (Proc.devRef .tc main_v42) : FVec F S256 .f32) (ix1 c) = z (ix1 ⟨c.val, h⟩) := by
  after_reads_simp
  pointwise
  rw [dif_pos h]
  exact congrFun hz _

theorem v44_at (V : Valuation τ sig (Elt F)) (z : FVec F S128 .f32) (hz : V (Proc.devRef .tc main_v17) = z) (c : Fin 256) (h : c.val < 128) :
    (StableHlo.after hostOps0_5 V (Proc.devRef .tc main_v44) : FVec F S256 .f32) (ix1 c) = z (ix1 ⟨c.val, h⟩) := by
  after_reads_simp
  pointwise
  rw [dif_pos h]
  exact congrFun hz _

theorem v28_eq (V : Valuation τ sig (Elt F)) : (StableHlo.after hostOps0_5 V (Proc.devRef .tc main_v28) : IVec S3 32) = iotaInDim S3 32 0 := by
  after_reads_simp

theorem v46_at (V : Valuation τ sig (Elt F)) (f : IVec S68x3 32) (hf : V (Proc.devRef .tc main_v27) = f) (l : Fin 68) :
    (StableHlo.after hostOps0_5 V (Proc.devRef .tc main_v46) : IVec S68 32) (ix1 l) = f (ix2 l 0) := by
  after_reads_simp
  rw [hf]
  pointwise

theorem v54_at (V : Valuation τ sig (Elt F)) (f : IVec S68x3 32) (hf : V (Proc.devRef .tc main_v27) = f) (c : Fin 204) :
    (StableHlo.after hostOps0_5 V (Proc.devRef .tc main_v54) : IVec S204 32) (ix1 c) = f (ix2 ⟨c.val / 3, by omega⟩ 0) * 3#32 + BitVec.ofNat 32 (c.val % 3) := by
  after_reads_simp
  rw [hf]
  pointwise
  rfl

theorem v68_at (V : Valuation τ sig (Elt F)) (f : IVec S68x3 32) (hf : V (Proc.devRef .tc main_v27) = f) (l : Fin 68) :
    (StableHlo.after hostOps0_7 V (Proc.devRef .tc main_v68) : IVec S68 32) (ix1 l) = f (ix2 l 1) := by
  after_reads_simp
  rw [hf]
  pointwise

theorem v76_at (V : Valuation τ sig (Elt F)) (f : IVec S68x3 32) (hf : V (Proc.devRef .tc main_v27) = f) (h28 : V (Proc.devRef .tc main_v28) = iotaInDim S3 32 0) (c : Fin 204) :
    (StableHlo.after hostOps0_7 V (Proc.devRef .tc main_v76) : IVec S204 32) (ix1 c) = f (ix2 ⟨c.val / 3, by omega⟩ 1) * 3#32 + BitVec.ofNat 32 (c.val % 3) := by
  after_reads_simp
  rw [hf, h28]
  pointwise
  rfl

theorem v90_at (V : Valuation τ sig (Elt F)) (f : IVec S68x3 32) (hf : V (Proc.devRef .tc main_v27) = f) (l : Fin 68) :
    (StableHlo.after hostOps0_9 V (Proc.devRef .tc main_v90) : IVec S68 32) (ix1 l) = f (ix2 l 2) := by
  after_reads_simp
  rw [hf]
  pointwise

theorem v98_at (V : Valuation τ sig (Elt F)) (f : IVec S68x3 32) (hf : V (Proc.devRef .tc main_v27) = f) (h28 : V (Proc.devRef .tc main_v28) = iotaInDim S3 32 0) (c : Fin 204) :
    (StableHlo.after hostOps0_9 V (Proc.devRef .tc main_v98) : IVec S204 32) (ix1 c) = f (ix2 ⟨c.val / 3, by omega⟩ 2) * 3#32 + BitVec.ofNat 32 (c.val % 3) := by
  after_reads_simp
  rw [hf, h28]
  pointwise
  rfl

theorem v55_at (V : Valuation τ sig (Elt F)) (t : FVec F S5023x3 .f32) (ht : V (Proc.devRef .tc main_arg2) = t) (idx : IVec S68 32) (hi : V (Proc.devRef .tc main_v46) = idx)
    (e : Fin 68 → Fin 5023) (he : ∀ l, idx (ix1 l) = BitVec.ofNat 32 (e l).val) (l : Fin 68) (j : Fin 3) :
    (StableHlo.after hostOps0_6 V (Proc.devRef .tc main_v55) : FVec F S68x3 .f32) (ix2 l j) = t (ix2 (e l) j) := by
  after_reads_simp
  simp -implicitDefEqProofs only [StableHlo.TRef.toBuf, StableHlo.TRef.ofBuf, cast_cast, cast_eq]
  rw [hi, ht]
  pointwise
  have hl := (e l).isLt
  rw [he, Gathers.wrap_small _ (by omega), Gathers.in_range _ 5022 (by omega) (by omega), Gathers.select_one]
  refine Gathers.rows _ rfl rfl rfl rfl rfl t _ l j (e l) ?_ (by omega)
  pointwise
  rw [he, Gathers.wrap_small _ (by omega)]

theorem v77_at (V : Valuation τ sig (Elt F)) (t : FVec F S5023x3 .f32) (ht : V (Proc.devRef .tc main_arg2) = t) (idx : IVec S68 32) (hi : V (Proc.devRef .tc main_v68) = idx)
    (e : Fin 68 → Fin 5023) (he : ∀ l, idx (ix1 l) = BitVec.ofNat 32 (e l).val) (l : Fin 68) (j : Fin 3) :
    (StableHlo.after hostOps0_8 V (Proc.devRef .tc main_v77) : FVec F S68x3 .f32) (ix2 l j) = t (ix2 (e l) j) := by
  after_reads_simp
  simp -implicitDefEqProofs only [StableHlo.TRef.toBuf, StableHlo.TRef.ofBuf, cast_cast, cast_eq]
  rw [hi, ht]
  pointwise
  have hl := (e l).isLt
  rw [he, Gathers.wrap_small _ (by omega), Gathers.in_range _ 5022 (by omega) (by omega), Gathers.select_one]
  refine Gathers.rows _ rfl rfl rfl rfl rfl t _ l j (e l) ?_ (by omega)
  pointwise
  rw [he, Gathers.wrap_small _ (by omega)]

theorem v99_at (V : Valuation τ sig (Elt F)) (t : FVec F S5023x3 .f32) (ht : V (Proc.devRef .tc main_arg2) = t) (idx : IVec S68 32) (hi : V (Proc.devRef .tc main_v90) = idx)
    (e : Fin 68 → Fin 5023) (he : ∀ l, idx (ix1 l) = BitVec.ofNat 32 (e l).val) (l : Fin 68) (j : Fin 3) :
    (StableHlo.after hostOps0_10 V (Proc.devRef .tc main_v99) : FVec F S68x3 .f32) (ix2 l j) = t (ix2 (e l) j) := by
  after_reads_simp
  simp -implicitDefEqProofs only [StableHlo.TRef.toBuf, StableHlo.TRef.ofBuf, cast_cast, cast_eq]
  rw [hi, ht]
  pointwise
  have hl := (e l).isLt
  rw [he, Gathers.wrap_small _ (by omega), Gathers.in_range _ 5022 (by omega) (by omega), Gathers.select_one]
  refine Gathers.rows _ rfl rfl rfl rfl rfl t _ l j (e l) ?_ (by omega)
  pointwise
  rw [he, Gathers.wrap_small _ (by omega)]

end Cert.Proof.KernelHost

end
-- ==== Proof.KernelHostC.lean ====
/-
  Third part: the sections padded to their length.
-/
module

public import proofs.«01_k».proof.Proof.Gen.KernelIdeal.Frame
public import Idealize.ShloMosaic.Lib.StableHlo.RunRead
public import Idealize.ShloMosaic.Lib.Pointwise
public import Idealize.ShloMosaic.Lib.Tactic
public import proofs.«01_k».proof.Proof.Gathers

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

theorem v62_at (V : Valuation τ sig (Elt F)) (o : IVec S204 32) (ho : V (Proc.devRef .tc main_v54) = o) (c : Fin 256) (h : c.val < 204) :
    (StableHlo.after hostOps0_7 V (Proc.devRef .tc main_v62) : IVec S256 32) (ix1 c) = o (ix1 ⟨c.val, h⟩) := by
  after_reads_simp
  pointwise
  rw [dif_pos h]
  exact congrFun ho _

theorem v64_at (V : Valuation τ sig (Elt F)) (x : FVec F S68x3 .f32) (hx : V (Proc.devRef .tc main_v55) = x) (c : Fin 256) (h : c.val < 204) :
    (StableHlo.after hostOps0_7 V (Proc.devRef .tc main_v64) : FVec F S256 .f32) (ix1 c) = x (ix2 ⟨c.val / 3, by omega⟩ ⟨c.val % 3, by omega⟩) := by
  subst hx
  after_reads_simp
  pointwise
  rw [dif_pos h]

theorem v66_at (V : Valuation τ sig (Elt F)) (x : FVec F S68x3 .f32) (hx : V (Proc.devRef .tc main_arg5) = x) (c : Fin 256) (h : c.val < 204) :
    (StableHlo.after hostOps0_7 V (Proc.devRef .tc main_v66) : FVec F S256 .f32) (ix1 c) = x (ix2 ⟨c.val / 3, by omega⟩ 0) := by
  subst hx
  after_reads_simp
  pointwise
  rw [dif_pos h]

theorem v84_at (V : Valuation τ sig (Elt F)) (o : IVec S204 32) (ho : V (Proc.devRef .tc main_v76) = o) (c : Fin 256) (h : c.val < 204) :
    (StableHlo.after hostOps0_9 V (Proc.devRef .tc main_v84) : IVec S256 32) (ix1 c) = o (ix1 ⟨c.val, h⟩) := by
  after_reads_simp
  pointwise
  rw [dif_pos h]
  exact congrFun ho _

theorem v86_at (V : Valuation τ sig (Elt F)) (x : FVec F S68x3 .f32) (hx : V (Proc.devRef .tc main_v77) = x) (c : Fin 256) (h : c.val < 204) :
    (StableHlo.after hostOps0_9 V (Proc.devRef .tc main_v86) : FVec F S256 .f32) (ix1 c) = x (ix2 ⟨c.val / 3, by omega⟩ ⟨c.val % 3, by omega⟩) := by
  subst hx
  after_reads_simp
  pointwise
  rw [dif_pos h]

theorem v88_at (V : Valuation τ sig (Elt F)) (x : FVec F S68x3 .f32) (hx : V (Proc.devRef .tc main_arg5) = x) (c : Fin 256) (h : c.val < 204) :
    (StableHlo.after hostOps0_9 V (Proc.devRef .tc main_v88) : FVec F S256 .f32) (ix1 c) = x (ix2 ⟨c.val / 3, by omega⟩ 1) := by
  subst hx
  after_reads_simp
  pointwise
  rw [dif_pos h]

theorem v106_at (V : Valuation τ sig (Elt F)) (o : IVec S204 32) (ho : V (Proc.devRef .tc main_v98) = o) (c : Fin 256) (h : c.val < 204) :
    (StableHlo.after (hostOps0_11.take 14) V (Proc.devRef .tc main_v106) : IVec S256 32) (ix1 c) = o (ix1 ⟨c.val, h⟩) := by
  after_reads_simp
  pointwise
  rw [dif_pos h]
  exact congrFun ho _

theorem v108_at (V : Valuation τ sig (Elt F)) (x : FVec F S68x3 .f32) (hx : V (Proc.devRef .tc main_v99) = x) (c : Fin 256) (h : c.val < 204) :
    (StableHlo.after (hostOps0_11.take 14) V (Proc.devRef .tc main_v108) : FVec F S256 .f32) (ix1 c) = x (ix2 ⟨c.val / 3, by omega⟩ ⟨c.val % 3, by omega⟩) := by
  subst hx
  after_reads_simp
  pointwise
  rw [dif_pos h]

theorem v110_at (V : Valuation τ sig (Elt F)) (x : FVec F S68x3 .f32) (hx : V (Proc.devRef .tc main_arg5) = x) (c : Fin 256) (h : c.val < 204) :
    (StableHlo.after (hostOps0_11.take 14) V (Proc.devRef .tc main_v110) : FVec F S256 .f32) (ix1 c) = x (ix2 ⟨c.val / 3, by omega⟩ 2) := by
  subst hx
  after_reads_simp
  pointwise
  rw [dif_pos h]

end Cert.Proof.KernelHost

end
-- ==== Proof.KernelHostD.lean ====
/-
  Fourth part: the sections laid one after the other.
-/
module

public import proofs.«01_k».proof.Proof.Gen.KernelIdeal.Frame
public import Idealize.ShloMosaic.Lib.StableHlo.RunRead
public import Idealize.ShloMosaic.Lib.Pointwise
public import Idealize.ShloMosaic.Lib.Tactic
public import proofs.«01_k».proof.Proof.Gathers

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

theorem cut11 : (hostOps0_11 : List (HloOp τ sig (Elt F))) = hostOps0_11.take 14 ++ hostOps0_11.drop 14 := rfl

theorem v117_at (V : Valuation τ sig (Elt F)) (z : FVec F S5023 .f32) (hz : V (Proc.devRef .tc main_v1) = z) (v : Fin 5023) :
    (StableHlo.after (hostOps0_11.drop 14) V (Proc.devRef .tc main_v117) : FVec F S1x5023 .f32) (ix2 0 v) = z (ix1 v) := by
  after_reads_simp
  rw [hz]
  pointwise

theorem v112_0 (V : Valuation τ sig (Elt F)) (c : Fin 256) :
    (StableHlo.after (hostOps0_11.drop 14) V (Proc.devRef .tc main_v112) : IVec S1x1280 32) (ix2 0 ⟨0 + c.val, by omega⟩) = (V (Proc.devRef .tc main_v34) : IVec S256 32) (ix1 c) := by
  after_reads_simp
  pointwise
  try rw [dif_pos (by omega)]
  have hu : StableHlo.upto (hostOps0_11.drop 14) V 0 (Proc.devRef .tc main_v34) = V (Proc.devRef .tc main_v34) := by
    unfold StableHlo.upto
    after_reads_simp
  exact congrFun hu _

theorem v112_1 (V : Valuation τ sig (Elt F)) (c : Fin 256) :
    (StableHlo.after (hostOps0_11.drop 14) V (Proc.devRef .tc main_v112) : IVec S1x1280 32) (ix2 0 ⟨256 + c.val, by omega⟩) = (V (Proc.devRef .tc main_v40) : IVec S256 32) (ix1 c) := by
  after_reads_simp
  pointwise
  try rw [dif_neg (by omega)]
  try rw [dif_pos (by omega)]
  have hu : StableHlo.upto (hostOps0_11.drop 14) V 0 (Proc.devRef .tc main_v40) = V (Proc.devRef .tc main_v40) := by
    unfold StableHlo.upto
    after_reads_simp
  exact congrFun hu _

theorem v112_2 (V : Valuation τ sig (Elt F)) (c : Fin 256) :
    (StableHlo.after (hostOps0_11.drop 14) V (Proc.devRef .tc main_v112) : IVec S1x1280 32) (ix2 0 ⟨512 + c.val, by omega⟩) = (V (Proc.devRef .tc main_v62) : IVec S256 32) (ix1 c) := by
  after_reads_simp
  pointwise
  try rw [dif_neg (by omega)]
  try rw [dif_neg (by omega)]
  try rw [dif_pos (by omega)]
  have hu : StableHlo.upto (hostOps0_11.drop 14) V 0 (Proc.devRef .tc main_v62) = V (Proc.devRef .tc main_v62) := by
    unfold StableHlo.upto
    after_reads_simp
  rw [← hu]
  refine congrArg (StableHlo.upto (hostOps0_11.drop 14) V 0 (Proc.devRef .tc main_v62) : IVec S256 32) (congrArg ix1 (Fin.ext ?_))
  show 512 + c.val - 256 - 256 = c.val
  omega

theorem v112_3 (V : Valuation τ sig (Elt F)) (c : Fin 256) :
    (StableHlo.after (hostOps0_11.drop 14) V (Proc.devRef .tc main_v112) : IVec S1x1280 32) (ix2 0 ⟨768 + c.val, by omega⟩) = (V (Proc.devRef .tc main_v84) : IVec S256 32) (ix1 c) := by
  after_reads_simp
  pointwise
  try rw [dif_neg (by omega)]
  try rw [dif_neg (by omega)]
  try rw [dif_neg (by omega)]
  try rw [dif_pos (by omega)]
  have hu : StableHlo.upto (hostOps0_11.drop 14) V 0 (Proc.devRef .tc main_v84) = V (Proc.devRef .tc main_v84) := by
    unfold StableHlo.upto
    after_reads_simp
  rw [← hu]
  refine congrArg (StableHlo.upto (hostOps0_11.drop 14) V 0 (Proc.devRef .tc main_v84) : IVec S256 32) (congrArg ix1 (Fin.ext ?_))
  show 768 + c.val - 256 - 256 - 256 = c.val
  omega

theorem v112_4 (V : Valuation τ sig (Elt F)) (c : Fin 256) :
    (StableHlo.after (hostOps0_11.drop 14) V (Proc.devRef .tc main_v112) : IVec S1x1280 32) (ix2 0 ⟨1024 + c.val, by omega⟩) = (V (Proc.devRef .tc main_v106) : IVec S256 32) (ix1 c) := by
  after_reads_simp
  pointwise
  try rw [dif_neg (by omega)]
  try rw [dif_neg (by omega)]
  try rw [dif_neg (by omega)]
  try rw [dif_neg (by omega)]
  have hu : StableHlo.upto (hostOps0_11.drop 14) V 0 (Proc.devRef .tc main_v106) = V (Proc.devRef .tc main_v106) := by
    unfold StableHlo.upto
    after_reads_simp
  rw [← hu]
  refine congrArg (StableHlo.upto (hostOps0_11.drop 14) V 0 (Proc.devRef .tc main_v106) : IVec S256 32) (congrArg ix1 (Fin.ext ?_))
  show 1024 + c.val - 256 - 256 - 256 - 256 = c.val
  omega

theorem v114_0 (V : Valuation τ sig (Elt F)) (c : Fin 256) :
    (StableHlo.after (hostOps0_11.drop 14) V (Proc.devRef .tc main_v114) : FVec F S1x1280 .f32) (ix2 0 ⟨0 + c.val, by omega⟩) = (V (Proc.devRef .tc main_v42) : FVec F S256 .f32) (ix1 c) := by
  after_reads_simp
  pointwise
  try rw [dif_pos (by omega)]
  have hu : StableHlo.upto (hostOps0_11.drop 14) V 2 (Proc.devRef .tc main_v42) = V (Proc.devRef .tc main_v42) := by
    unfold StableHlo.upto
    after_reads_simp
  exact congrFun hu _

theorem v114_1 (V : Valuation τ sig (Elt F)) (c : Fin 256) :
    (StableHlo.after (hostOps0_11.drop 14) V (Proc.devRef .tc main_v114) : FVec F S1x1280 .f32) (ix2 0 ⟨256 + c.val, by omega⟩) = (V (Proc.devRef .tc main_v44) : FVec F S256 .f32) (ix1 c) := by
  after_reads_simp
  pointwise
  try rw [dif_neg (by omega)]
  try rw [dif_pos (by omega)]
  have hu : StableHlo.upto (hostOps0_11.drop 14) V 2 (Proc.devRef .tc main_v44) = V (Proc.devRef .tc main_v44) := by
    unfold StableHlo.upto
    after_reads_simp
  exact congrFun hu _

theorem v114_2 (V : Valuation τ sig (Elt F)) (c : Fin 256) :
    (StableHlo.after (hostOps0_11.drop 14) V (Proc.devRef .tc main_v114) : FVec F S1x1280 .f32) (ix2 0 ⟨512 + c.val, by omega⟩) = (V (Proc.devRef .tc main_v64) : FVec F S256 .f32) (ix1 c) := by
  after_reads_simp
  pointwise
  try rw [dif_neg (by omega)]
  try rw [dif_neg (by omega)]
  try rw [dif_pos (by omega)]
  have hu : StableHlo.upto (hostOps0_11.drop 14) V 2 (Proc.devRef .tc main_v64) = V (Proc.devRef .tc main_v64) := by
    unfold StableHlo.upto
    after_reads_simp
  rw [← hu]
  refine congrArg (StableHlo.upto (hostOps0_11.drop 14) V 2 (Proc.devRef .tc main_v64) : FVec F S256 .f32) (congrArg ix1 (Fin.ext ?_))
  show 512 + c.val - 256 - 256 = c.val
  omega

theorem v114_3 (V : Valuation τ sig (Elt F)) (c : Fin 256) :
    (StableHlo.after (hostOps0_11.drop 14) V (Proc.devRef .tc main_v114) : FVec F S1x1280 .f32) (ix2 0 ⟨768 + c.val, by omega⟩) = (V (Proc.devRef .tc main_v86) : FVec F S256 .f32) (ix1 c) := by
  after_reads_simp
  pointwise
  try rw [dif_neg (by omega)]
  try rw [dif_neg (by omega)]
  try rw [dif_neg (by omega)]
  try rw [dif_pos (by omega)]
  have hu : StableHlo.upto (hostOps0_11.drop 14) V 2 (Proc.devRef .tc main_v86) = V (Proc.devRef .tc main_v86) := by
    unfold StableHlo.upto
    after_reads_simp
  rw [← hu]
  refine congrArg (StableHlo.upto (hostOps0_11.drop 14) V 2 (Proc.devRef .tc main_v86) : FVec F S256 .f32) (congrArg ix1 (Fin.ext ?_))
  show 768 + c.val - 256 - 256 - 256 = c.val
  omega

theorem v114_4 (V : Valuation τ sig (Elt F)) (c : Fin 256) :
    (StableHlo.after (hostOps0_11.drop 14) V (Proc.devRef .tc main_v114) : FVec F S1x1280 .f32) (ix2 0 ⟨1024 + c.val, by omega⟩) = (V (Proc.devRef .tc main_v108) : FVec F S256 .f32) (ix1 c) := by
  after_reads_simp
  pointwise
  try rw [dif_neg (by omega)]
  try rw [dif_neg (by omega)]
  try rw [dif_neg (by omega)]
  try rw [dif_neg (by omega)]
  have hu : StableHlo.upto (hostOps0_11.drop 14) V 2 (Proc.devRef .tc main_v108) = V (Proc.devRef .tc main_v108) := by
    unfold StableHlo.upto
    after_reads_simp
  rw [← hu]
  refine congrArg (StableHlo.upto (hostOps0_11.drop 14) V 2 (Proc.devRef .tc main_v108) : FVec F S256 .f32) (congrArg ix1 (Fin.ext ?_))
  show 1024 + c.val - 256 - 256 - 256 - 256 = c.val
  omega

theorem v116_0 (V : Valuation τ sig (Elt F)) (c : Fin 256) :
    (StableHlo.after (hostOps0_11.drop 14) V (Proc.devRef .tc main_v116) : FVec F S1x768 .f32) (ix2 0 ⟨0 + c.val, by omega⟩) = (V (Proc.devRef .tc main_v66) : FVec F S256 .f32) (ix1 c) := by
  after_reads_simp
  pointwise
  try rw [dif_pos (by omega)]
  have hu : StableHlo.upto (hostOps0_11.drop 14) V 4 (Proc.devRef .tc main_v66) = V (Proc.devRef .tc main_v66) := by
    unfold StableHlo.upto
    after_reads_simp
  exact congrFun hu _

theorem v116_1 (V : Valuation τ sig (Elt F)) (c : Fin 256) :
    (StableHlo.after (hostOps0_11.drop 14) V (Proc.devRef .tc main_v116) : FVec F S1x768 .f32) (ix2 0 ⟨256 + c.val, by omega⟩) = (V (Proc.devRef .tc main_v88) : FVec F S256 .f32) (ix1 c) := by
  after_reads_simp
  pointwise
  try rw [dif_neg (by omega)]
  try rw [dif_pos (by omega)]
  have hu : StableHlo.upto (hostOps0_11.drop 14) V 4 (Proc.devRef .tc main_v88) = V (Proc.devRef .tc main_v88) := by
    unfold StableHlo.upto
    after_reads_simp
  exact congrFun hu _

theorem v116_2 (V : Valuation τ sig (Elt F)) (c : Fin 256) :
    (StableHlo.after (hostOps0_11.drop 14) V (Proc.devRef .tc main_v116) : FVec F S1x768 .f32) (ix2 0 ⟨512 + c.val, by omega⟩) = (V (Proc.devRef .tc main_v110) : FVec F S256 .f32) (ix1 c) := by
  after_reads_simp
  pointwise
  try rw [dif_neg (by omega)]
  try rw [dif_neg (by omega)]
  have hu : StableHlo.upto (hostOps0_11.drop 14) V 4 (Proc.devRef .tc main_v110) = V (Proc.devRef .tc main_v110) := by
    unfold StableHlo.upto
    after_reads_simp
  rw [← hu]
  refine congrArg (StableHlo.upto (hostOps0_11.drop 14) V 4 (Proc.devRef .tc main_v110) : FVec F S256 .f32) (congrArg ix1 (Fin.ext ?_))
  show 512 + c.val - 256 - 256 = c.val
  omega

end Cert.Proof.KernelHost

end
-- ==== Proof.KernelKeepA.lean ====
/-
  What each stretch of the kernel's host operations leaves as it was, first half.
-/
module

public import proofs.«01_k».proof.Proof.Gen.KernelIdeal.Frame
public import Idealize.ShloMosaic.Lib.StableHlo.RunRead
public import Idealize.ShloMosaic.Lib.Pointwise
public import Idealize.ShloMosaic.Lib.Tactic

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

theorem keep_s0a_arg2 (V : Valuation τ sig (Elt F)) :
    StableHlo.after (hostOps0.take 2) V (Proc.devRef .tc main_arg2) = V (Proc.devRef .tc main_arg2) := by
  after_reads_simp

theorem keep_s0a_arg3 (V : Valuation τ sig (Elt F)) :
    StableHlo.after (hostOps0.take 2) V (Proc.devRef .tc main_arg3) = V (Proc.devRef .tc main_arg3) := by
  after_reads_simp

theorem keep_s0a_arg4 (V : Valuation τ sig (Elt F)) :
    StableHlo.after (hostOps0.take 2) V (Proc.devRef .tc main_arg4) = V (Proc.devRef .tc main_arg4) := by
  after_reads_simp

theorem keep_s0a_arg5 (V : Valuation τ sig (Elt F)) :
    StableHlo.after (hostOps0.take 2) V (Proc.devRef .tc main_arg5) = V (Proc.devRef .tc main_arg5) := by
  after_reads_simp

theorem keep_s0b_arg2 (V : Valuation τ sig (Elt F)) :
    StableHlo.after (hostOps0.drop 2) V (Proc.devRef .tc main_arg2) = V (Proc.devRef .tc main_arg2) := by
  after_reads_simp

theorem keep_s0b_arg3 (V : Valuation τ sig (Elt F)) :
    StableHlo.after (hostOps0.drop 2) V (Proc.devRef .tc main_arg3) = V (Proc.devRef .tc main_arg3) := by
  after_reads_simp

theorem keep_s0b_arg4 (V : Valuation τ sig (Elt F)) :
    StableHlo.after (hostOps0.drop 2) V (Proc.devRef .tc main_arg4) = V (Proc.devRef .tc main_arg4) := by
  after_reads_simp

theorem keep_s0b_arg5 (V : Valuation τ sig (Elt F)) :
    StableHlo.after (hostOps0.drop 2) V (Proc.devRef .tc main_arg5) = V (Proc.devRef .tc main_arg5) := by
  after_reads_simp

theorem keep_s0b_v1 (V : Valuation τ sig (Elt F)) :
    StableHlo.after (hostOps0.drop 2) V (Proc.devRef .tc main_v1) = V (Proc.devRef .tc main_v1) := by
  after_reads_simp

theorem keep_s1_arg2 (V : Valuation τ sig (Elt F)) :
    StableHlo.after hostOps0_1 V (Proc.devRef .tc main_arg2) = V (Proc.devRef .tc main_arg2) := by
  after_reads_simp

theorem keep_s1_arg3 (V : Valuation τ sig (Elt F)) :
    StableHlo.after hostOps0_1 V (Proc.devRef .tc main_arg3) = V (Proc.devRef .tc main_arg3) := by
  after_reads_simp

theorem keep_s1_arg4 (V : Valuation τ sig (Elt F)) :
    StableHlo.after hostOps0_1 V (Proc.devRef .tc main_arg4) = V (Proc.devRef .tc main_arg4) := by
  after_reads_simp

theorem keep_s1_arg5 (V : Valuation τ sig (Elt F)) :
    StableHlo.after hostOps0_1 V (Proc.devRef .tc main_arg5) = V (Proc.devRef .tc main_arg5) := by
  after_reads_simp

theorem keep_s1_v1 (V : Valuation τ sig (Elt F)) :
    StableHlo.after hostOps0_1 V (Proc.devRef .tc main_v1) = V (Proc.devRef .tc main_v1) := by
  after_reads_simp

theorem keep_s1_indices (V : Valuation τ sig (Elt F)) :
    StableHlo.after hostOps0_1 V (Proc.devRef .tc main_indices) = V (Proc.devRef .tc main_indices) := by
  after_reads_simp

theorem keep_s1_indices_4 (V : Valuation τ sig (Elt F)) :
    StableHlo.after hostOps0_1 V (Proc.devRef .tc main_indices_4) = V (Proc.devRef .tc main_indices_4) := by
  after_reads_simp

theorem keep_s2_arg2 (V : Valuation τ sig (Elt F)) :
    StableHlo.after hostOps0_2 V (Proc.devRef .tc main_arg2) = V (Proc.devRef .tc main_arg2) := by
  after_reads_simp

theorem keep_s2_arg3 (V : Valuation τ sig (Elt F)) :
    StableHlo.after hostOps0_2 V (Proc.devRef .tc main_arg3) = V (Proc.devRef .tc main_arg3) := by
  after_reads_simp

theorem keep_s2_arg4 (V : Valuation τ sig (Elt F)) :
    StableHlo.after hostOps0_2 V (Proc.devRef .tc main_arg4) = V (Proc.devRef .tc main_arg4) := by
  after_reads_simp

theorem keep_s2_arg5 (V : Valuation τ sig (Elt F)) :
    StableHlo.after hostOps0_2 V (Proc.devRef .tc main_arg5) = V (Proc.devRef .tc main_arg5) := by
  after_reads_simp

theorem keep_s2_v1 (V : Valuation τ sig (Elt F)) :
    StableHlo.after hostOps0_2 V (Proc.devRef .tc main_v1) = V (Proc.devRef .tc main_v1) := by
  after_reads_simp

theorem keep_s2_indices (V : Valuation τ sig (Elt F)) :
    StableHlo.after hostOps0_2 V (Proc.devRef .tc main_indices) = V (Proc.devRef .tc main_indices) := by
  after_reads_simp

theorem keep_s2_indices_4 (V : Valuation τ sig (Elt F)) :
    StableHlo.after hostOps0_2 V (Proc.devRef .tc main_indices_4) = V (Proc.devRef .tc main_indices_4) := by
  after_reads_simp

theorem keep_s2_v16 (V : Valuation τ sig (Elt F)) :
    StableHlo.after hostOps0_2 V (Proc.devRef .tc main_v16) = V (Proc.devRef .tc main_v16) := by
  after_reads_simp

theorem keep_s3_arg2 (V : Valuation τ sig (Elt F)) :
    StableHlo.after hostOps0_3 V (Proc.devRef .tc main_arg2) = V (Proc.devRef .tc main_arg2) := by
  after_reads_simp

theorem keep_s3_arg3 (V : Valuation τ sig (Elt F)) :
    StableHlo.after hostOps0_3 V (Proc.devRef .tc main_arg3) = V (Proc.devRef .tc main_arg3) := by
  after_reads_simp

theorem keep_s3_arg4 (V : Valuation τ sig (Elt F)) :
    StableHlo.after hostOps0_3 V (Proc.devRef .tc main_arg4) = V (Proc.devRef .tc main_arg4) := by
  after_reads_simp

theorem keep_s3_arg5 (V : Valuation τ sig (Elt F)) :
    StableHlo.after hostOps0_3 V (Proc.devRef .tc main_arg5) = V (Proc.devRef .tc main_arg5) := by
  after_reads_simp

theorem keep_s3_v1 (V : Valuation τ sig (Elt F)) :
    StableHlo.after hostOps0_3 V (Proc.devRef .tc main_v1) = V (Proc.devRef .tc main_v1) := by
  after_reads_simp

theorem keep_s3_indices (V : Valuation τ sig (Elt F)) :
    StableHlo.after hostOps0_3 V (Proc.devRef .tc main_indices) = V (Proc.devRef .tc main_indices) := by
  after_reads_simp

theorem keep_s3_indices_4 (V : Valuation τ sig (Elt F)) :
    StableHlo.after hostOps0_3 V (Proc.devRef .tc main_indices_4) = V (Proc.devRef .tc main_indices_4) := by
  after_reads_simp

theorem keep_s3_v16 (V : Valuation τ sig (Elt F)) :
    StableHlo.after hostOps0_3 V (Proc.devRef .tc main_v16) = V (Proc.devRef .tc main_v16) := by
  after_reads_simp

theorem keep_s3_v17 (V : Valuation τ sig (Elt F)) :
    StableHlo.after hostOps0_3 V (Proc.devRef .tc main_v17) = V (Proc.devRef .tc main_v17) := by
  after_reads_simp

theorem keep_s4_arg2 (V : Valuation τ sig (Elt F)) :
    StableHlo.after hostOps0_4 V (Proc.devRef .tc main_arg2) = V (Proc.devRef .tc main_arg2) := by
  after_reads_simp

theorem keep_s4_arg5 (V : Valuation τ sig (Elt F)) :
    StableHlo.after hostOps0_4 V (Proc.devRef .tc main_arg5) = V (Proc.devRef .tc main_arg5) := by
  after_reads_simp

theorem keep_s4_v1 (V : Valuation τ sig (Elt F)) :
    StableHlo.after hostOps0_4 V (Proc.devRef .tc main_v1) = V (Proc.devRef .tc main_v1) := by
  after_reads_simp

theorem keep_s4_indices (V : Valuation τ sig (Elt F)) :
    StableHlo.after hostOps0_4 V (Proc.devRef .tc main_indices) = V (Proc.devRef .tc main_indices) := by
  after_reads_simp

theorem keep_s4_indices_4 (V : Valuation τ sig (Elt F)) :
    StableHlo.after hostOps0_4 V (Proc.devRef .tc main_indices_4) = V (Proc.devRef .tc main_indices_4) := by
  after_reads_simp

theorem keep_s4_v16 (V : Valuation τ sig (Elt F)) :
    StableHlo.after hostOps0_4 V (Proc.devRef .tc main_v16) = V (Proc.devRef .tc main_v16) := by
  after_reads_simp

theorem keep_s4_v17 (V : Valuation τ sig (Elt F)) :
    StableHlo.after hostOps0_4 V (Proc.devRef .tc main_v17) = V (Proc.devRef .tc main_v17) := by
  after_reads_simp

theorem keep_s4_v24 (V : Valuation τ sig (Elt F)) :
    StableHlo.after hostOps0_4 V (Proc.devRef .tc main_v24) = V (Proc.devRef .tc main_v24) := by
  after_reads_simp

theorem keep_s4_v26 (V : Valuation τ sig (Elt F)) :
    StableHlo.after hostOps0_4 V (Proc.devRef .tc main_v26) = V (Proc.devRef .tc main_v26) := by
  after_reads_simp

theorem keep_s5_arg2 (V : Valuation τ sig (Elt F)) :
    StableHlo.after hostOps0_5 V (Proc.devRef .tc main_arg2) = V (Proc.devRef .tc main_arg2) := by
  after_reads_simp

theorem keep_s5_arg5 (V : Valuation τ sig (Elt F)) :
    StableHlo.after hostOps0_5 V (Proc.devRef .tc main_arg5) = V (Proc.devRef .tc main_arg5) := by
  after_reads_simp

theorem keep_s5_v1 (V : Valuation τ sig (Elt F)) :
    StableHlo.after hostOps0_5 V (Proc.devRef .tc main_v1) = V (Proc.devRef .tc main_v1) := by
  after_reads_simp

theorem keep_s5_v24 (V : Valuation τ sig (Elt F)) :
    StableHlo.after hostOps0_5 V (Proc.devRef .tc main_v24) = V (Proc.devRef .tc main_v24) := by
  after_reads_simp

theorem keep_s5_v26 (V : Valuation τ sig (Elt F)) :
    StableHlo.after hostOps0_5 V (Proc.devRef .tc main_v26) = V (Proc.devRef .tc main_v26) := by
  after_reads_simp

theorem keep_s5_v27 (V : Valuation τ sig (Elt F)) :
    StableHlo.after hostOps0_5 V (Proc.devRef .tc main_v27) = V (Proc.devRef .tc main_v27) := by
  after_reads_simp

theorem keep_s6_arg2 (V : Valuation τ sig (Elt F)) :
    StableHlo.after hostOps0_6 V (Proc.devRef .tc main_arg2) = V (Proc.devRef .tc main_arg2) := by
  after_reads_simp

theorem keep_s6_arg5 (V : Valuation τ sig (Elt F)) :
    StableHlo.after hostOps0_6 V (Proc.devRef .tc main_arg5) = V (Proc.devRef .tc main_arg5) := by
  after_reads_simp

theorem keep_s6_v1 (V : Valuation τ sig (Elt F)) :
    StableHlo.after hostOps0_6 V (Proc.devRef .tc main_v1) = V (Proc.devRef .tc main_v1) := by
  after_reads_simp

theorem keep_s6_v24 (V : Valuation τ sig (Elt F)) :
    StableHlo.after hostOps0_6 V (Proc.devRef .tc main_v24) = V (Proc.devRef .tc main_v24) := by
  after_reads_simp

theorem keep_s6_v26 (V : Valuation τ sig (Elt F)) :
    StableHlo.after hostOps0_6 V (Proc.devRef .tc main_v26) = V (Proc.devRef .tc main_v26) := by
  after_reads_simp

theorem keep_s6_v27 (V : Valuation τ sig (Elt F)) :
    StableHlo.after hostOps0_6 V (Proc.devRef .tc main_v27) = V (Proc.devRef .tc main_v27) := by
  after_reads_simp

theorem keep_s6_v34 (V : Valuation τ sig (Elt F)) :
    StableHlo.after hostOps0_6 V (Proc.devRef .tc main_v34) = V (Proc.devRef .tc main_v34) := by
  after_reads_simp

theorem keep_s6_v40 (V : Valuation τ sig (Elt F)) :
    StableHlo.after hostOps0_6 V (Proc.devRef .tc main_v40) = V (Proc.devRef .tc main_v40) := by
  after_reads_simp

theorem keep_s6_v42 (V : Valuation τ sig (Elt F)) :
    StableHlo.after hostOps0_6 V (Proc.devRef .tc main_v42) = V (Proc.devRef .tc main_v42) := by
  after_reads_simp

theorem keep_s6_v44 (V : Valuation τ sig (Elt F)) :
    StableHlo.after hostOps0_6 V (Proc.devRef .tc main_v44) = V (Proc.devRef .tc main_v44) := by
  after_reads_simp

theorem keep_s6_v28 (V : Valuation τ sig (Elt F)) :
    StableHlo.after hostOps0_6 V (Proc.devRef .tc main_v28) = V (Proc.devRef .tc main_v28) := by
  after_reads_simp

theorem keep_s6_v54 (V : Valuation τ sig (Elt F)) :
    StableHlo.after hostOps0_6 V (Proc.devRef .tc main_v54) = V (Proc.devRef .tc main_v54) := by
  after_reads_simp

theorem keep_s7_arg2 (V : Valuation τ sig (Elt F)) :
    StableHlo.after hostOps0_7 V (Proc.devRef .tc main_arg2) = V (Proc.devRef .tc main_arg2) := by
  after_reads_simp

theorem keep_s7_arg5 (V : Valuation τ sig (Elt F)) :
    StableHlo.after hostOps0_7 V (Proc.devRef .tc main_arg5) = V (Proc.devRef .tc main_arg5) := by
  after_reads_simp

theorem keep_s7_v1 (V : Valuation τ sig (Elt F)) :
    StableHlo.after hostOps0_7 V (Proc.devRef .tc main_v1) = V (Proc.devRef .tc main_v1) := by
  after_reads_simp

theorem keep_s7_v24 (V : Valuation τ sig (Elt F)) :
    StableHlo.after hostOps0_7 V (Proc.devRef .tc main_v24) = V (Proc.devRef .tc main_v24) := by
  after_reads_simp

end Cert.Proof.KernelHost

end
-- ==== Proof.KernelKeepB.lean ====
/-
  What each stretch of the kernel's host operations leaves as it was, second half.
-/
module

public import proofs.«01_k».proof.Proof.Gen.KernelIdeal.Frame
public import Idealize.ShloMosaic.Lib.StableHlo.RunRead
public import Idealize.ShloMosaic.Lib.Pointwise
public import Idealize.ShloMosaic.Lib.Tactic

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

theorem keep_s7_v26 (V : Valuation τ sig (Elt F)) :
    StableHlo.after hostOps0_7 V (Proc.devRef .tc main_v26) = V (Proc.devRef .tc main_v26) := by
  after_reads_simp

theorem keep_s7_v27 (V : Valuation τ sig (Elt F)) :
    StableHlo.after hostOps0_7 V (Proc.devRef .tc main_v27) = V (Proc.devRef .tc main_v27) := by
  after_reads_simp

theorem keep_s7_v34 (V : Valuation τ sig (Elt F)) :
    StableHlo.after hostOps0_7 V (Proc.devRef .tc main_v34) = V (Proc.devRef .tc main_v34) := by
  after_reads_simp

theorem keep_s7_v40 (V : Valuation τ sig (Elt F)) :
    StableHlo.after hostOps0_7 V (Proc.devRef .tc main_v40) = V (Proc.devRef .tc main_v40) := by
  after_reads_simp

theorem keep_s7_v42 (V : Valuation τ sig (Elt F)) :
    StableHlo.after hostOps0_7 V (Proc.devRef .tc main_v42) = V (Proc.devRef .tc main_v42) := by
  after_reads_simp

theorem keep_s7_v44 (V : Valuation τ sig (Elt F)) :
    StableHlo.after hostOps0_7 V (Proc.devRef .tc main_v44) = V (Proc.devRef .tc main_v44) := by
  after_reads_simp

theorem keep_s7_v28 (V : Valuation τ sig (Elt F)) :
    StableHlo.after hostOps0_7 V (Proc.devRef .tc main_v28) = V (Proc.devRef .tc main_v28) := by
  after_reads_simp

theorem keep_s8_arg2 (V : Valuation τ sig (Elt F)) :
    StableHlo.after hostOps0_8 V (Proc.devRef .tc main_arg2) = V (Proc.devRef .tc main_arg2) := by
  after_reads_simp

theorem keep_s8_arg5 (V : Valuation τ sig (Elt F)) :
    StableHlo.after hostOps0_8 V (Proc.devRef .tc main_arg5) = V (Proc.devRef .tc main_arg5) := by
  after_reads_simp

theorem keep_s8_v1 (V : Valuation τ sig (Elt F)) :
    StableHlo.after hostOps0_8 V (Proc.devRef .tc main_v1) = V (Proc.devRef .tc main_v1) := by
  after_reads_simp

theorem keep_s8_v24 (V : Valuation τ sig (Elt F)) :
    StableHlo.after hostOps0_8 V (Proc.devRef .tc main_v24) = V (Proc.devRef .tc main_v24) := by
  after_reads_simp

theorem keep_s8_v26 (V : Valuation τ sig (Elt F)) :
    StableHlo.after hostOps0_8 V (Proc.devRef .tc main_v26) = V (Proc.devRef .tc main_v26) := by
  after_reads_simp

theorem keep_s8_v27 (V : Valuation τ sig (Elt F)) :
    StableHlo.after hostOps0_8 V (Proc.devRef .tc main_v27) = V (Proc.devRef .tc main_v27) := by
  after_reads_simp

theorem keep_s8_v34 (V : Valuation τ sig (Elt F)) :
    StableHlo.after hostOps0_8 V (Proc.devRef .tc main_v34) = V (Proc.devRef .tc main_v34) := by
  after_reads_simp

theorem keep_s8_v40 (V : Valuation τ sig (Elt F)) :
    StableHlo.after hostOps0_8 V (Proc.devRef .tc main_v40) = V (Proc.devRef .tc main_v40) := by
  after_reads_simp

theorem keep_s8_v42 (V : Valuation τ sig (Elt F)) :
    StableHlo.after hostOps0_8 V (Proc.devRef .tc main_v42) = V (Proc.devRef .tc main_v42) := by
  after_reads_simp

theorem keep_s8_v44 (V : Valuation τ sig (Elt F)) :
    StableHlo.after hostOps0_8 V (Proc.devRef .tc main_v44) = V (Proc.devRef .tc main_v44) := by
  after_reads_simp

theorem keep_s8_v28 (V : Valuation τ sig (Elt F)) :
    StableHlo.after hostOps0_8 V (Proc.devRef .tc main_v28) = V (Proc.devRef .tc main_v28) := by
  after_reads_simp

theorem keep_s8_v62 (V : Valuation τ sig (Elt F)) :
    StableHlo.after hostOps0_8 V (Proc.devRef .tc main_v62) = V (Proc.devRef .tc main_v62) := by
  after_reads_simp

theorem keep_s8_v64 (V : Valuation τ sig (Elt F)) :
    StableHlo.after hostOps0_8 V (Proc.devRef .tc main_v64) = V (Proc.devRef .tc main_v64) := by
  after_reads_simp

theorem keep_s8_v66 (V : Valuation τ sig (Elt F)) :
    StableHlo.after hostOps0_8 V (Proc.devRef .tc main_v66) = V (Proc.devRef .tc main_v66) := by
  after_reads_simp

theorem keep_s8_v76 (V : Valuation τ sig (Elt F)) :
    StableHlo.after hostOps0_8 V (Proc.devRef .tc main_v76) = V (Proc.devRef .tc main_v76) := by
  after_reads_simp

theorem keep_s9_arg2 (V : Valuation τ sig (Elt F)) :
    StableHlo.after hostOps0_9 V (Proc.devRef .tc main_arg2) = V (Proc.devRef .tc main_arg2) := by
  after_reads_simp

theorem keep_s9_arg5 (V : Valuation τ sig (Elt F)) :
    StableHlo.after hostOps0_9 V (Proc.devRef .tc main_arg5) = V (Proc.devRef .tc main_arg5) := by
  after_reads_simp

theorem keep_s9_v1 (V : Valuation τ sig (Elt F)) :
    StableHlo.after hostOps0_9 V (Proc.devRef .tc main_v1) = V (Proc.devRef .tc main_v1) := by
  after_reads_simp

theorem keep_s9_v24 (V : Valuation τ sig (Elt F)) :
    StableHlo.after hostOps0_9 V (Proc.devRef .tc main_v24) = V (Proc.devRef .tc main_v24) := by
  after_reads_simp

theorem keep_s9_v26 (V : Valuation τ sig (Elt F)) :
    StableHlo.after hostOps0_9 V (Proc.devRef .tc main_v26) = V (Proc.devRef .tc main_v26) := by
  after_reads_simp

theorem keep_s9_v34 (V : Valuation τ sig (Elt F)) :
    StableHlo.after hostOps0_9 V (Proc.devRef .tc main_v34) = V (Proc.devRef .tc main_v34) := by
  after_reads_simp

theorem keep_s9_v40 (V : Valuation τ sig (Elt F)) :
    StableHlo.after hostOps0_9 V (Proc.devRef .tc main_v40) = V (Proc.devRef .tc main_v40) := by
  after_reads_simp

theorem keep_s9_v42 (V : Valuation τ sig (Elt F)) :
    StableHlo.after hostOps0_9 V (Proc.devRef .tc main_v42) = V (Proc.devRef .tc main_v42) := by
  after_reads_simp

theorem keep_s9_v44 (V : Valuation τ sig (Elt F)) :
    StableHlo.after hostOps0_9 V (Proc.devRef .tc main_v44) = V (Proc.devRef .tc main_v44) := by
  after_reads_simp

theorem keep_s9_v62 (V : Valuation τ sig (Elt F)) :
    StableHlo.after hostOps0_9 V (Proc.devRef .tc main_v62) = V (Proc.devRef .tc main_v62) := by
  after_reads_simp

theorem keep_s9_v64 (V : Valuation τ sig (Elt F)) :
    StableHlo.after hostOps0_9 V (Proc.devRef .tc main_v64) = V (Proc.devRef .tc main_v64) := by
  after_reads_simp

theorem keep_s9_v66 (V : Valuation τ sig (Elt F)) :
    StableHlo.after hostOps0_9 V (Proc.devRef .tc main_v66) = V (Proc.devRef .tc main_v66) := by
  after_reads_simp

theorem keep_s10_arg5 (V : Valuation τ sig (Elt F)) :
    StableHlo.after hostOps0_10 V (Proc.devRef .tc main_arg5) = V (Proc.devRef .tc main_arg5) := by
  after_reads_simp

theorem keep_s10_v1 (V : Valuation τ sig (Elt F)) :
    StableHlo.after hostOps0_10 V (Proc.devRef .tc main_v1) = V (Proc.devRef .tc main_v1) := by
  after_reads_simp

theorem keep_s10_v24 (V : Valuation τ sig (Elt F)) :
    StableHlo.after hostOps0_10 V (Proc.devRef .tc main_v24) = V (Proc.devRef .tc main_v24) := by
  after_reads_simp

theorem keep_s10_v26 (V : Valuation τ sig (Elt F)) :
    StableHlo.after hostOps0_10 V (Proc.devRef .tc main_v26) = V (Proc.devRef .tc main_v26) := by
  after_reads_simp

theorem keep_s10_v34 (V : Valuation τ sig (Elt F)) :
    StableHlo.after hostOps0_10 V (Proc.devRef .tc main_v34) = V (Proc.devRef .tc main_v34) := by
  after_reads_simp

theorem keep_s10_v40 (V : Valuation τ sig (Elt F)) :
    StableHlo.after hostOps0_10 V (Proc.devRef .tc main_v40) = V (Proc.devRef .tc main_v40) := by
  after_reads_simp

theorem keep_s10_v42 (V : Valuation τ sig (Elt F)) :
    StableHlo.after hostOps0_10 V (Proc.devRef .tc main_v42) = V (Proc.devRef .tc main_v42) := by
  after_reads_simp

theorem keep_s10_v44 (V : Valuation τ sig (Elt F)) :
    StableHlo.after hostOps0_10 V (Proc.devRef .tc main_v44) = V (Proc.devRef .tc main_v44) := by
  after_reads_simp

theorem keep_s10_v62 (V : Valuation τ sig (Elt F)) :
    StableHlo.after hostOps0_10 V (Proc.devRef .tc main_v62) = V (Proc.devRef .tc main_v62) := by
  after_reads_simp

theorem keep_s10_v64 (V : Valuation τ sig (Elt F)) :
    StableHlo.after hostOps0_10 V (Proc.devRef .tc main_v64) = V (Proc.devRef .tc main_v64) := by
  after_reads_simp

theorem keep_s10_v66 (V : Valuation τ sig (Elt F)) :
    StableHlo.after hostOps0_10 V (Proc.devRef .tc main_v66) = V (Proc.devRef .tc main_v66) := by
  after_reads_simp

theorem keep_s10_v84 (V : Valuation τ sig (Elt F)) :
    StableHlo.after hostOps0_10 V (Proc.devRef .tc main_v84) = V (Proc.devRef .tc main_v84) := by
  after_reads_simp

theorem keep_s10_v86 (V : Valuation τ sig (Elt F)) :
    StableHlo.after hostOps0_10 V (Proc.devRef .tc main_v86) = V (Proc.devRef .tc main_v86) := by
  after_reads_simp

theorem keep_s10_v88 (V : Valuation τ sig (Elt F)) :
    StableHlo.after hostOps0_10 V (Proc.devRef .tc main_v88) = V (Proc.devRef .tc main_v88) := by
  after_reads_simp

theorem keep_s10_v98 (V : Valuation τ sig (Elt F)) :
    StableHlo.after hostOps0_10 V (Proc.devRef .tc main_v98) = V (Proc.devRef .tc main_v98) := by
  after_reads_simp

theorem keep_s11a_v1 (V : Valuation τ sig (Elt F)) :
    StableHlo.after (hostOps0_11.take 14) V (Proc.devRef .tc main_v1) = V (Proc.devRef .tc main_v1) := by
  after_reads_simp

theorem keep_s11a_v24 (V : Valuation τ sig (Elt F)) :
    StableHlo.after (hostOps0_11.take 14) V (Proc.devRef .tc main_v24) = V (Proc.devRef .tc main_v24) := by
  after_reads_simp

theorem keep_s11a_v26 (V : Valuation τ sig (Elt F)) :
    StableHlo.after (hostOps0_11.take 14) V (Proc.devRef .tc main_v26) = V (Proc.devRef .tc main_v26) := by
  after_reads_simp

theorem keep_s11a_v34 (V : Valuation τ sig (Elt F)) :
    StableHlo.after (hostOps0_11.take 14) V (Proc.devRef .tc main_v34) = V (Proc.devRef .tc main_v34) := by
  after_reads_simp

theorem keep_s11a_v40 (V : Valuation τ sig (Elt F)) :
    StableHlo.after (hostOps0_11.take 14) V (Proc.devRef .tc main_v40) = V (Proc.devRef .tc main_v40) := by
  after_reads_simp

theorem keep_s11a_v42 (V : Valuation τ sig (Elt F)) :
    StableHlo.after (hostOps0_11.take 14) V (Proc.devRef .tc main_v42) = V (Proc.devRef .tc main_v42) := by
  after_reads_simp

theorem keep_s11a_v44 (V : Valuation τ sig (Elt F)) :
    StableHlo.after (hostOps0_11.take 14) V (Proc.devRef .tc main_v44) = V (Proc.devRef .tc main_v44) := by
  after_reads_simp

theorem keep_s11a_v62 (V : Valuation τ sig (Elt F)) :
    StableHlo.after (hostOps0_11.take 14) V (Proc.devRef .tc main_v62) = V (Proc.devRef .tc main_v62) := by
  after_reads_simp

theorem keep_s11a_v64 (V : Valuation τ sig (Elt F)) :
    StableHlo.after (hostOps0_11.take 14) V (Proc.devRef .tc main_v64) = V (Proc.devRef .tc main_v64) := by
  after_reads_simp

theorem keep_s11a_v66 (V : Valuation τ sig (Elt F)) :
    StableHlo.after (hostOps0_11.take 14) V (Proc.devRef .tc main_v66) = V (Proc.devRef .tc main_v66) := by
  after_reads_simp

theorem keep_s11a_v84 (V : Valuation τ sig (Elt F)) :
    StableHlo.after (hostOps0_11.take 14) V (Proc.devRef .tc main_v84) = V (Proc.devRef .tc main_v84) := by
  after_reads_simp

theorem keep_s11a_v86 (V : Valuation τ sig (Elt F)) :
    StableHlo.after (hostOps0_11.take 14) V (Proc.devRef .tc main_v86) = V (Proc.devRef .tc main_v86) := by
  after_reads_simp

theorem keep_s11a_v88 (V : Valuation τ sig (Elt F)) :
    StableHlo.after (hostOps0_11.take 14) V (Proc.devRef .tc main_v88) = V (Proc.devRef .tc main_v88) := by
  after_reads_simp

theorem keep_s11b_v24 (V : Valuation τ sig (Elt F)) :
    StableHlo.after (hostOps0_11.drop 14) V (Proc.devRef .tc main_v24) = V (Proc.devRef .tc main_v24) := by
  after_reads_simp

theorem keep_s11b_v26 (V : Valuation τ sig (Elt F)) :
    StableHlo.after (hostOps0_11.drop 14) V (Proc.devRef .tc main_v26) = V (Proc.devRef .tc main_v26) := by
  after_reads_simp

end Cert.Proof.KernelHost

end
-- ==== Proof.Select.lean ====
/-
  The two selections: the first 128 positions of a sort of the 5023 vertices by a key, greatest first.
  They are different positions, and where at most 128 vertices have a key of at least a threshold, all of these are among them.
-/
module

public import proofs.«01_k».proof.Proof.Gen.KernelIdeal.Frame
public import Idealize.ShloMosaic.Lib.Pointwise
public import Idealize.ShloMosaic.Lib.SortFacts

@[expose] public section

set_option maxRecDepth 16384

noncomputable section

namespace Cert.Proof.Select

open Idealize.ShloMosaic Cert.KernelIdeal

variable {F : FTy → Type} [FloatOps F]

/-- Vertex `k` goes before vertex `k'`: its key is the greater. -/
def before (z : FVec F S5023 .f32) (k k' : Fin 5023) : Bool := FloatOps.cmpfTotal CmpDirection.gt (z (ix1 k)) (z (ix1 k')) == 1#1

/-- The vertex in place `p`. -/
def pick (z : FVec F S5023 .f32) (p : Fin 128) : Fin 5023 := sortedFrom (before z) ⟨p.val, by omega⟩

theorem pick_injective (z : FVec F S5023 .f32) : Function.Injective (pick z) := fun p q h =>
  Fin.ext (Fin.mk.inj_iff.1 (sortedFrom_injective (before z) h))

theorem along_eq (j : S5023.Idx) (k : Fin 5023) : (Shape.Idx.along j 0 k : S5023.Idx) = ix1 k := by
  funext a
  match a with
  | ⟨0, _⟩ => exact Function.update_self (β := fun a => Fin (S5023.size a)) 0 k j

theorem topK_at (z : FVec F S5023 .f32) (h : S5023.Slices (fun _ => 0) S128) (p : Fin 128) :
    (Host.topK S128 0 (FloatOps.cmpfTotal CmpDirection.gt) z h).2 (ix1 p) = BitVec.ofNat 32 (pick z p).val := by
  have key : ∀ q : Fin 5023,
      (Host.sort2 S5023 0 (fun l r => FloatOps.cmpfTotal CmpDirection.gt l.1 r.1) z
        (fun i => if hd : 0 < S5023.rank then iotaInDim S5023 32 ⟨0, hd⟩ i else 0#32)).2 (ix1 q)
        = BitVec.ofNat 32 (sortedFrom (before z) q).val := by
    intro q
    have e : (fun k k' => FloatOps.cmpfTotal CmpDirection.gt (z (Shape.Idx.along (ix1 q : S5023.Idx) 0 k))
        (z (Shape.Idx.along (ix1 q : S5023.Idx) 0 k')) == 1#1) = before z := by
      funext k k'
      exact congrArg₂ (fun a b : S5023.Idx => FloatOps.cmpfTotal CmpDirection.gt (z a) (z b) == 1#1) (along_eq (ix1 q) k) (along_eq (ix1 q) k')
    have e2 : ∀ k : Fin 5023, ((Shape.Idx.along (ix1 q : S5023.Idx) 0 k : S5023.Idx) 0).val = k.val := fun k =>
      congrArg (fun i : S5023.Idx => (i 0).val) (along_eq (ix1 q) k)
    rw [← e]
    exact congrArg (BitVec.ofNat 32) (e2 _)
  have hq : ∀ j : S5023.Idx, (j 0).val = p.val → j = ix1 ⟨p.val, by omega⟩ := fun j hj => by
    funext a
    match a with
    | ⟨0, _⟩ => exact Fin.ext hj
  unfold Host.topK
  exact (congrArg _ (hq _ (by show 0 + p.val = p.val; omega))).trans (key ⟨p.val, by omega⟩)

/-- Every vertex whose key is at least `θ` is selected, where there are at most 128 of them. -/
theorem pick_covers (z : FVec Ideal S5023 .f32) (θ : EReal)
    (hcard : (Finset.univ.filter fun k : Fin 5023 => θ ≤ (z (ix1 k) : EReal)).card ≤ 128) (k : Fin 5023) (hk : θ ≤ (z (ix1 k) : EReal)) :
    ∃ p, pick z p = k := by
  have hb : ∀ a b, before z a b = decide ((z (ix1 b) : EReal) < z (ix1 a)) := fun a b => by
    unfold before
    show (BitVec.ofBool (decide ((z (ix1 a) : EReal) > z (ix1 b))) == 1#1) = _
    by_cases h : (z (ix1 b) : EReal) < z (ix1 a)
    · rw [decide_eq_true h]; rfl
    · rw [decide_eq_false h]; rfl
  obtain ⟨i, hi⟩ := sortedFrom_surjective (before z) k
  by_cases hlt : i.val < 128
  · exact ⟨⟨i.val, hlt⟩, hi⟩
  exfalso
  have hmono : ∀ j : Fin 5023, j ≤ i → θ ≤ (z (ix1 (sortedFrom (before z) j)) : EReal) := by
    intro j hj
    rcases lt_or_eq_of_le hj with hj | rfl
    · have := sortedFrom_noInversion (before z) (before z)
        (fun a b h => by rw [hb] at h ⊢; exact decide_eq_false (not_lt.2 (le_of_lt (of_decide_eq_true h))))
        (fun _ _ h => h)
        (fun a b c h1 h2 => by
          rw [hb] at h1 h2 ⊢
          exact decide_eq_false (not_lt.2 (le_trans (not_lt.1 (of_decide_eq_false h1)) (not_lt.1 (of_decide_eq_false h2)))))
        j i hj
      rw [hi, hb] at this
      exact hk.trans (not_lt.1 (of_decide_eq_false this))
    · rw [hi]; exact hk
  have hsub : (Finset.Iic i).image (sortedFrom (before z)) ⊆ Finset.univ.filter fun k : Fin 5023 => θ ≤ (z (ix1 k) : EReal) := by
    intro x hx
    obtain ⟨j, hj, rfl⟩ := Finset.mem_image.1 hx
    exact Finset.mem_filter.2 ⟨Finset.mem_univ _, hmono j (Finset.mem_Iic.1 hj)⟩
  have hc := Finset.card_le_card hsub
  rw [Finset.card_image_of_injective _ (sortedFrom_injective _), Fin.card_Iic] at hc
  omega

end Cert.Proof.Select

end
-- ==== Proof.KernelHost.lean ====
/-
  What the arrays handed to the kernel's call hold.
-/
module

public import proofs.«01_k».proof.Proof.Gen.KernelIdeal.Frame
public import Idealize.ShloMosaic.Lib.StableHlo.RunRead
public import Idealize.ShloMosaic.Lib.Pointwise
public import Idealize.ShloMosaic.Lib.Tactic
public import proofs.«01_k».proof.Proof.KernelHostA
public import proofs.«01_k».proof.Proof.KernelHostB
public import proofs.«01_k».proof.Proof.KernelHostC
public import proofs.«01_k».proof.Proof.KernelHostD
public import proofs.«01_k».proof.Proof.KernelKeepA
public import proofs.«01_k».proof.Proof.KernelKeepB
public import proofs.«01_k».proof.Proof.Select

@[expose] public section

set_option maxRecDepth 100000

noncomputable section

namespace Cert.Proof.KernelHost

open Idealize.ShloMosaic Idealize.ShloMosaic.TcCoe Cert.KernelIdeal Cert.KernelIdeal.Gen

variable {F : FTy → Type} [FloatOps F] [Named F]

/-- What the arrays handed to the call hold, over the template, the two selections, the vertices of the landmark faces and the weights. -/
structure Facts (W : Valuation τ sig (Elt F)) (t : FVec F S5023x3 .f32) (e g : Fin 128 → Fin 5023) (fv : Fin 68 → Fin 3 → Fin 5023)
    (bc : FVec F S68x3 .f32) : Prop where
  tz : ∀ v, (W (Proc.devRef .tc main_v117) : FVec F S1x5023 .f32) (ix2 0 v) = t (ix2 v 2)
  smat : ∀ p v, (W (Proc.devRef .tc main_v24) : FVec F S128x5023 .f32) (ix2 p v)
    = FloatOps.uitofp .f32 (IntOp.cmpi .eq (BitVec.ofNat 32 (g p).val) (BitVec.ofNat 32 v.val))
  mask : ∀ v, (W (Proc.devRef .tc main_v26) : FVec F S1x5023 .f32) (ix2 0 v)
    = Host.reduce FloatOps.maximumf (W (Proc.devRef .tc main_v24) : FVec F S128x5023 .f32) (constant S_ FTy.f32 4286578688#32)
      reducesTo_S128x5023_S5023_d0 h_S_ (ix1 v)
  offE : ∀ (c : Fin 256) (h : c.val < 128), (W (Proc.devRef .tc main_v112) : IVec S1x1280 32) (ix2 0 ⟨0 + c.val, by omega⟩)
    = BitVec.ofNat 32 (e ⟨c.val, h⟩).val * 3#32 + 2#32
  offB : ∀ (c : Fin 256) (h : c.val < 128), (W (Proc.devRef .tc main_v112) : IVec S1x1280 32) (ix2 0 ⟨256 + c.val, by omega⟩)
    = BitVec.ofNat 32 (g ⟨c.val, h⟩).val * 3#32 + 2#32
  tzaE : ∀ (c : Fin 256) (h : c.val < 128), (W (Proc.devRef .tc main_v114) : FVec F S1x1280 .f32) (ix2 0 ⟨0 + c.val, by omega⟩)
    = t (ix2 (e ⟨c.val, h⟩) 2)
  tzaB : ∀ (c : Fin 256) (h : c.val < 128), (W (Proc.devRef .tc main_v114) : FVec F S1x1280 .f32) (ix2 0 ⟨256 + c.val, by omega⟩)
    = t (ix2 (g ⟨c.val, h⟩) 2)
  off0 : ∀ (c : Fin 256) (h : c.val < 204), (W (Proc.devRef .tc main_v112) : IVec S1x1280 32) (ix2 0 ⟨512 + c.val, by omega⟩)
    = BitVec.ofNat 32 (fv ⟨c.val / 3, by omega⟩ 0).val * 3#32 + BitVec.ofNat 32 (c.val % 3)
  tza0 : ∀ (c : Fin 256) (h : c.val < 204), (W (Proc.devRef .tc main_v114) : FVec F S1x1280 .f32) (ix2 0 ⟨512 + c.val, by omega⟩)
    = t (ix2 (fv ⟨c.val / 3, by omega⟩ 0) ⟨c.val % 3, by omega⟩)
  w0 : ∀ (c : Fin 256) (h : c.val < 204), (W (Proc.devRef .tc main_v116) : FVec F S1x768 .f32) (ix2 0 ⟨0 + c.val, by omega⟩)
    = bc (ix2 ⟨c.val / 3, by omega⟩ 0)
  off1 : ∀ (c : Fin 256) (h : c.val < 204), (W (Proc.devRef .tc main_v112) : IVec S1x1280 32) (ix2 0 ⟨768 + c.val, by omega⟩)
    = BitVec.ofNat 32 (fv ⟨c.val / 3, by omega⟩ 1).val * 3#32 + BitVec.ofNat 32 (c.val % 3)
  tza1 : ∀ (c : Fin 256) (h : c.val < 204), (W (Proc.devRef .tc main_v114) : FVec F S1x1280 .f32) (ix2 0 ⟨768 + c.val, by omega⟩)
    = t (ix2 (fv ⟨c.val / 3, by omega⟩ 1) ⟨c.val % 3, by omega⟩)
  w1 : ∀ (c : Fin 256) (h : c.val < 204), (W (Proc.devRef .tc main_v116) : FVec F S1x768 .f32) (ix2 0 ⟨256 + c.val, by omega⟩)
    = bc (ix2 ⟨c.val / 3, by omega⟩ 1)
  off2 : ∀ (c : Fin 256) (h : c.val < 204), (W (Proc.devRef .tc main_v112) : IVec S1x1280 32) (ix2 0 ⟨1024 + c.val, by omega⟩)
    = BitVec.ofNat 32 (fv ⟨c.val / 3, by omega⟩ 2).val * 3#32 + BitVec.ofNat 32 (c.val % 3)
  tza2 : ∀ (c : Fin 256) (h : c.val < 204), (W (Proc.devRef .tc main_v114) : FVec F S1x1280 .f32) (ix2 0 ⟨1024 + c.val, by omega⟩)
    = t (ix2 (fv ⟨c.val / 3, by omega⟩ 2) ⟨c.val % 3, by omega⟩)
  w2 : ∀ (c : Fin 256) (h : c.val < 204), (W (Proc.devRef .tc main_v116) : FVec F S1x768 .f32) (ix2 0 ⟨512 + c.val, by omega⟩)
    = bc (ix2 ⟨c.val / 3, by omega⟩ 2)

theorem chain (U0 U1 U2 U3 U4 U5 U6 U7 U8 U9 U10 U11 U12 U13 U14 : Valuation τ sig (Elt F)) (h1 : StableHlo.after (hostOps0.take 2) U0 = U1) (h2 : StableHlo.after (hostOps0.drop 2) U1 = U2) (h3 : StableHlo.after hostOps0_1 U2 = U3) (h4 : StableHlo.after hostOps0_2 U3 = U4) (h5 : StableHlo.after hostOps0_3 U4 = U5) (h6 : StableHlo.after hostOps0_4 U5 = U6) (h7 : StableHlo.after hostOps0_5 U6 = U7) (h8 : StableHlo.after hostOps0_6 U7 = U8) (h9 : StableHlo.after hostOps0_7 U8 = U9) (h10 : StableHlo.after hostOps0_8 U9 = U10) (h11 : StableHlo.after hostOps0_9 U10 = U11) (h12 : StableHlo.after hostOps0_10 U11 = U12) (h13 : StableHlo.after (hostOps0_11.take 14) U12 = U13) (h14 : StableHlo.after (hostOps0_11.drop 14) U13 = U14)
    (t : FVec F S5023x3 .f32) (ht : U0 (Proc.devRef .tc main_arg2) = t) (faces : IVec S9976x3 32) (hfa : U0 (Proc.devRef .tc main_arg3) = faces)
    (idx : IVec S68 32) (hid : U0 (Proc.devRef .tc main_arg4) = idx) (bc : FVec F S68x3 .f32) (hbc : U0 (Proc.devRef .tc main_arg5) = bc)
    (fi : Fin 68 → Fin 9976) (hi : ∀ l, idx (ix1 l) = BitVec.ofNat 32 (fi l).val)
    (fc : Fin 9976 → Fin 3 → Fin 5023) (hf : ∀ r j, faces (ix2 r j) = BitVec.ofNat 32 (fc r j).val) :
    Facts U14 t (Select.pick (fromMid (depth t))) (Select.pick (fromCut (depth t))) (fun l j => fc (fi l) j) bc := by
  have k_arg2_7 : U7 (Proc.devRef .tc main_arg2) = t := by rw [← h7, keep_s5_arg2, ← h6, keep_s4_arg2, ← h5, keep_s3_arg2, ← h4, keep_s2_arg2, ← h3, keep_s1_arg2, ← h2, keep_s0b_arg2, ← h1, keep_s0a_arg2, ht]
  have k_arg2_9 : U9 (Proc.devRef .tc main_arg2) = t := by rw [← h9, keep_s7_arg2, ← h8, keep_s6_arg2, ← h7, keep_s5_arg2, ← h6, keep_s4_arg2, ← h5, keep_s3_arg2, ← h4, keep_s2_arg2, ← h3, keep_s1_arg2, ← h2, keep_s0b_arg2, ← h1, keep_s0a_arg2, ht]
  have k_arg2_11 : U11 (Proc.devRef .tc main_arg2) = t := by rw [← h11, keep_s9_arg2, ← h10, keep_s8_arg2, ← h9, keep_s7_arg2, ← h8, keep_s6_arg2, ← h7, keep_s5_arg2, ← h6, keep_s4_arg2, ← h5, keep_s3_arg2, ← h4, keep_s2_arg2, ← h3, keep_s1_arg2, ← h2, keep_s0b_arg2, ← h1, keep_s0a_arg2, ht]
  have k_arg3_5 : U5 (Proc.devRef .tc main_arg3) = faces := by rw [← h5, keep_s3_arg3, ← h4, keep_s2_arg3, ← h3, keep_s1_arg3, ← h2, keep_s0b_arg3, ← h1, keep_s0a_arg3, hfa]
  have k_arg4_5 : U5 (Proc.devRef .tc main_arg4) = idx := by rw [← h5, keep_s3_arg4, ← h4, keep_s2_arg4, ← h3, keep_s1_arg4, ← h2, keep_s0b_arg4, ← h1, keep_s0a_arg4, hid]
  have k_arg5_8 : U8 (Proc.devRef .tc main_arg5) = bc := by rw [← h8, keep_s6_arg5, ← h7, keep_s5_arg5, ← h6, keep_s4_arg5, ← h5, keep_s3_arg5, ← h4, keep_s2_arg5, ← h3, keep_s1_arg5, ← h2, keep_s0b_arg5, ← h1, keep_s0a_arg5, hbc]
  have k_arg5_10 : U10 (Proc.devRef .tc main_arg5) = bc := by rw [← h10, keep_s8_arg5, ← h9, keep_s7_arg5, ← h8, keep_s6_arg5, ← h7, keep_s5_arg5, ← h6, keep_s4_arg5, ← h5, keep_s3_arg5, ← h4, keep_s2_arg5, ← h3, keep_s1_arg5, ← h2, keep_s0b_arg5, ← h1, keep_s0a_arg5, hbc]
  have k_arg5_12 : U12 (Proc.devRef .tc main_arg5) = bc := by rw [← h12, keep_s10_arg5, ← h11, keep_s9_arg5, ← h10, keep_s8_arg5, ← h9, keep_s7_arg5, ← h8, keep_s6_arg5, ← h7, keep_s5_arg5, ← h6, keep_s4_arg5, ← h5, keep_s3_arg5, ← h4, keep_s2_arg5, ← h3, keep_s1_arg5, ← h2, keep_s0b_arg5, ← h1, keep_s0a_arg5, hbc]
  have b_v1 : U1 (Proc.devRef .tc main_v1) = depth t := by rw [← h1]; exact v1_eq U0 t ht
  have k_v1_1 := b_v1
  have k_v1_2 : U2 (Proc.devRef .tc main_v1) = depth t := by rw [← h2, keep_s0b_v1, b_v1]
  have k_v1_3 : U3 (Proc.devRef .tc main_v1) = depth t := by rw [← h3, keep_s1_v1, ← h2, keep_s0b_v1, b_v1]
  have k_v1_13 : U13 (Proc.devRef .tc main_v1) = depth t := by rw [← h13, keep_s11a_v1, ← h12, keep_s10_v1, ← h11, keep_s9_v1, ← h10, keep_s8_v1, ← h9, keep_s7_v1, ← h8, keep_s6_v1, ← h7, keep_s5_v1, ← h6, keep_s4_v1, ← h5, keep_s3_v1, ← h4, keep_s2_v1, ← h3, keep_s1_v1, ← h2, keep_s0b_v1, b_v1]
  have b_indices : U2 (Proc.devRef .tc main_indices) = (Host.topK S128 0 (FloatOps.cmpfTotal CmpDirection.gt) (fromMid (depth t)) sliceFits_S5023_S128).2 := by rw [← h2]; exact ends_eq U1 _ b_v1
  have k_indices_2 := b_indices
  have k_indices_6 : U6 (Proc.devRef .tc main_indices) = (Host.topK S128 0 (FloatOps.cmpfTotal CmpDirection.gt) (fromMid (depth t)) sliceFits_S5023_S128).2 := by rw [← h6, keep_s4_indices, ← h5, keep_s3_indices, ← h4, keep_s2_indices, ← h3, keep_s1_indices, b_indices]
  have b_indices_4 : U2 (Proc.devRef .tc main_indices_4) = (Host.topK S128 0 (FloatOps.cmpfTotal CmpDirection.gt) (fromCut (depth t)) sliceFits_S5023_S128).2 := by rw [← h2]; exact band_eq U1 _ b_v1
  have k_indices_4_3 : U3 (Proc.devRef .tc main_indices_4) = (Host.topK S128 0 (FloatOps.cmpfTotal CmpDirection.gt) (fromCut (depth t)) sliceFits_S5023_S128).2 := by rw [← h3, keep_s1_indices_4, b_indices_4]
  have k_indices_4_4 : U4 (Proc.devRef .tc main_indices_4) = (Host.topK S128 0 (FloatOps.cmpfTotal CmpDirection.gt) (fromCut (depth t)) sliceFits_S5023_S128).2 := by rw [← h4, keep_s2_indices_4, ← h3, keep_s1_indices_4, b_indices_4]
  have k_indices_4_6 : U6 (Proc.devRef .tc main_indices_4) = (Host.topK S128 0 (FloatOps.cmpfTotal CmpDirection.gt) (fromCut (depth t)) sliceFits_S5023_S128).2 := by rw [← h6, keep_s4_indices_4, ← h5, keep_s3_indices_4, ← h4, keep_s2_indices_4, ← h3, keep_s1_indices_4, b_indices_4]
  have b_v16 : ∀ p : Fin 128, (U3 (Proc.devRef .tc main_v16) : FVec F S128 .f32) (ix1 p) = t (ix2 (Select.pick (fromMid (depth t)) p) 2) := fun p => by
    rw [← h3]; exact v16_at U2 _ k_v1_2 _ k_indices_2 _ (Select.topK_at _ _) p
  have b_v17 : ∀ p : Fin 128, (U4 (Proc.devRef .tc main_v17) : FVec F S128 .f32) (ix1 p) = t (ix2 (Select.pick (fromCut (depth t)) p) 2) := fun p => by
    rw [← h4]; exact v17_at U3 _ k_v1_3 _ k_indices_4_3 _ (Select.topK_at _ _) p
  have k_v16_6 : U6 (Proc.devRef .tc main_v16) = U3 (Proc.devRef .tc main_v16) := by rw [← h6, keep_s4_v16, ← h5, keep_s3_v16, ← h4, keep_s2_v16]
  have k_v17_6 : U6 (Proc.devRef .tc main_v17) = U4 (Proc.devRef .tc main_v17) := by rw [← h6, keep_s4_v17, ← h5, keep_s3_v17]
  have k_v24_14 : U14 (Proc.devRef .tc main_v24) = U5 (Proc.devRef .tc main_v24) := by rw [← h14, keep_s11b_v24, ← h13, keep_s11a_v24, ← h12, keep_s10_v24, ← h11, keep_s9_v24, ← h10, keep_s8_v24, ← h9, keep_s7_v24, ← h8, keep_s6_v24, ← h7, keep_s5_v24, ← h6, keep_s4_v24]
  have k_v26_14 : U14 (Proc.devRef .tc main_v26) = U5 (Proc.devRef .tc main_v26) := by rw [← h14, keep_s11b_v26, ← h13, keep_s11a_v26, ← h12, keep_s10_v26, ← h11, keep_s9_v26, ← h10, keep_s8_v26, ← h9, keep_s7_v26, ← h8, keep_s6_v26, ← h7, keep_s5_v26, ← h6, keep_s4_v26]
  have k_v27_6 : U6 (Proc.devRef .tc main_v27) = U6 (Proc.devRef .tc main_v27) := rfl
  have k_v27_8 : U8 (Proc.devRef .tc main_v27) = U6 (Proc.devRef .tc main_v27) := by rw [← h8, keep_s6_v27, ← h7, keep_s5_v27]
  have k_v27_10 : U10 (Proc.devRef .tc main_v27) = U6 (Proc.devRef .tc main_v27) := by rw [← h10, keep_s8_v27, ← h9, keep_s7_v27, ← h8, keep_s6_v27, ← h7, keep_s5_v27]
  have b_v27 : ∀ l j, (U6 (Proc.devRef .tc main_v27) : IVec S68x3 32) (ix2 l j) = BitVec.ofNat 32 (fc (fi l) j).val := fun l j => by
    rw [← hf, ← h6]; exact v27_at U5 _ _ k_arg4_5 k_arg3_5 fi hi l j
  have b_v28 : U7 (Proc.devRef .tc main_v28) = iotaInDim S3 32 0 := by rw [← h7]; exact v28_eq U6
  have k_v28_8 : U8 (Proc.devRef .tc main_v28) = iotaInDim S3 32 0 := by rw [← h8, keep_s6_v28, b_v28]
  have k_v28_10 : U10 (Proc.devRef .tc main_v28) = iotaInDim S3 32 0 := by rw [← h10, keep_s8_v28, ← h9, keep_s7_v28, ← h8, keep_s6_v28, b_v28]
  have k_v34_13 : U13 (Proc.devRef .tc main_v34) = U7 (Proc.devRef .tc main_v34) := by rw [← h13, keep_s11a_v34, ← h12, keep_s10_v34, ← h11, keep_s9_v34, ← h10, keep_s8_v34, ← h9, keep_s7_v34, ← h8, keep_s6_v34]
  have k_v40_13 : U13 (Proc.devRef .tc main_v40) = U7 (Proc.devRef .tc main_v40) := by rw [← h13, keep_s11a_v40, ← h12, keep_s10_v40, ← h11, keep_s9_v40, ← h10, keep_s8_v40, ← h9, keep_s7_v40, ← h8, keep_s6_v40]
  have k_v42_13 : U13 (Proc.devRef .tc main_v42) = U7 (Proc.devRef .tc main_v42) := by rw [← h13, keep_s11a_v42, ← h12, keep_s10_v42, ← h11, keep_s9_v42, ← h10, keep_s8_v42, ← h9, keep_s7_v42, ← h8, keep_s6_v42]
  have k_v44_13 : U13 (Proc.devRef .tc main_v44) = U7 (Proc.devRef .tc main_v44) := by rw [← h13, keep_s11a_v44, ← h12, keep_s10_v44, ← h11, keep_s9_v44, ← h10, keep_s8_v44, ← h9, keep_s7_v44, ← h8, keep_s6_v44]
  have k_v46_7 : U7 (Proc.devRef .tc main_v46) = U7 (Proc.devRef .tc main_v46) := rfl
  have k_v54_8 : U8 (Proc.devRef .tc main_v54) = U7 (Proc.devRef .tc main_v54) := by rw [← h8, keep_s6_v54]
  have k_v55_8 : U8 (Proc.devRef .tc main_v55) = U8 (Proc.devRef .tc main_v55) := rfl
  have k_v62_13 : U13 (Proc.devRef .tc main_v62) = U9 (Proc.devRef .tc main_v62) := by rw [← h13, keep_s11a_v62, ← h12, keep_s10_v62, ← h11, keep_s9_v62, ← h10, keep_s8_v62]
  have k_v64_13 : U13 (Proc.devRef .tc main_v64) = U9 (Proc.devRef .tc main_v64) := by rw [← h13, keep_s11a_v64, ← h12, keep_s10_v64, ← h11, keep_s9_v64, ← h10, keep_s8_v64]
  have k_v66_13 : U13 (Proc.devRef .tc main_v66) = U9 (Proc.devRef .tc main_v66) := by rw [← h13, keep_s11a_v66, ← h12, keep_s10_v66, ← h11, keep_s9_v66, ← h10, keep_s8_v66]
  have k_v68_9 : U9 (Proc.devRef .tc main_v68) = U9 (Proc.devRef .tc main_v68) := rfl
  have k_v76_10 : U10 (Proc.devRef .tc main_v76) = U9 (Proc.devRef .tc main_v76) := by rw [← h10, keep_s8_v76]
  have k_v77_10 : U10 (Proc.devRef .tc main_v77) = U10 (Proc.devRef .tc main_v77) := rfl
  have k_v84_13 : U13 (Proc.devRef .tc main_v84) = U11 (Proc.devRef .tc main_v84) := by rw [← h13, keep_s11a_v84, ← h12, keep_s10_v84]
  have k_v86_13 : U13 (Proc.devRef .tc main_v86) = U11 (Proc.devRef .tc main_v86) := by rw [← h13, keep_s11a_v86, ← h12, keep_s10_v86]
  have k_v88_13 : U13 (Proc.devRef .tc main_v88) = U11 (Proc.devRef .tc main_v88) := by rw [← h13, keep_s11a_v88, ← h12, keep_s10_v88]
  have k_v90_11 : U11 (Proc.devRef .tc main_v90) = U11 (Proc.devRef .tc main_v90) := rfl
  have k_v98_12 : U12 (Proc.devRef .tc main_v98) = U11 (Proc.devRef .tc main_v98) := by rw [← h12, keep_s10_v98]
  have k_v99_12 : U12 (Proc.devRef .tc main_v99) = U12 (Proc.devRef .tc main_v99) := rfl
  have b_v46 : ∀ l, (U7 (Proc.devRef .tc main_v46) : IVec S68 32) (ix1 l) = BitVec.ofNat 32 (fc (fi l) 0).val := fun l => by
    rw [← b_v27, ← h7]; exact v46_at U6 _ k_v27_6 l
  have b_v54 : ∀ c : Fin 204, (U7 (Proc.devRef .tc main_v54) : IVec S204 32) (ix1 c) = BitVec.ofNat 32 (fc (fi ⟨c.val / 3, by omega⟩) 0).val * 3#32 + BitVec.ofNat 32 (c.val % 3) := fun c => by
    rw [← b_v27, ← h7]; exact v54_at U6 _ k_v27_6 c
  have b_v55 : ∀ l k, (U8 (Proc.devRef .tc main_v55) : FVec F S68x3 .f32) (ix2 l k) = t (ix2 (fc (fi l) 0) k) := fun l k => by
    rw [← h8]; exact v55_at U7 _ k_arg2_7 _ k_v46_7 _ b_v46 l k
  have b_v62 : ∀ (c : Fin 256) (h : c.val < 204), (U9 (Proc.devRef .tc main_v62) : IVec S256 32) (ix1 c) = BitVec.ofNat 32 (fc (fi ⟨c.val / 3, by omega⟩) 0).val * 3#32 + BitVec.ofNat 32 (c.val % 3) := fun c h => by
    rw [← h9]; exact (v62_at U8 _ k_v54_8 c h).trans (b_v54 ⟨c.val, h⟩)
  have b_v64 : ∀ (c : Fin 256) (h : c.val < 204), (U9 (Proc.devRef .tc main_v64) : FVec F S256 .f32) (ix1 c) = t (ix2 (fc (fi ⟨c.val / 3, by omega⟩) 0) ⟨c.val % 3, by omega⟩) := fun c h => by
    rw [← h9]; exact (v64_at U8 _ k_v55_8 c h).trans (b_v55 _ _)
  have b_v66 : ∀ (c : Fin 256) (h : c.val < 204), (U9 (Proc.devRef .tc main_v66) : FVec F S256 .f32) (ix1 c) = bc (ix2 ⟨c.val / 3, by omega⟩ 0) := fun c h => by
    rw [← h9]; exact v66_at U8 _ k_arg5_8 c h
  have b_v68 : ∀ l, (U9 (Proc.devRef .tc main_v68) : IVec S68 32) (ix1 l) = BitVec.ofNat 32 (fc (fi l) 1).val := fun l => by
    rw [← b_v27, ← h9]; exact v68_at U8 _ k_v27_8 l
  have b_v76 : ∀ c : Fin 204, (U9 (Proc.devRef .tc main_v76) : IVec S204 32) (ix1 c) = BitVec.ofNat 32 (fc (fi ⟨c.val / 3, by omega⟩) 1).val * 3#32 + BitVec.ofNat 32 (c.val % 3) := fun c => by
    rw [← b_v27, ← h9]; exact v76_at U8 _ k_v27_8 k_v28_8 c
  have b_v77 : ∀ l k, (U10 (Proc.devRef .tc main_v77) : FVec F S68x3 .f32) (ix2 l k) = t (ix2 (fc (fi l) 1) k) := fun l k => by
    rw [← h10]; exact v77_at U9 _ k_arg2_9 _ k_v68_9 _ b_v68 l k
  have b_v84 : ∀ (c : Fin 256) (h : c.val < 204), (U11 (Proc.devRef .tc main_v84) : IVec S256 32) (ix1 c) = BitVec.ofNat 32 (fc (fi ⟨c.val / 3, by omega⟩) 1).val * 3#32 + BitVec.ofNat 32 (c.val % 3) := fun c h => by
    rw [← h11]; exact (v84_at U10 _ k_v76_10 c h).trans (b_v76 ⟨c.val, h⟩)
  have b_v86 : ∀ (c : Fin 256) (h : c.val < 204), (U11 (Proc.devRef .tc main_v86) : FVec F S256 .f32) (ix1 c) = t (ix2 (fc (fi ⟨c.val / 3, by omega⟩) 1) ⟨c.val % 3, by omega⟩) := fun c h => by
    rw [← h11]; exact (v86_at U10 _ k_v77_10 c h).trans (b_v77 _ _)
  have b_v88 : ∀ (c : Fin 256) (h : c.val < 204), (U11 (Proc.devRef .tc main_v88) : FVec F S256 .f32) (ix1 c) = bc (ix2 ⟨c.val / 3, by omega⟩ 1) := fun c h => by
    rw [← h11]; exact v88_at U10 _ k_arg5_10 c h
  have b_v90 : ∀ l, (U11 (Proc.devRef .tc main_v90) : IVec S68 32) (ix1 l) = BitVec.ofNat 32 (fc (fi l) 2).val := fun l => by
    rw [← b_v27, ← h11]; exact v90_at U10 _ k_v27_10 l
  have b_v98 : ∀ c : Fin 204, (U11 (Proc.devRef .tc main_v98) : IVec S204 32) (ix1 c) = BitVec.ofNat 32 (fc (fi ⟨c.val / 3, by omega⟩) 2).val * 3#32 + BitVec.ofNat 32 (c.val % 3) := fun c => by
    rw [← b_v27, ← h11]; exact v98_at U10 _ k_v27_10 k_v28_10 c
  have b_v99 : ∀ l k, (U12 (Proc.devRef .tc main_v99) : FVec F S68x3 .f32) (ix2 l k) = t (ix2 (fc (fi l) 2) k) := fun l k => by
    rw [← h12]; exact v99_at U11 _ k_arg2_11 _ k_v90_11 _ b_v90 l k
  have b_v106 : ∀ (c : Fin 256) (h : c.val < 204), (U13 (Proc.devRef .tc main_v106) : IVec S256 32) (ix1 c) = BitVec.ofNat 32 (fc (fi ⟨c.val / 3, by omega⟩) 2).val * 3#32 + BitVec.ofNat 32 (c.val % 3) := fun c h => by
    rw [← h13]; exact (v106_at U12 _ k_v98_12 c h).trans (b_v98 ⟨c.val, h⟩)
  have b_v108 : ∀ (c : Fin 256) (h : c.val < 204), (U13 (Proc.devRef .tc main_v108) : FVec F S256 .f32) (ix1 c) = t (ix2 (fc (fi ⟨c.val / 3, by omega⟩) 2) ⟨c.val % 3, by omega⟩) := fun c h => by
    rw [← h13]; exact (v108_at U12 _ k_v99_12 c h).trans (b_v99 _ _)
  have b_v110 : ∀ (c : Fin 256) (h : c.val < 204), (U13 (Proc.devRef .tc main_v110) : FVec F S256 .f32) (ix1 c) = bc (ix2 ⟨c.val / 3, by omega⟩ 2) := fun c h => by
    rw [← h13]; exact v110_at U12 _ k_arg5_12 c h
  have b_v34 : ∀ (c : Fin 256) (h : c.val < 128), (U7 (Proc.devRef .tc main_v34) : IVec S256 32) (ix1 c) = BitVec.ofNat 32 (Select.pick (fromMid (depth t)) ⟨c.val, h⟩).val * 3#32 + 2#32 := fun c h => by
    rw [← Select.topK_at _ sliceFits_S5023_S128, ← h7]; exact v34_at U6 _ k_indices_6 c h
  have b_v40 : ∀ (c : Fin 256) (h : c.val < 128), (U7 (Proc.devRef .tc main_v40) : IVec S256 32) (ix1 c) = BitVec.ofNat 32 (Select.pick (fromCut (depth t)) ⟨c.val, h⟩).val * 3#32 + 2#32 := fun c h => by
    rw [← Select.topK_at _ sliceFits_S5023_S128, ← h7]; exact v40_at U6 _ k_indices_4_6 c h
  have b_v42 : ∀ (c : Fin 256) (h : c.val < 128), (U7 (Proc.devRef .tc main_v42) : FVec F S256 .f32) (ix1 c) = t (ix2 (Select.pick (fromMid (depth t)) ⟨c.val, h⟩) 2) := fun c h => by
    rw [← h7]; exact (v42_at U6 _ k_v16_6 c h).trans (b_v16 ⟨c.val, h⟩)
  have b_v44 : ∀ (c : Fin 256) (h : c.val < 128), (U7 (Proc.devRef .tc main_v44) : FVec F S256 .f32) (ix1 c) = t (ix2 (Select.pick (fromCut (depth t)) ⟨c.val, h⟩) 2) := fun c h => by
    rw [← h7]; exact (v44_at U6 _ k_v17_6 c h).trans (b_v17 ⟨c.val, h⟩)
  refine ⟨fun v => ?_, fun p v => ?_, fun v => ?_, fun c h => ?_, fun c h => ?_, fun c h => ?_, fun c h => ?_, fun c h => ?_, fun c h => ?_, fun c h => ?_, fun c h => ?_, fun c h => ?_, fun c h => ?_, fun c h => ?_, fun c h => ?_, fun c h => ?_⟩
  · rw [← h14]; exact v117_at U13 _ k_v1_13 v
  · rw [k_v24_14, ← Select.topK_at _ sliceFits_S5023_S128, ← h5]; exact v24_at U4 _ k_indices_4_4 p v
  · rw [k_v26_14, k_v24_14, ← h5]; exact v26_at U4 v
  · rw [← h14]; exact (v112_0 U13 c).trans ((congrFun k_v34_13 _).trans (b_v34 c h))
  · rw [← h14]; exact (v112_1 U13 c).trans ((congrFun k_v40_13 _).trans (b_v40 c h))
  · rw [← h14]; exact (v114_0 U13 c).trans ((congrFun k_v42_13 _).trans (b_v42 c h))
  · rw [← h14]; exact (v114_1 U13 c).trans ((congrFun k_v44_13 _).trans (b_v44 c h))
  · rw [← h14]; exact (v112_2 U13 c).trans ((congrFun k_v62_13 _).trans (b_v62 c h))
  · rw [← h14]; exact (v114_2 U13 c).trans ((congrFun k_v64_13 _).trans (b_v64 c h))
  · rw [← h14]; exact (v116_0 U13 c).trans ((congrFun k_v66_13 _).trans (b_v66 c h))
  · rw [← h14]; exact (v112_3 U13 c).trans ((congrFun k_v84_13 _).trans (b_v84 c h))
  · rw [← h14]; exact (v114_3 U13 c).trans ((congrFun k_v86_13 _).trans (b_v86 c h))
  · rw [← h14]; exact (v116_1 U13 c).trans ((congrFun k_v88_13 _).trans (b_v88 c h))
  · rw [← h14]; exact (v112_4 U13 c).trans ((b_v106 c h))
  · rw [← h14]; exact (v114_4 U13 c).trans ((b_v108 c h))
  · rw [← h14]; exact (v116_2 U13 c).trans ((b_v110 c h))

theorem cutAll : (List.flatten [hostOps0, hostOps0_1, hostOps0_2, hostOps0_3, hostOps0_4, hostOps0_5, hostOps0_6, hostOps0_7, hostOps0_8, hostOps0_9, hostOps0_10, hostOps0_11] : List (HloOp τ sig (Elt F)))
    = (hostOps0.take 2) ++ ((hostOps0.drop 2) ++ (hostOps0_1 ++ (hostOps0_2 ++ (hostOps0_3 ++ (hostOps0_4 ++ (hostOps0_5 ++ (hostOps0_6 ++ (hostOps0_7 ++ (hostOps0_8 ++ (hostOps0_9 ++ (hostOps0_10 ++ ((hostOps0_11.take 14) ++ ((hostOps0_11.drop 14)))))))))))))) := rfl

/-- The arrays handed to the call, over any contents before the program. -/
theorem facts (U : Valuation τ sig (Elt F)) (t : FVec F S5023x3 .f32) (ht : U (Proc.devRef .tc main_arg2) = t)
    (faces : IVec S9976x3 32) (hfa : U (Proc.devRef .tc main_arg3) = faces)
    (idx : IVec S68 32) (hid : U (Proc.devRef .tc main_arg4) = idx) (bc : FVec F S68x3 .f32) (hbc : U (Proc.devRef .tc main_arg5) = bc)
    (fi : Fin 68 → Fin 9976) (hi : ∀ l, idx (ix1 l) = BitVec.ofNat 32 (fi l).val)
    (fc : Fin 9976 → Fin 3 → Fin 5023) (hf : ∀ r j, faces (ix2 r j) = BitVec.ofNat 32 (fc r j).val) :
    Facts (StableHlo.after (List.flatten [hostOps0, hostOps0_1, hostOps0_2, hostOps0_3, hostOps0_4, hostOps0_5, hostOps0_6, hostOps0_7, hostOps0_8, hostOps0_9, hostOps0_10, hostOps0_11]) U)
      t (Select.pick (fromMid (depth t))) (Select.pick (fromCut (depth t))) (fun l j => fc (fi l) j) bc := by
  rw [cutAll]
  simp only [StableHlo.after_append]
  exact chain U _ _ _ _ _ _ _ _ _ _ _ _ _ _ rfl rfl rfl rfl rfl rfl rfl rfl rfl rfl rfl rfl rfl rfl t ht faces hfa idx hid bc hbc fi hi fc hf

end Cert.Proof.KernelHost

end
-- ==== Proof.KernelValue.lean ====
/- What the kernel's two result arrays hold after the region, over the template and the noise. -/
module

public import proofs.«01_k».proof.Proof.KernelBlock
public import proofs.«01_k».proof.Proof.KernelRegion
public import proofs.«01_k».proof.Proof.KernelHost

@[expose] public section

set_option maxRecDepth 100000

noncomputable section

namespace Cert.Proof.KernelValue

open Idealize.ShloMosaic Idealize.ShloMosaic.TcCoe Cert.KernelIdeal Cert.KernelIdeal.Gen Cert.Proof.KernelBlock Cert.Proof.KernelRegion
open Cert.Proof.KernelHost (Facts)

theorem word_sum (x a k : Nat) : BitVec.ofNat 32 x + (BitVec.ofNat 32 a * 3#32 + BitVec.ofNat 32 k) = BitVec.ofNat 32 (x + a * 3 + k) := by
  rw [BitVec.ofNat_add, BitVec.ofNat_add, BitVec.ofNat_mul, BitVec.add_assoc]

variable {F : FTy → Type} [FloatOps F] [Named F]

/-- The deformed coordinate `k` of vertex `v` of batch element `b`. -/
def dfm (t : FVec F S5023x3 .f32) (b : Fin 1024) (v : Fin 5023) (k : Fin 3) : F .f32 :=
  dv (t (ix2 v k)) (BitVec.ofNat 32 (b.val * 15069 + v.val * 3 + k.val))

variable (i : grid0.Coords) (x0 x1 : Vec F S1x5023 .f32) (x2 : Vec F S128x5023 .f32) (x3 : Vec F S1x1280 .i32)
    (x4 : Vec F S1x1280 .f32) (x5 : Vec F S1x768 .f32)

theorem dv_dfm (t : FVec F S5023x3 .f32) (b : Fin 1024) (r : Fin 256) (hb : (i 0).val * 256 + r.val = b.val) (q : Fin 1280) (v : Fin 5023) (k : Fin 3)
    (h4 : x4 (ix2 0 q) = t (ix2 v k)) (h3 : x3 (ix2 0 q) = BitVec.ofNat 32 v.val * 3#32 + BitVec.ofNat 32 k.val) :
    dv (x4 (ix2 0 q)) (BitVec.ofNat 32 (((i 0).val * 256 + r.val) * 15069) + x3 (ix2 0 q)) = dfm t b v k := by
  rw [h4, h3, hb, word_sum]
  rfl

theorem hcoord (b : Fin 1024) : (grid0.coords (pt b) 0).val * 256 + (rw256 b).val = b.val := by
  rw [coord]
  show b.val / 256 * 256 + b.val % 256 = b.val
  omega

/-- The landmark array. -/
theorem lmk_row {W : Valuation τ sig (Elt F)} {t : FVec F S5023x3 .f32} {e g : Fin 128 → Fin 5023} {fv : Fin 68 → Fin 3 → Fin 5023}
    {bc : FVec F S68x3 .f32} (H : Facts W t e g fv bc) (i : grid0.Coords) (b : Fin 1024) (r : Fin 256) (hb : (i 0).val * 256 + r.val = b.val)
    (l : Fin 68) (k : Fin 3) :
    out0_7 (F := F) i (W (Proc.devRef .tc main_v117)) (W (Proc.devRef .tc main_v26)) (W (Proc.devRef .tc main_v24))
        (W (Proc.devRef .tc main_v112)) (W (Proc.devRef .tc main_v114)) (W (Proc.devRef .tc main_v116))
        (ix2 r (⟨l.val * 3 + k.val, by omega⟩ : Fin 204))
      = FloatOps.addf (FloatOps.addf (FloatOps.mulf (dfm t b (fv l 0) k) (bc (ix2 l 0))) (FloatOps.mulf (dfm t b (fv l 1) k) (bc (ix2 l 1))))
          (FloatOps.mulf (dfm t b (fv l 2) k) (bc (ix2 l 2))) := by
  have hl : ∀ h, (⟨(l.val * 3 + k.val) / 3, h⟩ : Fin 68) = l := fun _ => Fin.ext (by show (l.val * 3 + k.val) / 3 = l.val; omega)
  have hk : ∀ h, (⟨(l.val * 3 + k.val) % 3, h⟩ : Fin 3) = k := fun _ => Fin.ext (by show (l.val * 3 + k.val) % 3 = k.val; omega)
  have hm : (l.val * 3 + k.val) % 3 = k.val := by omega
  have o0 := H.off0 ⟨l.val * 3 + k.val, by omega⟩ (by show l.val * 3 + k.val < 204; omega)
  have o1 := H.off1 ⟨l.val * 3 + k.val, by omega⟩ (by show l.val * 3 + k.val < 204; omega)
  have o2 := H.off2 ⟨l.val * 3 + k.val, by omega⟩ (by show l.val * 3 + k.val < 204; omega)
  have t0 := H.tza0 ⟨l.val * 3 + k.val, by omega⟩ (by show l.val * 3 + k.val < 204; omega)
  have t1 := H.tza1 ⟨l.val * 3 + k.val, by omega⟩ (by show l.val * 3 + k.val < 204; omega)
  have t2 := H.tza2 ⟨l.val * 3 + k.val, by omega⟩ (by show l.val * 3 + k.val < 204; omega)
  have w0 := H.w0 ⟨l.val * 3 + k.val, by omega⟩ (by show l.val * 3 + k.val < 204; omega)
  have w1 := H.w1 ⟨l.val * 3 + k.val, by omega⟩ (by show l.val * 3 + k.val < 204; omega)
  have w2 := H.w2 ⟨l.val * 3 + k.val, by omega⟩ (by show l.val * 3 + k.val < 204; omega)
  clear H
  simp only [hl, hk, hm] at o0 o1 o2 t0 t1 t2 w0 w1 w2
  generalize (W (Proc.devRef .tc main_v117)) = x0 at *
  generalize (W (Proc.devRef .tc main_v26)) = x1 at *
  generalize (W (Proc.devRef .tc main_v24)) = x2 at *
  generalize (W (Proc.devRef .tc main_v112)) = x3 at *
  generalize (W (Proc.devRef .tc main_v114)) = x4 at *
  generalize (W (Proc.devRef .tc main_v116)) = x5 at *
  rw [out7_at i x0 x1 x2 x3 x4 x5 r _ _ (fun _ => rfl)]
  have d0 := dv_dfm i x3 x4 t b r hb _ _ _ t0 o0
  have d1 := dv_dfm i x3 x4 t b r hb _ _ _ t1 o1
  have d2 := dv_dfm i x3 x4 t b r hb _ _ _ t2 o2
  have w0' : x5 (ix2 0 (⟨l.val * 3 + k.val, by omega⟩ : Fin 768)) = bc (ix2 l 0) := by
    rw [← w0]
    exact congrArg (fun q : Fin 768 => x5 (ix2 0 q)) (Fin.ext (Nat.zero_add _).symm)
  exact congrArg₂ FloatOps.addf (congrArg₂ FloatOps.addf (congrArg₂ FloatOps.mulf d0 w0') (congrArg₂ FloatOps.mulf d1 w1))
    (congrArg₂ FloatOps.mulf d2 w2)

end Cert.Proof.KernelValue

end
-- ==== Proof.KernelRend.lean ====
/- What the kernel's first result array holds after the region: inside the band of selected vertices the comparison of the
   normalised deformed depth, outside it the comparison of the template's depth. -/
module

public import proofs.«01_k».proof.Proof.KernelValue

@[expose] public section

set_option maxRecDepth 100000

noncomputable section

namespace Cert.Proof.KernelRend

open Idealize.ShloMosaic Idealize.ShloMosaic.TcCoe Cert.KernelIdeal Cert.KernelIdeal.Gen Cert.Proof.KernelBlock Cert.Proof.KernelRegion
open Cert.Proof.KernelHost (Facts)
open Cert.Proof.KernelValue

/-- An equality of two words as a number. -/
theorem oh_num (a v : Fin 5023) :
    (FloatOps.uitofp .f32 (IntOp.cmpi .eq (BitVec.ofNat 32 a.val) (BitVec.ofNat 32 v.val)) : Ideal .f32) = (if a = v then 1 else 0 : EReal) := by
  have e1 : (FloatOps.uitofp .f32 (1#1 : BitVec 1) : Ideal .f32) = (1 : EReal) := by
    show (((1#1 : BitVec 1).toNat : ℝ) : EReal) = 1
    simp
  have e0 : (FloatOps.uitofp .f32 (0#1 : BitVec 1) : Ideal .f32) = (0 : EReal) := by
    show (((0#1 : BitVec 1).toNat : ℝ) : EReal) = 0
    simp
  by_cases h : a = v
  · subst h
    rw [if_pos rfl]
    have : IntOp.cmpi .eq (BitVec.ofNat 32 a.val) (BitVec.ofNat 32 a.val) = 1#1 := by
      show BitVec.ofBool (BitVec.ofNat 32 a.val == BitVec.ofNat 32 a.val) = 1#1
      simp
    rw [this, e1]
  · rw [if_neg h]
    have hne : BitVec.ofNat 32 a.val ≠ BitVec.ofNat 32 v.val := by
      intro hh
      apply h
      have h2 : (BitVec.ofNat 32 a.val).toNat = (BitVec.ofNat 32 v.val).toNat := congrArg BitVec.toNat hh
      rw [BitVec.toNat_ofNat, BitVec.toNat_ofNat] at h2
      exact Fin.ext (by omega)
    have : IntOp.cmpi .eq (BitVec.ofNat 32 a.val) (BitVec.ofNat 32 v.val) = 0#1 := by
      show BitVec.ofBool (BitVec.ofNat 32 a.val == BitVec.ofNat 32 v.val) = 0#1
      rw [beq_false_of_ne hne]
      rfl
    rw [this, e0]

/-- The extremes of the selected vertices' depths, and their distance. -/
def LO (t : FVec Ideal S5023x3 .f32) (e : Fin 128 → Fin 5023) (b : Fin 1024) : EReal :=
  Finset.univ.fold min (⊤ : EReal) (fun c : Fin 128 => (dfm t b (e c) 2 : EReal))
def HI (t : FVec Ideal S5023x3 .f32) (e : Fin 128 → Fin 5023) (b : Fin 1024) : EReal :=
  Finset.univ.fold max (⊥ : EReal) (fun c : Fin 128 => (dfm t b (e c) 2 : EReal))
def DEN (t : FVec Ideal S5023x3 .f32) (e : Fin 128 → Fin 5023) (b : Fin 1024) : EReal :=
  (HI t e b - LO t e b) + Ideal.ofBits .f32 0x322BCC77#32

variable (t : FVec Ideal S5023x3 .f32) (e g : Fin 128 → Fin 5023)

/-- The sum over the selected vertices has one term that counts. -/
theorem sum_one (hg : Function.Injective g) (f : Fin 128 → EReal) (v : Fin 5023) (p : Fin 128) (hp : g p = v) :
    ∑ q : Fin 128, f q * (if g q = v then 1 else 0 : EReal) = f p := by
  rw [Finset.sum_eq_single p]
  · rw [if_pos hp, mul_one]
  · intro q _ hq
    rw [if_neg (fun h => hq (hg (h.trans hp.symm))), mul_zero]
  · intro h; exact absurd (Finset.mem_univ _) h

theorem half : Ideal.ofBits .f32 0x3F000000#32 = ((1/2 : ℝ) : EReal) := by
  simp [Ideal.ofBits, Ideal.ieee, -EReal.coe_mul]
  norm_num

/-- The largest of the equality numbers is above one half where a selected vertex is the one asked for. -/
theorem mask_iff (v : Fin 5023) :
    Ideal.ofBits .f32 0x3F000000#32 < Finset.univ.fold max (⊥ : EReal) (fun p : Fin 128 => (if g p = v then 1 else 0 : EReal)) ↔ ∃ p, g p = v := by
  rw [Finset.lt_fold_max, half]
  constructor
  · rintro (h | ⟨p, _, h⟩)
    · exact absurd h (by simp)
    · refine ⟨p, ?_⟩
      by_contra hh
      rw [if_neg hh] at h
      rw [← EReal.coe_zero, EReal.coe_lt_coe_iff] at h
      norm_num at h
  · rintro ⟨p, hp⟩
    refine Or.inr ⟨p, Finset.mem_univ _, ?_⟩
    rw [if_pos hp, ← EReal.coe_one, EReal.coe_lt_coe_iff]
    norm_num

theorem mask_at (sm : FVec Ideal S128x5023 .f32) (v : Fin 5023) (g : Fin 128 → Fin 5023)
    (hs : ∀ p v, sm (ix2 p v) = FloatOps.uitofp .f32 (IntOp.cmpi .eq (BitVec.ofNat 32 (g p).val) (BitVec.ofNat 32 v.val))) :
    Host.reduce FloatOps.maximumf sm (constant S_ FTy.f32 4286578688#32) reducesTo_S128x5023_S5023_d0 h_S_ (ix1 v)
      = Finset.univ.fold max (⊥ : EReal) (fun p : Fin 128 => (if g p = v then 1 else 0 : EReal)) := by
  have e : Ideal.ofBits FTy.f32 4286578688#32 = ⊥ := by simp [Ideal.ofBits, Ideal.ieee]
  have h : Host.reduce FloatOps.maximumf sm (constant S_ FTy.f32 4286578688#32) reducesTo_S128x5023_S5023_d0 h_S_ (ix1 v)
      = Finset.univ.fold max (⊥ : EReal) (fun p : Fin 128 => sm (ix2 p v)) := by
    rw [← e]
    pointwise
  rw [h]
  exact congrArg (Finset.univ.fold max (⊥ : EReal)) (funext fun p => (hs p v).trans (oh_num _ _))

/-- The first result array. -/
theorem rend_row {W : Valuation τ sig (Elt Ideal)} {t : FVec Ideal S5023x3 .f32} {e g : Fin 128 → Fin 5023} {fv : Fin 68 → Fin 3 → Fin 5023}
    {bc : FVec Ideal S68x3 .f32} (H : Facts W t e g fv bc) (hg : Function.Injective g) (i : grid0.Coords) (b : Fin 1024) (r : Fin 256)
    (hb : (i 0).val * 256 + r.val = b.val) (v : Fin 5023) :
    (out0_6 (F := Ideal) i (W (Proc.devRef .tc main_v117)) (W (Proc.devRef .tc main_v26)) (W (Proc.devRef .tc main_v24))
        (W (Proc.devRef .tc main_v112)) (W (Proc.devRef .tc main_v114)) (W (Proc.devRef .tc main_v116)) (ix2 r v) : EReal)
      = if ∃ p, g p = v then
          (if Ideal.ofBits .f32 0x3E99999A#32 < Ideal.div (dfm t b v 2 - LO t e b) (DEN t e b) then 1 else 0)
        else if LO t e b + Ideal.ofBits .f32 0x3E99999A#32 * DEN t e b < t (ix2 v 2) then 1 else 0 := by
  have oE := fun c : Fin 128 => H.offE ⟨c.val, by omega⟩ c.isLt
  have oB := fun c : Fin 128 => H.offB ⟨c.val, by omega⟩ c.isLt
  have tE := fun c : Fin 128 => H.tzaE ⟨c.val, by omega⟩ c.isLt
  have tB := fun c : Fin 128 => H.tzaB ⟨c.val, by omega⟩ c.isLt
  have tz := H.tz v
  have sm := H.smat
  have mk := H.mask v
  clear H
  generalize (W (Proc.devRef .tc main_v117)) = x0 at *
  generalize (W (Proc.devRef .tc main_v26)) = x1 at *
  generalize (W (Proc.devRef .tc main_v24)) = x2 at *
  generalize (W (Proc.devRef .tc main_v112)) = x3 at *
  generalize (W (Proc.devRef .tc main_v114)) = x4 at *
  generalize (W (Proc.devRef .tc main_v116)) = x5 at *
  rw [out6_eq, rend_at, mk, mask_at x2 v g sm]
  have hd := fun q => blk_d i x0 x1 x2 x3 x4 x5 r q
  generalize k0_pay70 (F := Ideal) i x0 x1 x2 x3 x4 x5 = Z at *
  have hE : ∀ c : Fin 128, k0_pay53 Z (Scalar.ofBits .f32 0x3FB504F3#32) x4 (ix2 r ⟨c.val, by omega⟩) = dfm t b (e c) 2 := fun c => by
    have hq : (⟨c.val, by omega⟩ : Fin 1280) = ⟨0 + c.val, by omega⟩ := Fin.ext (Nat.zero_add _).symm
    rw [hq, hd]
    exact dv_dfm i x3 x4 t b r hb _ _ _ (tE c) (oE c)
  have hB : ∀ c : Fin 128, k0_pay53 Z (Scalar.ofBits .f32 0x3FB504F3#32) x4 (ix2 r ⟨256 + c.val, by omega⟩) = dfm t b (g c) 2 := fun c => by
    rw [hd]
    exact dv_dfm i x3 x4 t b r hb _ _ _ (tB c) (oB c)
  have hlo : k0_pay55 Z (Scalar.ofBits .f32 0x3FB504F3#32) x4 (ix2 r 0) = LO t e b := by
    rw [lo_at]
    exact congrArg (Finset.univ.fold min (⊤ : EReal)) (funext hE)
  have hden : k0_pay56 Z (Scalar.ofBits .f32 0x3FB504F3#32) x4 (ix2 r 0) = DEN t e b := by
    rw [den_at, hlo]
    exact congrArg (fun f : Fin 128 → EReal => (Finset.univ.fold max (⊥ : EReal) f - LO t e b) + Ideal.ofBits .f32 0x322BCC77#32) (funext hE)
  rw [hlo, hden, tz]
  simp only [mask_iff]
  by_cases hp : ∃ p, g p = v
  · rw [if_pos hp, if_pos hp]
    obtain ⟨p, hp⟩ := hp
    have hs : ∀ q : Fin 128, @Eq EReal (x2 (ix2 q v)) (if g q = v then 1 else 0) := fun q => (sm q v).trans (oh_num _ _)
    simp only [hs]
    rw [sum_one g hg _ v p hp, hB, hp]
  · rw [if_neg hp, if_neg hp]

end Cert.Proof.KernelRend

end
-- ==== Proof.RefTail.lean ====
/-
  The reference's tail, read at an index: the deformed vertices, the landmarks and the rendered depth test.
-/
module

public import proofs.«01_k».proof.Proof.Gen.ReferenceIdeal.Frame
public import Idealize.ShloMosaic.Lib.StableHlo.RunRead
public import Idealize.ShloMosaic.Lib.Pointwise
public import Idealize.ShloMosaic.Lib.Tactic
public import proofs.«01_k».proof.Proof.Gathers

@[expose] public section

set_option maxRecDepth 100000

noncomputable section

namespace Cert.Proof.RefTail

open Idealize.ShloMosaic Idealize.ShloMosaic.TcCoe Cert.ReferenceIdeal Cert.ReferenceIdeal.Gen

variable {F : FTy → Type} [FloatOps F]

/-- The faces of the landmarks, taken from the face table. -/
theorem faces_at (V : Valuation τ sig (Elt F)) (idx : IVec S68 32) (faces : IVec S9976x3 32) (h4 : V (Proc.devRef .tc main_arg4) = idx)
    (h3 : V (Proc.devRef .tc main_arg3) = faces) (fi : Fin 68 → Fin 9976) (hi : ∀ l, idx (ix1 l) = BitVec.ofNat 32 (fi l).val)
    (l : Fin 68) (j : Fin 3) :
    (StableHlo.after hostOps1_1 V (Proc.devRef .tc main_v16) : IVec S68x3 32) (ix2 l j) = faces (ix2 (fi l) j) := by
  after_reads_simp
  simp -implicitDefEqProofs only [StableHlo.TRef.toBuf, StableHlo.TRef.ofBuf, cast_cast, cast_eq]
  rw [h4, h3]
  pointwise
  have hl := (fi l).isLt
  rw [hi, Gathers.wrap_small _ (by omega), Gathers.in_range _ 9975 (by omega) (by omega), Gathers.select_one]
  refine Gathers.rows _ rfl rfl rfl rfl rfl faces _ l j (fi l) ?_ (by omega)
  pointwise
  rw [hi, Gathers.wrap_small _ (by omega)]

/-- The deformed vertices. -/
theorem deformed_at (V : Valuation τ sig (Elt F)) (z : FVec F S1024x5023x3 .f32) (t : FVec F S5023x3 .f32) (h4 : V (Proc.devRef .tc main_v8) = z)
    (h3 : V (Proc.devRef .tc main_arg2) = t) (b : Fin 1024) (v : Fin 5023) (k : Fin 3) :
    (StableHlo.after hostOps1 V (Proc.devRef .tc main_v15) : FVec F S1024x5023x3 .f32) (ix3 b v k)
      = FloatOps.addf (t (ix2 v k)) (FloatOps.mulf (FloatOps.mulf (FloatOps.ofBits .f32 0x3FB504F3#32) (z (ix3 b v k))) (FloatOps.ofBits .f32 0x3A83126F#32)) := by
  after_reads_simp
  rw [h4, h3]
  pointwise

/-- The least depth of a sample. -/
def lo (d : FVec F S1024x5023x3 .f32) (b : Fin 1024) : F .f32 :=
  Host.reduce FloatOps.minimumf (fun i : S1024x5023.Idx => d (ix3 (i 0) (i 1) 2)) (constant S_ FTy.f32 2139095040#32)
    reducesTo_S1024x5023_S1024_d1 h_S_ (ix1 b)

/-- The greatest depth of a sample. -/
def hi (d : FVec F S1024x5023x3 .f32) (b : Fin 1024) : F .f32 :=
  Host.reduce FloatOps.maximumf (fun i : S1024x5023.Idx => d (ix3 (i 0) (i 1) 2)) (constant S_ FTy.f32 4286578688#32)
    reducesTo_S1024x5023_S1024_d1 h_S_ (ix1 b)

/-- The rendered depth test. -/
theorem rendered_at (V : Valuation τ sig (Elt F)) (d : FVec F S1024x5023x3 .f32) (h : V (Proc.devRef .tc main_v15) = d)
    (b : Fin 1024) (v : Fin 5023) (k : Fin 3) :
    (StableHlo.after hostOps1_2 V (Proc.devRef .tc main_v45) : FVec F S1024x5023x3 .f32) (ix3 b v k)
      = FloatOps.uitofp .f32 (FloatOps.cmpf .ogt
        (FloatOps.hostDivf (FloatOps.subf (d (ix3 b v 2)) (lo d b))
          (FloatOps.addf (FloatOps.subf (hi d b) (lo d b)) (FloatOps.ofBits .f32 841731191#32)))
        (FloatOps.ofBits .f32 1050253722#32)) := by
  after_reads_simp
  rw [h]
  pointwise
  rfl

theorem lo_eq (d : FVec Ideal S1024x5023x3 .f32) (b : Fin 1024) :
    lo d b = Finset.univ.fold min (⊤ : EReal) (fun v : Fin 5023 => (d (ix3 b v 2) : EReal)) := by
  unfold lo
  pointwise
  rw [show Ideal.ofBits .f32 2139095040#32 = (⊤ : EReal) by simp [Ideal.ofBits, Ideal.ieee]]

theorem hi_eq (d : FVec Ideal S1024x5023x3 .f32) (b : Fin 1024) :
    hi d b = Finset.univ.fold max (⊥ : EReal) (fun v : Fin 5023 => (d (ix3 b v 2) : EReal)) := by
  unfold hi
  pointwise
  rw [show Ideal.ofBits .f32 4286578688#32 = (⊥ : EReal) by simp [Ideal.ofBits, Ideal.ieee]]

/-- The landmarks, over the deformed vertices, the vertex of each landmark's face, and the weights. -/
def land (d : FVec F S1024x5023x3 .f32) (f : IVec S68x3 32) (bc : FVec F S68x3 .f32) : FVec F S1024x68x3 .f32 :=
  Host.reduceAdd
      (mulf
        (Host.gather gather_S1024x5023x3_S68x3x1_S1024x68x3x3_03_1_n_n_1_2_102413 d
          (broadcastInDim S68x3x1 ![0, 1] bcast_S68x3_S68x3x1_0_1
            (select (cmpi CmpIPredicate.slt f (broadcastInDim S68x3 ![] bcast_S_S68x3 (constantI S_ 32 0#32)))
              (addi f (broadcastInDim S68x3 ![] bcast_S_S68x3 (constantI S_ 32 5023#32))) f)))
        (broadcastInDim S1024x68x3x3 ![0, 1, 2, 3] bcast_S1x68x3x1_S1024x68x3x3_0_1_2_3
          (broadcastInDim S1x68x3x1 ![1, 2] bcast_S68x3_S1x68x3x1_1_2 bc)))
      (constant S_ FTy.f32 0#32) reducesTo_S1024x68x3x3_S1024x68x3_d2 h_S_

theorem land_read (V : Valuation τ sig (Elt F)) (d : FVec F S1024x5023x3 .f32) (h : V (Proc.devRef .tc main_v15) = d) (f : IVec S68x3 32)
    (h6 : V (Proc.devRef .tc main_v16) = f) (bc : FVec F S68x3 .f32) (h5 : V (Proc.devRef .tc main_arg5) = bc) :
    (StableHlo.after hostOps1_2 V (Proc.devRef .tc main_v27) : FVec F S1024x68x3 .f32) = land d f bc := by
  after_reads_simp
  rw [h, h6, h5]
  rfl

theorem land_at (d : FVec Ideal S1024x5023x3 .f32) (f : IVec S68x3 32) (bc : FVec Ideal S68x3 .f32)
    (fv : Fin 68 → Fin 3 → Fin 5023) (hf : ∀ l j, f (ix2 l j) = BitVec.ofNat 32 (fv l j).val) (b : Fin 1024) (l : Fin 68) (k : Fin 3) :
    land d f bc (ix3 b l k) = ∑ j : Fin 3, (d (ix3 b (fv l j) k) : EReal) * (bc (ix2 l j) : EReal) := by
  unfold land
  pointwise
  refine Finset.sum_congr rfl fun x _ => congrArg (· * (bc (ix2 l x) : EReal)) ?_
  have hv := (fv l x).isLt
  refine Gathers.verts d _ b l x k (fv l x) ?_
  pointwise
  rw [hf, Gathers.wrap_small _ (by omega)]

end Cert.Proof.RefTail

end
-- ==== Proof.RefNoise.lean ====
/- The reference's uniform numbers, element by element: the line that makes them, cut after each round. -/
module

public import proofs.«01_k».proof.Proof.Gen.ReferenceIdeal.Frame
public import proofs.«01_k».proof.Proof.Spec
public import Idealize.ShloMosaic.Lib.StableHlo.RunRead

@[expose] public section

set_option maxHeartbeats 4000000
set_option maxRecDepth 100000

noncomputable section

namespace Cert.Proof.RefNoise

open Idealize.ShloMosaic Idealize.ShloMosaic.TcCoe Cert.ReferenceIdeal Cert.ReferenceIdeal.Gen Cert.Proof.Spec

variable {F : FTy → Type} [FloatOps F]

abbrev Wd : Type := IVec S1024x5023x3 32

/-- The words of a state read at two arrays. -/
abbrev at2 (a b : Wd) (i : S1024x5023x3.Idx) : W × W := (a i, b i)

/-- The keys are in place. -/
structure Keys (V : Valuation τ sig (Elt F)) : Prop where
  k0 : V (Proc.devRef .tc main_call0_v4) = (fun _ => 0#32 : IVec S_ 32)
  k1 : V (Proc.devRef .tc main_call0_v6) = (fun _ => 42#32 : IVec S_ 32)
  k2 : V (Proc.devRef .tc main_call0_call0_v1) = (fun _ => 466689008#32 : IVec S_ 32)
  k3 : V (Proc.devRef .tc main_call0_v1) = (fun _ => FloatOps.ofBits .f32 0xBF7FFFFF#32 : FVec F S1x1x1 .f32)
  k4 : V (Proc.devRef .tc main_call0_v2) = (fun _ => FloatOps.ofBits .f32 0x3F800000#32 : FVec F S1x1x1 .f32)

abbrev s1 : List (HloOp τ sig (Elt F)) := (hostOps0_1.drop 33).take 9

theorem s1_keys (V : Valuation τ sig (Elt F)) (h : Keys V) : Keys (StableHlo.after s1 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s1_at (V : Valuation τ sig (Elt F)) (i : S1024x5023x3.Idx) :
    at2 (StableHlo.after s1 V (Proc.devRef .tc main_call0_call0_v6)) (StableHlo.after s1 V (Proc.devRef .tc main_call0_call0_v12)) i
      = rd 13#32 19#32 (at2 (V (Proc.devRef .tc main_call0_call0_v3)) (V (Proc.devRef .tc main_call0_call0_v5)) i) := by
  after_reads_simp
  generalize V (Proc.devRef .tc main_call0_call0_v3) = a
  generalize V (Proc.devRef .tc main_call0_call0_v5) = b
  exact Prod.ext rfl (BitVec.xor_comm (show W from (show Wd from a) i + (show Wd from b) i) (rot 13#32 19#32 ((show Wd from b) i)))

abbrev s2 : List (HloOp τ sig (Elt F)) := (hostOps0_1.drop 42).take 9

theorem s2_keys (V : Valuation τ sig (Elt F)) (h : Keys V) : Keys (StableHlo.after s2 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s2_at (V : Valuation τ sig (Elt F)) (i : S1024x5023x3.Idx) :
    at2 (StableHlo.after s2 V (Proc.devRef .tc main_call0_call0_v13)) (StableHlo.after s2 V (Proc.devRef .tc main_call0_call0_v19)) i
      = rd 15#32 17#32 (at2 (V (Proc.devRef .tc main_call0_call0_v6)) (V (Proc.devRef .tc main_call0_call0_v12)) i) := by
  after_reads_simp
  generalize V (Proc.devRef .tc main_call0_call0_v6) = a
  generalize V (Proc.devRef .tc main_call0_call0_v12) = b
  exact Prod.ext rfl (BitVec.xor_comm (show W from (show Wd from a) i + (show Wd from b) i) (rot 15#32 17#32 ((show Wd from b) i)))

abbrev s3 : List (HloOp τ sig (Elt F)) := (hostOps0_1.drop 51).take 9

theorem s3_keys (V : Valuation τ sig (Elt F)) (h : Keys V) : Keys (StableHlo.after s3 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s3_at (V : Valuation τ sig (Elt F)) (i : S1024x5023x3.Idx) :
    at2 (StableHlo.after s3 V (Proc.devRef .tc main_call0_call0_v20)) (StableHlo.after s3 V (Proc.devRef .tc main_call0_call0_v26)) i
      = rd 26#32 6#32 (at2 (V (Proc.devRef .tc main_call0_call0_v13)) (V (Proc.devRef .tc main_call0_call0_v19)) i) := by
  after_reads_simp
  generalize V (Proc.devRef .tc main_call0_call0_v13) = a
  generalize V (Proc.devRef .tc main_call0_call0_v19) = b
  exact Prod.ext rfl (BitVec.xor_comm (show W from (show Wd from a) i + (show Wd from b) i) (rot 26#32 6#32 ((show Wd from b) i)))

abbrev s4 : List (HloOp τ sig (Elt F)) := (hostOps0_1.drop 60).take 9

theorem s4_keys (V : Valuation τ sig (Elt F)) (h : Keys V) : Keys (StableHlo.after s4 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s4_at (V : Valuation τ sig (Elt F)) (i : S1024x5023x3.Idx) :
    at2 (StableHlo.after s4 V (Proc.devRef .tc main_call0_call0_v27)) (StableHlo.after s4 V (Proc.devRef .tc main_call0_call0_v33)) i
      = rd 6#32 26#32 (at2 (V (Proc.devRef .tc main_call0_call0_v20)) (V (Proc.devRef .tc main_call0_call0_v26)) i) := by
  after_reads_simp
  generalize V (Proc.devRef .tc main_call0_call0_v20) = a
  generalize V (Proc.devRef .tc main_call0_call0_v26) = b
  exact Prod.ext rfl (BitVec.xor_comm (show W from (show Wd from a) i + (show Wd from b) i) (rot 6#32 26#32 ((show Wd from b) i)))

abbrev s5 : List (HloOp τ sig (Elt F)) := (hostOps0_1.drop 69).take 7

theorem s5_keys (V : Valuation τ sig (Elt F)) (h : Keys V) : Keys (StableHlo.after s5 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s5_at (V : Valuation τ sig (Elt F)) (h : Keys V) (i : S1024x5023x3.Idx) :
    at2 (StableHlo.after s5 V (Proc.devRef .tc main_call0_call0_v35)) (StableHlo.after s5 V (Proc.devRef .tc main_call0_call0_v39)) i
      = inj 42#32 466689008#32 1#32 (at2 (V (Proc.devRef .tc main_call0_call0_v27)) (V (Proc.devRef .tc main_call0_call0_v33)) i) := by
  obtain ⟨h0, h1, h2, h3, h4⟩ := h
  after_reads_simp
  simp only [h0, h1, h2]
  generalize V (Proc.devRef .tc main_call0_call0_v27) = a
  generalize V (Proc.devRef .tc main_call0_call0_v33) = b
  rfl

abbrev s6 : List (HloOp τ sig (Elt F)) := (hostOps0_1.drop 76).take 9

theorem s6_keys (V : Valuation τ sig (Elt F)) (h : Keys V) : Keys (StableHlo.after s6 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s6_at (V : Valuation τ sig (Elt F)) (i : S1024x5023x3.Idx) :
    at2 (StableHlo.after s6 V (Proc.devRef .tc main_call0_call0_v40)) (StableHlo.after s6 V (Proc.devRef .tc main_call0_call0_v46)) i
      = rd 17#32 15#32 (at2 (V (Proc.devRef .tc main_call0_call0_v35)) (V (Proc.devRef .tc main_call0_call0_v39)) i) := by
  after_reads_simp
  generalize V (Proc.devRef .tc main_call0_call0_v35) = a
  generalize V (Proc.devRef .tc main_call0_call0_v39) = b
  exact Prod.ext rfl (BitVec.xor_comm (show W from (show Wd from a) i + (show Wd from b) i) (rot 17#32 15#32 ((show Wd from b) i)))

abbrev s7 : List (HloOp τ sig (Elt F)) := (hostOps0_1.drop 85).take 9

theorem s7_keys (V : Valuation τ sig (Elt F)) (h : Keys V) : Keys (StableHlo.after s7 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s7_at (V : Valuation τ sig (Elt F)) (i : S1024x5023x3.Idx) :
    at2 (StableHlo.after s7 V (Proc.devRef .tc main_call0_call0_v47)) (StableHlo.after s7 V (Proc.devRef .tc main_call0_call0_v53)) i
      = rd 29#32 3#32 (at2 (V (Proc.devRef .tc main_call0_call0_v40)) (V (Proc.devRef .tc main_call0_call0_v46)) i) := by
  after_reads_simp
  generalize V (Proc.devRef .tc main_call0_call0_v40) = a
  generalize V (Proc.devRef .tc main_call0_call0_v46) = b
  exact Prod.ext rfl (BitVec.xor_comm (show W from (show Wd from a) i + (show Wd from b) i) (rot 29#32 3#32 ((show Wd from b) i)))

abbrev s8 : List (HloOp τ sig (Elt F)) := (hostOps0_1.drop 94).take 9

theorem s8_keys (V : Valuation τ sig (Elt F)) (h : Keys V) : Keys (StableHlo.after s8 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s8_at (V : Valuation τ sig (Elt F)) (i : S1024x5023x3.Idx) :
    at2 (StableHlo.after s8 V (Proc.devRef .tc main_call0_call0_v54)) (StableHlo.after s8 V (Proc.devRef .tc main_call0_call0_v60)) i
      = rd 16#32 16#32 (at2 (V (Proc.devRef .tc main_call0_call0_v47)) (V (Proc.devRef .tc main_call0_call0_v53)) i) := by
  after_reads_simp
  generalize V (Proc.devRef .tc main_call0_call0_v47) = a
  generalize V (Proc.devRef .tc main_call0_call0_v53) = b
  exact Prod.ext rfl (BitVec.xor_comm (show W from (show Wd from a) i + (show Wd from b) i) (rot 16#32 16#32 ((show Wd from b) i)))

abbrev s9 : List (HloOp τ sig (Elt F)) := (hostOps0_1.drop 103).take 9

theorem s9_keys (V : Valuation τ sig (Elt F)) (h : Keys V) : Keys (StableHlo.after s9 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s9_at (V : Valuation τ sig (Elt F)) (i : S1024x5023x3.Idx) :
    at2 (StableHlo.after s9 V (Proc.devRef .tc main_call0_call0_v61)) (StableHlo.after s9 V (Proc.devRef .tc main_call0_call0_v67)) i
      = rd 24#32 8#32 (at2 (V (Proc.devRef .tc main_call0_call0_v54)) (V (Proc.devRef .tc main_call0_call0_v60)) i) := by
  after_reads_simp
  generalize V (Proc.devRef .tc main_call0_call0_v54) = a
  generalize V (Proc.devRef .tc main_call0_call0_v60) = b
  exact Prod.ext rfl (BitVec.xor_comm (show W from (show Wd from a) i + (show Wd from b) i) (rot 24#32 8#32 ((show Wd from b) i)))

abbrev s10 : List (HloOp τ sig (Elt F)) := (hostOps0_1.drop 112).take 7

theorem s10_keys (V : Valuation τ sig (Elt F)) (h : Keys V) : Keys (StableHlo.after s10 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s10_at (V : Valuation τ sig (Elt F)) (h : Keys V) (i : S1024x5023x3.Idx) :
    at2 (StableHlo.after s10 V (Proc.devRef .tc main_call0_call0_v69)) (StableHlo.after s10 V (Proc.devRef .tc main_call0_call0_v73)) i
      = inj 466689008#32 0#32 2#32 (at2 (V (Proc.devRef .tc main_call0_call0_v61)) (V (Proc.devRef .tc main_call0_call0_v67)) i) := by
  obtain ⟨h0, h1, h2, h3, h4⟩ := h
  after_reads_simp
  simp only [h0, h1, h2]
  generalize V (Proc.devRef .tc main_call0_call0_v61) = a
  generalize V (Proc.devRef .tc main_call0_call0_v67) = b
  rfl

abbrev s11 : List (HloOp τ sig (Elt F)) := (hostOps0_1.drop 119).take 9

theorem s11_keys (V : Valuation τ sig (Elt F)) (h : Keys V) : Keys (StableHlo.after s11 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s11_at (V : Valuation τ sig (Elt F)) (i : S1024x5023x3.Idx) :
    at2 (StableHlo.after s11 V (Proc.devRef .tc main_call0_call0_v74)) (StableHlo.after s11 V (Proc.devRef .tc main_call0_call0_v80)) i
      = rd 13#32 19#32 (at2 (V (Proc.devRef .tc main_call0_call0_v69)) (V (Proc.devRef .tc main_call0_call0_v73)) i) := by
  after_reads_simp
  generalize V (Proc.devRef .tc main_call0_call0_v69) = a
  generalize V (Proc.devRef .tc main_call0_call0_v73) = b
  exact Prod.ext rfl (BitVec.xor_comm (show W from (show Wd from a) i + (show Wd from b) i) (rot 13#32 19#32 ((show Wd from b) i)))

abbrev s12 : List (HloOp τ sig (Elt F)) := (hostOps0_1.drop 128).take 9

theorem s12_keys (V : Valuation τ sig (Elt F)) (h : Keys V) : Keys (StableHlo.after s12 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s12_at (V : Valuation τ sig (Elt F)) (i : S1024x5023x3.Idx) :
    at2 (StableHlo.after s12 V (Proc.devRef .tc main_call0_call0_v81)) (StableHlo.after s12 V (Proc.devRef .tc main_call0_call0_v87)) i
      = rd 15#32 17#32 (at2 (V (Proc.devRef .tc main_call0_call0_v74)) (V (Proc.devRef .tc main_call0_call0_v80)) i) := by
  after_reads_simp
  generalize V (Proc.devRef .tc main_call0_call0_v74) = a
  generalize V (Proc.devRef .tc main_call0_call0_v80) = b
  exact Prod.ext rfl (BitVec.xor_comm (show W from (show Wd from a) i + (show Wd from b) i) (rot 15#32 17#32 ((show Wd from b) i)))

abbrev s13 : List (HloOp τ sig (Elt F)) := (hostOps0_1.drop 137).take 9

theorem s13_keys (V : Valuation τ sig (Elt F)) (h : Keys V) : Keys (StableHlo.after s13 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s13_at (V : Valuation τ sig (Elt F)) (i : S1024x5023x3.Idx) :
    at2 (StableHlo.after s13 V (Proc.devRef .tc main_call0_call0_v88)) (StableHlo.after s13 V (Proc.devRef .tc main_call0_call0_v94)) i
      = rd 26#32 6#32 (at2 (V (Proc.devRef .tc main_call0_call0_v81)) (V (Proc.devRef .tc main_call0_call0_v87)) i) := by
  after_reads_simp
  generalize V (Proc.devRef .tc main_call0_call0_v81) = a
  generalize V (Proc.devRef .tc main_call0_call0_v87) = b
  exact Prod.ext rfl (BitVec.xor_comm (show W from (show Wd from a) i + (show Wd from b) i) (rot 26#32 6#32 ((show Wd from b) i)))

abbrev s14 : List (HloOp τ sig (Elt F)) := (hostOps0_1.drop 146).take 9

theorem s14_keys (V : Valuation τ sig (Elt F)) (h : Keys V) : Keys (StableHlo.after s14 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s14_at (V : Valuation τ sig (Elt F)) (i : S1024x5023x3.Idx) :
    at2 (StableHlo.after s14 V (Proc.devRef .tc main_call0_call0_v95)) (StableHlo.after s14 V (Proc.devRef .tc main_call0_call0_v101)) i
      = rd 6#32 26#32 (at2 (V (Proc.devRef .tc main_call0_call0_v88)) (V (Proc.devRef .tc main_call0_call0_v94)) i) := by
  after_reads_simp
  generalize V (Proc.devRef .tc main_call0_call0_v88) = a
  generalize V (Proc.devRef .tc main_call0_call0_v94) = b
  exact Prod.ext rfl (BitVec.xor_comm (show W from (show Wd from a) i + (show Wd from b) i) (rot 6#32 26#32 ((show Wd from b) i)))

abbrev s15 : List (HloOp τ sig (Elt F)) := (hostOps0_1.drop 155).take 7

theorem s15_keys (V : Valuation τ sig (Elt F)) (h : Keys V) : Keys (StableHlo.after s15 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s15_at (V : Valuation τ sig (Elt F)) (h : Keys V) (i : S1024x5023x3.Idx) :
    at2 (StableHlo.after s15 V (Proc.devRef .tc main_call0_call0_v103)) (StableHlo.after s15 V (Proc.devRef .tc main_call0_call0_v107)) i
      = inj 0#32 42#32 3#32 (at2 (V (Proc.devRef .tc main_call0_call0_v95)) (V (Proc.devRef .tc main_call0_call0_v101)) i) := by
  obtain ⟨h0, h1, h2, h3, h4⟩ := h
  after_reads_simp
  simp only [h0, h1, h2]
  generalize V (Proc.devRef .tc main_call0_call0_v95) = a
  generalize V (Proc.devRef .tc main_call0_call0_v101) = b
  rfl

abbrev s16 : List (HloOp τ sig (Elt F)) := (hostOps0_1.drop 162).take 9

theorem s16_keys (V : Valuation τ sig (Elt F)) (h : Keys V) : Keys (StableHlo.after s16 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s16_at (V : Valuation τ sig (Elt F)) (i : S1024x5023x3.Idx) :
    at2 (StableHlo.after s16 V (Proc.devRef .tc main_call0_call0_v108)) (StableHlo.after s16 V (Proc.devRef .tc main_call0_call0_v114)) i
      = rd 17#32 15#32 (at2 (V (Proc.devRef .tc main_call0_call0_v103)) (V (Proc.devRef .tc main_call0_call0_v107)) i) := by
  after_reads_simp
  generalize V (Proc.devRef .tc main_call0_call0_v103) = a
  generalize V (Proc.devRef .tc main_call0_call0_v107) = b
  exact Prod.ext rfl (BitVec.xor_comm (show W from (show Wd from a) i + (show Wd from b) i) (rot 17#32 15#32 ((show Wd from b) i)))

abbrev s17 : List (HloOp τ sig (Elt F)) := (hostOps0_1.drop 171).take 9

theorem s17_keys (V : Valuation τ sig (Elt F)) (h : Keys V) : Keys (StableHlo.after s17 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s17_at (V : Valuation τ sig (Elt F)) (i : S1024x5023x3.Idx) :
    at2 (StableHlo.after s17 V (Proc.devRef .tc main_call0_call0_v115)) (StableHlo.after s17 V (Proc.devRef .tc main_call0_call0_v121)) i
      = rd 29#32 3#32 (at2 (V (Proc.devRef .tc main_call0_call0_v108)) (V (Proc.devRef .tc main_call0_call0_v114)) i) := by
  after_reads_simp
  generalize V (Proc.devRef .tc main_call0_call0_v108) = a
  generalize V (Proc.devRef .tc main_call0_call0_v114) = b
  exact Prod.ext rfl (BitVec.xor_comm (show W from (show Wd from a) i + (show Wd from b) i) (rot 29#32 3#32 ((show Wd from b) i)))

abbrev s18 : List (HloOp τ sig (Elt F)) := (hostOps0_1.drop 180).take 9

theorem s18_keys (V : Valuation τ sig (Elt F)) (h : Keys V) : Keys (StableHlo.after s18 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s18_at (V : Valuation τ sig (Elt F)) (i : S1024x5023x3.Idx) :
    at2 (StableHlo.after s18 V (Proc.devRef .tc main_call0_call0_v122)) (StableHlo.after s18 V (Proc.devRef .tc main_call0_call0_v128)) i
      = rd 16#32 16#32 (at2 (V (Proc.devRef .tc main_call0_call0_v115)) (V (Proc.devRef .tc main_call0_call0_v121)) i) := by
  after_reads_simp
  generalize V (Proc.devRef .tc main_call0_call0_v115) = a
  generalize V (Proc.devRef .tc main_call0_call0_v121) = b
  exact Prod.ext rfl (BitVec.xor_comm (show W from (show Wd from a) i + (show Wd from b) i) (rot 16#32 16#32 ((show Wd from b) i)))

abbrev s19 : List (HloOp τ sig (Elt F)) := (hostOps0_1.drop 189).take 9

theorem s19_keys (V : Valuation τ sig (Elt F)) (h : Keys V) : Keys (StableHlo.after s19 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s19_at (V : Valuation τ sig (Elt F)) (i : S1024x5023x3.Idx) :
    at2 (StableHlo.after s19 V (Proc.devRef .tc main_call0_call0_v129)) (StableHlo.after s19 V (Proc.devRef .tc main_call0_call0_v135)) i
      = rd 24#32 8#32 (at2 (V (Proc.devRef .tc main_call0_call0_v122)) (V (Proc.devRef .tc main_call0_call0_v128)) i) := by
  after_reads_simp
  generalize V (Proc.devRef .tc main_call0_call0_v122) = a
  generalize V (Proc.devRef .tc main_call0_call0_v128) = b
  exact Prod.ext rfl (BitVec.xor_comm (show W from (show Wd from a) i + (show Wd from b) i) (rot 24#32 8#32 ((show Wd from b) i)))

abbrev s20 : List (HloOp τ sig (Elt F)) := (hostOps0_1.drop 198).take 7

theorem s20_keys (V : Valuation τ sig (Elt F)) (h : Keys V) : Keys (StableHlo.after s20 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s20_at (V : Valuation τ sig (Elt F)) (h : Keys V) (i : S1024x5023x3.Idx) :
    at2 (StableHlo.after s20 V (Proc.devRef .tc main_call0_call0_v137)) (StableHlo.after s20 V (Proc.devRef .tc main_call0_call0_v141)) i
      = inj 42#32 466689008#32 4#32 (at2 (V (Proc.devRef .tc main_call0_call0_v129)) (V (Proc.devRef .tc main_call0_call0_v135)) i) := by
  obtain ⟨h0, h1, h2, h3, h4⟩ := h
  after_reads_simp
  simp only [h0, h1, h2]
  generalize V (Proc.devRef .tc main_call0_call0_v129) = a
  generalize V (Proc.devRef .tc main_call0_call0_v135) = b
  rfl

abbrev s21 : List (HloOp τ sig (Elt F)) := (hostOps0_1.drop 205).take 9

theorem s21_keys (V : Valuation τ sig (Elt F)) (h : Keys V) : Keys (StableHlo.after s21 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s21_at (V : Valuation τ sig (Elt F)) (i : S1024x5023x3.Idx) :
    at2 (StableHlo.after s21 V (Proc.devRef .tc main_call0_call0_v142)) (StableHlo.after s21 V (Proc.devRef .tc main_call0_call0_v148)) i
      = rd 13#32 19#32 (at2 (V (Proc.devRef .tc main_call0_call0_v137)) (V (Proc.devRef .tc main_call0_call0_v141)) i) := by
  after_reads_simp
  generalize V (Proc.devRef .tc main_call0_call0_v137) = a
  generalize V (Proc.devRef .tc main_call0_call0_v141) = b
  exact Prod.ext rfl (BitVec.xor_comm (show W from (show Wd from a) i + (show Wd from b) i) (rot 13#32 19#32 ((show Wd from b) i)))

abbrev s22 : List (HloOp τ sig (Elt F)) := (hostOps0_1.drop 214).take 9

theorem s22_keys (V : Valuation τ sig (Elt F)) (h : Keys V) : Keys (StableHlo.after s22 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s22_at (V : Valuation τ sig (Elt F)) (i : S1024x5023x3.Idx) :
    at2 (StableHlo.after s22 V (Proc.devRef .tc main_call0_call0_v149)) (StableHlo.after s22 V (Proc.devRef .tc main_call0_call0_v155)) i
      = rd 15#32 17#32 (at2 (V (Proc.devRef .tc main_call0_call0_v142)) (V (Proc.devRef .tc main_call0_call0_v148)) i) := by
  after_reads_simp
  generalize V (Proc.devRef .tc main_call0_call0_v142) = a
  generalize V (Proc.devRef .tc main_call0_call0_v148) = b
  exact Prod.ext rfl (BitVec.xor_comm (show W from (show Wd from a) i + (show Wd from b) i) (rot 15#32 17#32 ((show Wd from b) i)))

abbrev s23 : List (HloOp τ sig (Elt F)) := (hostOps0_1.drop 223).take 9

theorem s23_keys (V : Valuation τ sig (Elt F)) (h : Keys V) : Keys (StableHlo.after s23 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s23_at (V : Valuation τ sig (Elt F)) (i : S1024x5023x3.Idx) :
    at2 (StableHlo.after s23 V (Proc.devRef .tc main_call0_call0_v156)) (StableHlo.after s23 V (Proc.devRef .tc main_call0_call0_v162)) i
      = rd 26#32 6#32 (at2 (V (Proc.devRef .tc main_call0_call0_v149)) (V (Proc.devRef .tc main_call0_call0_v155)) i) := by
  after_reads_simp
  generalize V (Proc.devRef .tc main_call0_call0_v149) = a
  generalize V (Proc.devRef .tc main_call0_call0_v155) = b
  exact Prod.ext rfl (BitVec.xor_comm (show W from (show Wd from a) i + (show Wd from b) i) (rot 26#32 6#32 ((show Wd from b) i)))

abbrev s24 : List (HloOp τ sig (Elt F)) := (hostOps0_1.drop 232).take 9

theorem s24_keys (V : Valuation τ sig (Elt F)) (h : Keys V) : Keys (StableHlo.after s24 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s24_at (V : Valuation τ sig (Elt F)) (i : S1024x5023x3.Idx) :
    at2 (StableHlo.after s24 V (Proc.devRef .tc main_call0_call0_v163)) (StableHlo.after s24 V (Proc.devRef .tc main_call0_call0_v169)) i
      = rd 6#32 26#32 (at2 (V (Proc.devRef .tc main_call0_call0_v156)) (V (Proc.devRef .tc main_call0_call0_v162)) i) := by
  after_reads_simp
  generalize V (Proc.devRef .tc main_call0_call0_v156) = a
  generalize V (Proc.devRef .tc main_call0_call0_v162) = b
  exact Prod.ext rfl (BitVec.xor_comm (show W from (show Wd from a) i + (show Wd from b) i) (rot 6#32 26#32 ((show Wd from b) i)))

abbrev s25 : List (HloOp τ sig (Elt F)) := (hostOps0_1.drop 241).take 7

theorem s25_keys (V : Valuation τ sig (Elt F)) (h : Keys V) : Keys (StableHlo.after s25 V) := by
  obtain ⟨h0, h1, h2, h3, h4⟩ := h
  refine ⟨?_, ?_, ?_, ?_, ?_⟩
  · after_reads_simp; exact h0
  · after_reads_simp; exact h1
  · after_reads_simp; exact h2
  · after_reads_simp; exact h3
  · after_reads_simp; exact h4

theorem s25_at (V : Valuation τ sig (Elt F)) (h : Keys V) (i : S1024x5023x3.Idx) :
    at2 (StableHlo.after s25 V (Proc.devRef .tc main_call0_v22_0)) (StableHlo.after s25 V (Proc.devRef .tc main_call0_v22_1)) i
      = inj 466689008#32 0#32 5#32 (at2 (V (Proc.devRef .tc main_call0_call0_v163)) (V (Proc.devRef .tc main_call0_call0_v169)) i) := by
  obtain ⟨h0, h1, h2, h3, h4⟩ := h
  after_reads_simp
  simp only [h0, h1, h2]
  generalize V (Proc.devRef .tc main_call0_call0_v163) = a
  generalize V (Proc.devRef .tc main_call0_call0_v169) = b
  rfl

end Cert.Proof.RefNoise

end
-- ==== Proof.RefUnif.lean ====
/- The reference's uniform numbers: the counters before the rounds, the rounds in a row, and what the words become. -/
module

public import proofs.«01_k».proof.Proof.Gen.ReferenceIdeal.Frame
public import proofs.«01_k».proof.Proof.RefNoise
public import Idealize.ShloMosaic.Lib.StableHlo.RunRead
public import Idealize.ShloMosaic.Lib.Pointwise

@[expose] public section

set_option maxHeartbeats 4000000
set_option maxRecDepth 100000

noncomputable section

namespace Cert.Proof.RefUnif

open Idealize.ShloMosaic Idealize.ShloMosaic.TcCoe Cert.ReferenceIdeal Cert.ReferenceIdeal.Gen Cert.Proof.Spec Cert.Proof.RefNoise

variable {F : FTy → Type} [FloatOps F]

abbrev Wd : Type := IVec S1024x5023x3 32

abbrev s0 : List (HloOp τ sig (Elt F)) := hostOps0_1.take 33
abbrev sT : List (HloOp τ sig (Elt F)) := hostOps0_1.drop 248

/-- The counter of an element. -/
def ctr (i : S1024x5023x3.Idx) : W := BitVec.ofNat 32 ((i 0).val * 15069 + (i 1).val * 3 + (i 2).val)

/-- The two words of the key, as an array. -/
abbrev key : IVec S2 32 := concatenate S2 0 [⟨S1, (fun _ => 0#32 : IVec S1 32)⟩, ⟨S1, (fun _ => 42#32 : IVec S1 32)⟩] concatenates_S1_S1_S2_d0

theorem key_eq (V : Valuation τ sig (Elt F)) : StableHlo.after hostOps0 V (Proc.devRef .tc main_v6) = key := by
  have h2 : StableHlo.upto hostOps0 V 9 (Proc.devRef .tc main_v2) = (fun _ => 0#32 : IVec S1 32) := by
    unfold StableHlo.upto; after_reads_simp; rfl
  have h5 : StableHlo.upto hostOps0 V 9 (Proc.devRef .tc main_v5) = (fun _ => 42#32 : IVec S1 32) := by
    unfold StableHlo.upto; after_reads_simp; funext x; exact (by decide : (42#32 &&& 4294967295#32 : W) = 42#32)
  after_reads_simp
  rw [h2, h5]

theorem cst_eq (V : Valuation τ sig (Elt F)) : StableHlo.after hostOps0 V (Proc.devRef .tc main_cst) = constant S_ .f32 0xBF7FFFFF#32
    ∧ StableHlo.after hostOps0 V (Proc.devRef .tc main_cst_2) = constant S_ .f32 0x3F800000#32 :=
  ⟨by after_reads_simp, by after_reads_simp⟩

theorem key0 (x : S_.Idx) : shapeCast S_ (extractStridedSlice S1 ![0] key slices_S2_S1_0) shapeCasts_S1_S_ x = 0#32 := by
  pointwise [key]

theorem key1 (x : S_.Idx) : shapeCast S_ (extractStridedSlice S1 ![1] key slices_S2_S1_1) shapeCasts_S1_S_ x = 42#32 := by
  pointwise [key]

theorem s0_keys (V : Valuation τ sig (Elt F)) : Keys (StableHlo.after s0 (StableHlo.after hostOps0 V)) := by
  have h6 := key_eq V
  obtain ⟨h1, h2⟩ := cst_eq V
  generalize StableHlo.after hostOps0 V = V at *
  refine ⟨?_, ?_, ?_, ?_, ?_⟩
  · after_reads_simp; rw [h6]; funext x; exact key0 x
  · after_reads_simp; rw [h6]; funext x; exact key1 x
  · after_reads_simp; rw [h6]; funext x
    exact (congrArg (· ^^^ 466688986#32) (congrArg₂ (· ^^^ ·) (key0 x) (key1 x))).trans rfl
  · after_reads_simp; rw [h1]; rfl
  · after_reads_simp; rw [h2]; rfl

theorem ctr_words (b v k : ℕ) (hb : b < 1024) (hv : v < 5023) (hk : k < 3) :
    (((15069#64 * BitVec.ofNat 64 b + 3#64 * BitVec.ofNat 64 v + 1#64 * BitVec.ofNat 64 k) >>> 32#64).setWidth 32 = 0#32)
    ∧ (15069#64 * BitVec.ofNat 64 b + 3#64 * BitVec.ofNat 64 v + 1#64 * BitVec.ofNat 64 k).setWidth 32
      = BitVec.ofNat 32 (b * 15069 + v * 3 + k) := by
  have h : 15069#64 * BitVec.ofNat 64 b + 3#64 * BitVec.ofNat 64 v + 1#64 * BitVec.ofNat 64 k
      = BitVec.ofNat 64 (b * 15069 + v * 3 + k) := by
    apply BitVec.eq_of_toNat_eq
    simp [BitVec.toNat_add, BitVec.toNat_mul, BitVec.toNat_ofNat]
    omega
  rw [h]
  constructor
  · apply BitVec.eq_of_toNat_eq
    have e : (b * 15069 + v * 3 + k) % 18446744073709551616 / 4294967296 = 0 := by
      rw [Nat.mod_eq_of_lt (by omega), Nat.div_eq_of_lt (by omega)]
    simp [BitVec.toNat_ofNat, Nat.shiftRight_eq_div_pow, e]
  · apply BitVec.eq_of_toNat_eq
    simp [BitVec.toNat_ofNat]

theorem s0_at (V : Valuation τ sig (Elt F)) (i : S1024x5023x3.Idx) :
    at2 (StableHlo.after s0 (StableHlo.after hostOps0 V) (Proc.devRef .tc main_call0_call0_v3)) (StableHlo.after s0 (StableHlo.after hostOps0 V) (Proc.devRef .tc main_call0_call0_v5)) i
      = (0#32, ctr i + 42#32) := by
  have h6 := key_eq V
  generalize StableHlo.after hostOps0 V = V at *
  obtain ⟨h1, h2⟩ := ctr_words (i 0).val (i 1).val (i 2).val (i 0).isLt (i 1).isLt (i 2).isLt
  refine Prod.ext ?_ ?_
  · after_reads_simp
    rw [h6]
    exact (congrArg₂ (fun u v : W => u + v) h1 (key0 _)).trans rfl
  · after_reads_simp
    rw [h6]
    exact congrArg₂ (fun u v : W => u + v) h2 (key1 _)

theorem sT_at (V : Valuation τ sig (Elt F)) (h : Keys V) (i : S1024x5023x3.Idx) :
    (StableHlo.after sT V (Proc.devRef .tc main_v7) : FVec F S1024x5023x3 .f32) i
      = FloatOps.maximumf (FloatOps.ofBits .f32 0xBF7FFFFF#32)
          (FloatOps.addf (FloatOps.mulf (FloatOps.subf (FloatOps.ofBits .f32
            ((((show Wd from V (Proc.devRef .tc main_call0_v22_0)) i ^^^ (show Wd from V (Proc.devRef .tc main_call0_v22_1)) i) >>> 9#32) ||| 1065353216#32))
            (FloatOps.ofBits .f32 0x3F800000#32)) (FloatOps.subf (FloatOps.ofBits .f32 0x3F800000#32) (FloatOps.ofBits .f32 0xBF7FFFFF#32)))
            (FloatOps.ofBits .f32 0xBF7FFFFF#32)) := by
  obtain ⟨h0, h1, h2, h3, h4⟩ := h
  after_reads_simp
  simp only [h3, h4]
  generalize V (Proc.devRef .tc main_call0_v22_0) = a
  generalize V (Proc.devRef .tc main_call0_v22_1) = b
  rfl

theorem cut : (List.flatten [hostOps0, hostOps0_1] : List (HloOp τ sig (Elt F))) = hostOps0 ++ (s0 ++ (s1 ++ (s2 ++ (s3 ++ (s4 ++ (s5 ++ (s6 ++ (s7 ++ (s8 ++ (s9 ++ (s10 ++ (s11 ++ (s12 ++ (s13 ++ (s14 ++ (s15 ++ (s16 ++ (s17 ++ (s18 ++ (s19 ++ (s20 ++ (s21 ++ (s22 ++ (s23 ++ (s24 ++ (s25 ++ (sT))))))))))))))))))))))))))) := rfl

/-- The uniform numbers of the reference, from any memory. -/
theorem unif_at (V : Valuation τ sig (Elt F)) (i : S1024x5023x3.Idx) :
    (StableHlo.after (List.flatten [hostOps0, hostOps0_1]) V (Proc.devRef .tc main_v7) : FVec F S1024x5023x3 .f32) i
      = FloatOps.maximumf (FloatOps.ofBits .f32 0xBF7FFFFF#32)
          (FloatOps.addf (FloatOps.mulf (FloatOps.subf (FloatOps.ofBits .f32 ((bits (ctr i) >>> 9#32) ||| 1065353216#32))
            (FloatOps.ofBits .f32 0x3F800000#32)) (FloatOps.subf (FloatOps.ofBits .f32 0x3F800000#32) (FloatOps.ofBits .f32 0xBF7FFFFF#32)))
            (FloatOps.ofBits .f32 0xBF7FFFFF#32)) := by
  rw [cut]
  simp only [StableHlo.after_append]
  have k0 := s0_keys V
  have e0 := s0_at V i
  generalize StableHlo.after s0 (StableHlo.after hostOps0 V) = V0 at k0 e0 ⊢
  have k1 := s1_keys V0 k0
  have e1 := s1_at V0 i
  rw [e0] at e1
  generalize StableHlo.after s1 V0 = V1 at k1 e1 ⊢
  have k2 := s2_keys V1 k1
  have e2 := s2_at V1 i
  rw [e1] at e2
  generalize StableHlo.after s2 V1 = V2 at k2 e2 ⊢
  have k3 := s3_keys V2 k2
  have e3 := s3_at V2 i
  rw [e2] at e3
  generalize StableHlo.after s3 V2 = V3 at k3 e3 ⊢
  have k4 := s4_keys V3 k3
  have e4 := s4_at V3 i
  rw [e3] at e4
  generalize StableHlo.after s4 V3 = V4 at k4 e4 ⊢
  have k5 := s5_keys V4 k4
  have e5 := s5_at V4 k4 i
  rw [e4] at e5
  generalize StableHlo.after s5 V4 = V5 at k5 e5 ⊢
  have k6 := s6_keys V5 k5
  have e6 := s6_at V5 i
  rw [e5] at e6
  generalize StableHlo.after s6 V5 = V6 at k6 e6 ⊢
  have k7 := s7_keys V6 k6
  have e7 := s7_at V6 i
  rw [e6] at e7
  generalize StableHlo.after s7 V6 = V7 at k7 e7 ⊢
  have k8 := s8_keys V7 k7
  have e8 := s8_at V7 i
  rw [e7] at e8
  generalize StableHlo.after s8 V7 = V8 at k8 e8 ⊢
  have k9 := s9_keys V8 k8
  have e9 := s9_at V8 i
  rw [e8] at e9
  generalize StableHlo.after s9 V8 = V9 at k9 e9 ⊢
  have k10 := s10_keys V9 k9
  have e10 := s10_at V9 k9 i
  rw [e9] at e10
  generalize StableHlo.after s10 V9 = V10 at k10 e10 ⊢
  have k11 := s11_keys V10 k10
  have e11 := s11_at V10 i
  rw [e10] at e11
  generalize StableHlo.after s11 V10 = V11 at k11 e11 ⊢
  have k12 := s12_keys V11 k11
  have e12 := s12_at V11 i
  rw [e11] at e12
  generalize StableHlo.after s12 V11 = V12 at k12 e12 ⊢
  have k13 := s13_keys V12 k12
  have e13 := s13_at V12 i
  rw [e12] at e13
  generalize StableHlo.after s13 V12 = V13 at k13 e13 ⊢
  have k14 := s14_keys V13 k13
  have e14 := s14_at V13 i
  rw [e13] at e14
  generalize StableHlo.after s14 V13 = V14 at k14 e14 ⊢
  have k15 := s15_keys V14 k14
  have e15 := s15_at V14 k14 i
  rw [e14] at e15
  generalize StableHlo.after s15 V14 = V15 at k15 e15 ⊢
  have k16 := s16_keys V15 k15
  have e16 := s16_at V15 i
  rw [e15] at e16
  generalize StableHlo.after s16 V15 = V16 at k16 e16 ⊢
  have k17 := s17_keys V16 k16
  have e17 := s17_at V16 i
  rw [e16] at e17
  generalize StableHlo.after s17 V16 = V17 at k17 e17 ⊢
  have k18 := s18_keys V17 k17
  have e18 := s18_at V17 i
  rw [e17] at e18
  generalize StableHlo.after s18 V17 = V18 at k18 e18 ⊢
  have k19 := s19_keys V18 k18
  have e19 := s19_at V18 i
  rw [e18] at e19
  generalize StableHlo.after s19 V18 = V19 at k19 e19 ⊢
  have k20 := s20_keys V19 k19
  have e20 := s20_at V19 k19 i
  rw [e19] at e20
  generalize StableHlo.after s20 V19 = V20 at k20 e20 ⊢
  have k21 := s21_keys V20 k20
  have e21 := s21_at V20 i
  rw [e20] at e21
  generalize StableHlo.after s21 V20 = V21 at k21 e21 ⊢
  have k22 := s22_keys V21 k21
  have e22 := s22_at V21 i
  rw [e21] at e22
  generalize StableHlo.after s22 V21 = V22 at k22 e22 ⊢
  have k23 := s23_keys V22 k22
  have e23 := s23_at V22 i
  rw [e22] at e23
  generalize StableHlo.after s23 V22 = V23 at k23 e23 ⊢
  have k24 := s24_keys V23 k23
  have e24 := s24_at V23 i
  rw [e23] at e24
  generalize StableHlo.after s24 V23 = V24 at k24 e24 ⊢
  have k25 := s25_keys V24 k24
  have e25 := s25_at V24 k24 i
  rw [e24] at e25
  generalize StableHlo.after s25 V24 = V25 at k25 e25 ⊢
  rw [sT_at V25 k25 i]
  have hb : (show Wd from V25 (Proc.devRef .tc main_call0_v22_0)) i ^^^ (show Wd from V25 (Proc.devRef .tc main_call0_v22_1)) i = bits (ctr i) := by
    rw [bits, fin5]
    simp only [qa, qb]
    rw [← e25]
  rw [hb]

end Cert.Proof.RefUnif

end
-- ==== Proof.RefRegion.lean ====
/- The reference's one region: its result array is the inverse error function of its operand, element by element. -/
module

public import proofs.«01_k».proof.Proof.Gen.ReferenceIdeal.Frame
public import proofs.«01_k».proof.Proof.Spec
public import Idealize.ShloMosaic.Lib.Pipeline.Value

@[expose] public section

set_option maxRecDepth 100000

noncomputable section

namespace Cert.Proof.RefRegion

open Idealize.ShloMosaic Idealize.ShloMosaic.TcCoe Cert.ReferenceIdeal Cert.ReferenceIdeal.Gen Cert.Proof.Spec
open Idealize.ShloMosaic.Pipeline (Dat)

variable {F : FTy → Type} [FloatOps F]

/-- The region's payload at an element. -/
theorem pay_at (v : Vec F S1024x5023x3 .f32) (x : S1024x5023x3.Idx) :
    k0_pay1 (k0_pay2 v) (k0_pay4 v) (k0_pay5 v) (k0_pay6 v) (Scalar.ofBits .f32 0xBBF9C5D7#32) (k0_pay7 (F := F)) x
      = erfi (k0_pay2 v x) := by
  have h4 : k0_pay4 v x = elt (k0_pay2 v x) := rfl
  have h5 : k0_pay5 v x = ex (k0_pay2 v x) := rfl
  have h6 : k0_pay6 v x = stp (k0_pay4 v x) (k0_pay5 v x) 0x396532DB#32 0x3BBC127B#32 (stp (k0_pay4 v x) (k0_pay5 v x) 0xB6935AC1#32 0xBB70BDE7#32
      (stp (k0_pay4 v x) (k0_pay5 v x) 0xB66C7357#32 0x3AB0DC72#32 (stp (k0_pay4 v x) (k0_pay5 v x) 0x34B84B36#32 0x38D3B56B#32
        (co (k0_pay4 v x) 0x32F16588#32 0xB951F09B#32)))) := rfl
  unfold erfi poly
  rw [← h4, ← h5, ← h6]
  generalize k0_pay2 v = v2 at *
  generalize k0_pay4 v = v4 at *
  generalize k0_pay5 v = v5 at *
  generalize k0_pay6 v = v6 at *
  rfl

theorem pay2_eq (v : Vec F S1024x5023x3 .f32) : k0_pay2 v = v := by
  unfold k0_pay2; exact shapeCast_self _ _

theorem hz : (![0, 0, 0] : Fin 3 → Nat) = fun _ => 0 := funext fun a => by fin_cases a <;> rfl

theorem out_eq (v : Vec F S1024x5023x3 .f32) : out0_1 v = fun x => erfi (v x) := by
  unfold out0_1
  rw [View.canon_unit_zero hz, View.ld_unit_zero hz]
  funext x
  rw [pay_at, pay2_eq]

variable (m : (ℓ : Loc nD τ sig) → Buf (Elt F) ℓ)

/-- The region's result array. -/
abbrev G (c : Dev nD) : Buf (Elt F) ((c : Thread nD τ).loc main_v8) := fun i => erfi ((V m c main_v7 : FVec F S1024x5023x3 .f32) i)

theorem flushed_eq (c : Dev nD) (t : Fin cfg0.N) :
    (dats m 0 c).flushed 1 t = (win0_1.blk t).view.read (Elt F) (G m c) := by
  show (cfg0.win 1).cut (grid0.coords t) ((dats m 0 c).after 1 t) = _
  rw [after0_1, out_eq]
  unfold iblk G
  generalize V m c main_v7 = v
  rfl

theorem mem_blk (t : Fin cfg0.N) (i : S1024x5023x3.Idx) : i ∈ ((cfg0.win 1).blk t).view.set := by
  show i ∈ ((View.whole main_v8).slice (win0_1.rect t)).set
  rw [View.set_slice_whole, Rect.mem_set_unit]
  intro a
  have e : win0_1.index t 0 * win0_1.size 0 = 0 ∧ win0_1.xsize (grid0.coords t) 0 = 1024
      ∧ win0_1.index t 1 * win0_1.size 1 = 0 ∧ win0_1.xsize (grid0.coords t) 1 = 5023
      ∧ win0_1.index t 2 * win0_1.size 2 = 0 ∧ win0_1.xsize (grid0.coords t) 2 = 3 := by
    rcases fin_N0 t with rfl; decide +kernel
  obtain ⟨e1, e2, e3, e4, e5, e6⟩ := e
  have h0 : (i 0 : Nat) < 1024 := (i 0).isLt
  have h1 : (i 1 : Nat) < 5023 := (i 1).isLt
  have h2 : (i 2 : Nat) < 3 := (i 2).isLt
  match a with
  | ⟨0, _⟩ => show win0_1.index t 0 * win0_1.size 0 ≤ (i 0 : Nat) ∧ (i 0 : Nat) < win0_1.index t 0 * win0_1.size 0 + win0_1.xsize (grid0.coords t) 0
              rw [e1, e2]; omega
  | ⟨1, _⟩ => show win0_1.index t 1 * win0_1.size 1 ≤ (i 1 : Nat) ∧ (i 1 : Nat) < win0_1.index t 1 * win0_1.size 1 + win0_1.xsize (grid0.coords t) 1
              rw [e3, e4]; omega
  | ⟨2, _⟩ => show win0_1.index t 2 * win0_1.size 2 ≤ (i 2 : Nat) ∧ (i 2 : Nat) < win0_1.index t 2 * win0_1.size 2 + win0_1.xsize (grid0.coords t) 2
              rw [e5, e6]; omega

/-- The array after the run. -/
theorem final (c : Dev nD) : (dats m 0 c).arrAt 1 cfg0.N = G m c :=
  (dats m 0 c).arrAt_eq_of_cover 1 (G m c) (fun t _ => flushed_eq m c t) fun i => by
    have hN : cfg0.N = 1 := N_0
    exact ⟨⟨0, by omega⟩, flush0_1 _, mem_blk _ i⟩

end Cert.Proof.RefRegion

end
-- ==== Proof.RefValue.lean ====
/- What the reference's two results hold, over the template and the noise. -/
module

public import proofs.«01_k».proof.Proof.RefTail
public import proofs.«01_k».proof.Proof.RefUnif
public import proofs.«01_k».proof.Proof.RefRegion
public import Idealize.ShloMosaic.Lib.StableHlo.RunRead

@[expose] public section

set_option maxRecDepth 100000

noncomputable section

namespace Cert.Proof.RefValue

open Idealize.ShloMosaic Idealize.ShloMosaic.TcCoe Cert.ReferenceIdeal Cert.ReferenceIdeal.Gen Cert.Proof.Spec Cert.Proof.RefTail

section generic

variable {F : FTy → Type} [FloatOps F] (m : (ℓ : Loc nD τ sig) → Buf (Elt F) ℓ) (c : Dev nD)

/-- The arrays after the region. -/
def R : Valuation τ sig (Elt F) := Pipeline.withArrays spec0 c (V0 m c) (fun w => (dats m 0 c).arrAt w cfg0.N)

theorem R_v8 : R m c (Proc.devRef .tc main_v8) = RefRegion.G m c :=
  (Pipeline.withArrays_arr spec0 (by decide) c (V0 m c) _ 1).trans (RefRegion.final m c)

theorem R_arg2 : R m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem R_arg3 : R m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem R_arg4 : R m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)
theorem R_arg5 : R m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

variable (U : Valuation τ sig (Elt F))

theorem k1_arg3 : StableHlo.after hostOps1 U (Proc.devRef .tc main_arg3) = U (Proc.devRef .tc main_arg3) := by after_reads_simp
theorem k1_arg4 : StableHlo.after hostOps1 U (Proc.devRef .tc main_arg4) = U (Proc.devRef .tc main_arg4) := by after_reads_simp
theorem k1_arg5 : StableHlo.after hostOps1 U (Proc.devRef .tc main_arg5) = U (Proc.devRef .tc main_arg5) := by after_reads_simp
theorem k2_arg5 : StableHlo.after hostOps1_1 U (Proc.devRef .tc main_arg5) = U (Proc.devRef .tc main_arg5) := by after_reads_simp
theorem k2_v15 : StableHlo.after hostOps1_1 U (Proc.devRef .tc main_v15) = U (Proc.devRef .tc main_v15) := by after_reads_simp

/-- The deformed vertices, and the landmarks' faces. -/
def D : FVec F S1024x5023x3 .f32 := StableHlo.after hostOps1 (R m c) (Proc.devRef .tc main_v15)
def A : IVec S68x3 32 := StableHlo.after hostOps1_1 (StableHlo.after hostOps1 (R m c)) (Proc.devRef .tc main_v16)

theorem tail_eq (b : Ref sig .tc) : Pipeline.afterTail₀ cfgs (dats m) 0 (V0 m) [hostOps1, hostOps1_1, hostOps1_2] c b
    = StableHlo.after hostOps1_2 (StableHlo.after hostOps1_1 (StableHlo.after hostOps1 (R m c))) (Proc.devRef .tc b) := by
  unfold Pipeline.afterTail₀
  simp only [List.flatten_cons, List.flatten_nil, List.append_nil, StableHlo.after_append]
  rfl

theorem v45_at (b : Fin 1024) (v : Fin 5023) (k : Fin 3) :
    (Pipeline.afterTail₀ cfgs (dats m) 0 (V0 m) [hostOps1, hostOps1_1, hostOps1_2] c main_v45 : FVec F S1024x5023x3 .f32) (ix3 b v k)
      = FloatOps.uitofp .f32 (FloatOps.cmpf .ogt
        (FloatOps.hostDivf (FloatOps.subf (D m c (ix3 b v 2)) (lo (D m c) b))
          (FloatOps.addf (FloatOps.subf (hi (D m c) b) (lo (D m c) b)) (FloatOps.ofBits .f32 841731191#32)))
        (FloatOps.ofBits .f32 1050253722#32)) := by
  rw [tail_eq]
  exact rendered_at _ (D m c) (k2_v15 _) b v k

theorem v27_eq : (Pipeline.afterTail₀ cfgs (dats m) 0 (V0 m) [hostOps1, hostOps1_1, hostOps1_2] c main_v27 : FVec F S1024x68x3 .f32)
    = land (D m c) (A m c) (m ((c : Thread nD τ).loc main_arg5)) := by
  rw [tail_eq]
  exact land_read _ (D m c) (k2_v15 _) (A m c) rfl _ ((k2_arg5 _).trans ((k1_arg5 _).trans (R_arg5 m c)))

theorem A_at (idx : IVec S68 32) (faces : IVec S9976x3 32) (h4 : m ((c : Thread nD τ).loc main_arg4) = idx)
    (h3 : m ((c : Thread nD τ).loc main_arg3) = faces) (fi : Fin 68 → Fin 9976) (hi : ∀ l, idx (ix1 l) = BitVec.ofNat 32 (fi l).val)
    (l : Fin 68) (j : Fin 3) : A m c (ix2 l j) = faces (ix2 (fi l) j) :=
  faces_at _ idx faces ((k1_arg4 _).trans ((R_arg4 m c).trans h4)) ((k1_arg3 _).trans ((R_arg3 m c).trans h3)) fi hi l j

/-- The length of the interval, as the reference has it. -/
def sp : F .f32 := FloatOps.subf (FloatOps.ofBits .f32 0x3F800000#32) (FloatOps.ofBits .f32 0xBF7FFFFF#32)

theorem D_at (t : FVec F S5023x3 .f32) (ht : m ((c : Thread nD τ).loc main_arg2) = t) (b : Fin 1024) (v : Fin 5023) (k : Fin 3) :
    D m c (ix3 b v k) = FloatOps.addf (t (ix2 v k)) (FloatOps.mulf (FloatOps.mulf (FloatOps.ofBits .f32 0x3FB504F3#32)
      (erfi ((V m c main_v7 : FVec F S1024x5023x3 .f32) (ix3 b v k)))) (FloatOps.ofBits .f32 0x3A83126F#32)) :=
  deformed_at _ (RefRegion.G m c) t (R_v8 m c) ((R_arg2 m c).trans ht) b v k

theorem u_at (b : Fin 1024) (v : Fin 5023) (k : Fin 3) :
    (V m c main_v7 : FVec F S1024x5023x3 .f32) (ix3 b v k)
      = FloatOps.maximumf (FloatOps.ofBits .f32 0xBF7FFFFF#32)
          (FloatOps.addf (FloatOps.mulf (FloatOps.subf (FloatOps.ofBits .f32 ((bits (BitVec.ofNat 32 (b.val * 15069 + v.val * 3 + k.val)) >>> 9#32) ||| 1065353216#32))
            (FloatOps.ofBits .f32 0x3F800000#32)) sp) (FloatOps.ofBits .f32 0xBF7FFFFF#32)) :=
  RefUnif.unif_at (fun b => m (c, b)) (ix3 b v k)

end generic

section ideal

variable (m : (ℓ : Loc nD τ sig) → Buf (Elt Ideal) ℓ) (c : Dev nD)

/-- The deformed vertices over the extended reals. -/
theorem D_ideal (t : FVec Ideal S5023x3 .f32) (ht : m ((c : Thread nD τ).loc main_arg2) = t) (b : Fin 1024) (v : Fin 5023) (k : Fin 3) :
    D m c (ix3 b v k) = FloatOps.addf (t (ix2 v k)) (noise sp (BitVec.ofNat 32 (b.val * 15069 + v.val * 3 + k.val))) := by
  rw [D_at m c t ht, u_at, noise, unif]
  rw [Ideal.maximumf_def, Ideal.maximumf_def, max_comm]

end ideal

end Cert.Proof.RefValue

end
-- ==== Proof.Bound.lean ====
/- The noise is a real number of size at most six thousandths: the uniform numbers are within one of zero, the logarithm
   and the root are real there, and the polynomial is bounded on each branch. -/
module

public import proofs.«01_k».proof.Proof.Spec
public import Mathlib.Analysis.SpecialFunctions.Log.Basic

@[expose] public section

noncomputable section

namespace Cert.Proof.Bound

open Idealize.ShloMosaic Cert.Proof.Spec

/-- A literal's value, and a bound of its size. -/
def Lit (w : W) (B : ℝ) : Prop := ∃ C : ℝ, Ideal.ofBits .f32 w = (C : EReal) ∧ |C| ≤ B

theorem lit_32F16588 : Lit 0x32F16588#32 ((1 : ℝ) / 1000000) := by
  refine ⟨((1977521 : ℝ) / 70368744177664), ?_, ?_⟩
  · simp [Ideal.ofBits, Ideal.ieee, -EReal.coe_mul]
    norm_num
  · rw [abs_le]; constructor <;> norm_num
theorem lit_34B84B36 : Lit 0x34B84B36#32 ((1 : ℝ) / 1000000) := by
  refine ⟨((6038939 : ℝ) / 17592186044416), ?_, ?_⟩
  · simp [Ideal.ofBits, Ideal.ieee, -EReal.coe_mul]
    norm_num
  · rw [abs_le]; constructor <;> norm_num
theorem lit_B66C7357 : Lit 0xB66C7357#32 ((1 : ℝ) / 250000) := by
  refine ⟨(-(15496023 : ℝ) / 4398046511104), ?_, ?_⟩
  · simp [Ideal.ofBits, Ideal.ieee, -EReal.coe_mul]
    norm_num
  · rw [abs_le]; constructor <;> norm_num
theorem lit_B6935AC1 : Lit 0xB6935AC1#32 ((1 : ℝ) / 200000) := by
  refine ⟨(-(9657025 : ℝ) / 2199023255552), ?_, ?_⟩
  · simp [Ideal.ofBits, Ideal.ieee, -EReal.coe_mul]
    norm_num
  · rw [abs_le]; constructor <;> norm_num
theorem lit_396532DB : Lit 0x396532DB#32 ((219 : ℝ) / 1000000) := by
  refine ⟨((15020763 : ℝ) / 68719476736), ?_, ?_⟩
  · simp [Ideal.ofBits, Ideal.ieee, -EReal.coe_mul]
    norm_num
  · rw [abs_le]; constructor <;> norm_num
theorem lit_BAA45408 : Lit 0xBAA45408#32 ((627 : ℝ) / 500000) := by
  refine ⟨(-(1346177 : ℝ) / 1073741824), ?_, ?_⟩
  · simp [Ideal.ofBits, Ideal.ieee, -EReal.coe_mul]
    norm_num
  · rw [abs_le]; constructor <;> norm_num
theorem lit_BB88E4EF : Lit 0xBB88E4EF#32 ((2089 : ℝ) / 500000) := by
  refine ⟨(-(8971503 : ℝ) / 2147483648), ?_, ?_⟩
  · simp [Ideal.ofBits, Ideal.ieee, -EReal.coe_mul]
    norm_num
  · rw [abs_le]; constructor <;> norm_num
theorem lit_3E7C8F63 : Lit 0x3E7C8F63#32 ((246641 : ℝ) / 1000000) := by
  refine ⟨((16551779 : ℝ) / 67108864), ?_, ?_⟩
  · simp [Ideal.ofBits, Ideal.ieee, -EReal.coe_mul]
    norm_num
  · rw [abs_le]; constructor <;> norm_num
theorem lit_3FC02E2F : Lit 0x3FC02E2F#32 ((150141 : ℝ) / 100000) := by
  refine ⟨((12594735 : ℝ) / 8388608), ?_, ?_⟩
  · simp [Ideal.ofBits, Ideal.ieee, -EReal.coe_mul]
    norm_num
  · rw [abs_le]; constructor <;> norm_num
theorem lit_B951F09B : Lit 0xB951F09B#32 ((201 : ℝ) / 1000000) := by
  refine ⟨(-(13758619 : ℝ) / 68719476736), ?_, ?_⟩
  · simp [Ideal.ofBits, Ideal.ieee, -EReal.coe_mul]
    norm_num
  · rw [abs_le]; constructor <;> norm_num
theorem lit_38D3B56B : Lit 0x38D3B56B#32 ((101 : ℝ) / 1000000) := by
  refine ⟨((13874539 : ℝ) / 137438953472), ?_, ?_⟩
  · simp [Ideal.ofBits, Ideal.ieee, -EReal.coe_mul]
    norm_num
  · rw [abs_le]; constructor <;> norm_num
theorem lit_3AB0DC72 : Lit 0x3AB0DC72#32 ((27 : ℝ) / 20000) := by
  refine ⟨((5795385 : ℝ) / 4294967296), ?_, ?_⟩
  · simp [Ideal.ofBits, Ideal.ieee, -EReal.coe_mul]
    norm_num
  · rw [abs_le]; constructor <;> norm_num
theorem lit_BB70BDE7 : Lit 0xBB70BDE7#32 ((1837 : ℝ) / 500000) := by
  refine ⟨(-(15777255 : ℝ) / 4294967296), ?_, ?_⟩
  · simp [Ideal.ofBits, Ideal.ieee, -EReal.coe_mul]
    norm_num
  · rw [abs_le]; constructor <;> norm_num
theorem lit_3BBC127B : Lit 0x3BBC127B#32 ((287 : ℝ) / 50000) := by
  refine ⟨((12325499 : ℝ) / 2147483648), ?_, ?_⟩
  · simp [Ideal.ofBits, Ideal.ieee, -EReal.coe_mul]
    norm_num
  · rw [abs_le]; constructor <;> norm_num
theorem lit_BBF9C5D7 : Lit 0xBBF9C5D7#32 ((7623 : ℝ) / 1000000) := by
  refine ⟨(-(16369111 : ℝ) / 2147483648), ?_, ?_⟩
  · simp [Ideal.ofBits, Ideal.ieee, -EReal.coe_mul]
    norm_num
  · rw [abs_le]; constructor <;> norm_num
theorem lit_3C1AA57E : Lit 0x3C1AA57E#32 ((9439 : ℝ) / 1000000) := by
  refine ⟨((5067455 : ℝ) / 536870912), ?_, ?_⟩
  · simp [Ideal.ofBits, Ideal.ieee, -EReal.coe_mul]
    norm_num
  · rw [abs_le]; constructor <;> norm_num
theorem lit_3F8036DB : Lit 0x3F8036DB#32 ((40067 : ℝ) / 40000) := by
  refine ⟨((8402651 : ℝ) / 8388608), ?_, ?_⟩
  · simp [Ideal.ofBits, Ideal.ieee, -EReal.coe_mul]
    norm_num
  · rw [abs_le]; constructor <;> norm_num
theorem lit_40354F7E : Lit 0x40354F7E#32 ((2832977 : ℝ) / 1000000) := by
  refine ⟨((5941183 : ℝ) / 2097152), ?_, ?_⟩
  · simp [Ideal.ofBits, Ideal.ieee, -EReal.coe_mul]
    norm_num
  · rw [abs_le]; constructor <;> norm_num

theorem step1 {a b : W} {x p : Ideal .f32} {X B M K N : ℝ} (hx : x = (X : EReal)) (hX : |X| ≤ B) (hp : ∃ Q : ℝ, p = (Q : EReal) ∧ |Q| ≤ M)
    (hc : Lit a K) (hN : K + M * B ≤ N) : ∃ Q : ℝ, stp (F := Ideal) 1#1 x a b p = (Q : EReal) ∧ |Q| ≤ N := by
  obtain ⟨Q, rfl, hQ⟩ := hp
  obtain ⟨C, hC, hK⟩ := hc
  subst hx
  refine ⟨C + Q * X, ?_, ?_⟩
  · show Ideal.ofBits .f32 a + (Q : EReal) * (X : EReal) = _
    rw [hC, EReal.coe_add, EReal.coe_mul]
  · calc |C + Q * X| ≤ |C| + |Q * X| := abs_add_le _ _
      _ = |C| + |Q| * |X| := by rw [abs_mul]
      _ ≤ K + M * B := add_le_add hK (mul_le_mul hQ hX (abs_nonneg _) ((abs_nonneg _).trans hQ))
      _ ≤ N := hN

theorem step0 {a b : W} {x p : Ideal .f32} {X B M K N : ℝ} (hx : x = (X : EReal)) (hX : |X| ≤ B) (hp : ∃ Q : ℝ, p = (Q : EReal) ∧ |Q| ≤ M)
    (hc : Lit b K) (hN : K + M * B ≤ N) : ∃ Q : ℝ, stp (F := Ideal) 0#1 x a b p = (Q : EReal) ∧ |Q| ≤ N := by
  obtain ⟨Q, rfl, hQ⟩ := hp
  obtain ⟨C, hC, hK⟩ := hc
  subst hx
  refine ⟨C + Q * X, ?_, ?_⟩
  · show Ideal.ofBits .f32 b + (Q : EReal) * (X : EReal) = _
    rw [hC, EReal.coe_add, EReal.coe_mul]
  · calc |C + Q * X| ≤ |C| + |Q * X| := abs_add_le _ _
      _ = |C| + |Q| * |X| := by rw [abs_mul]
      _ ≤ K + M * B := add_le_add hK (mul_le_mul hQ hX (abs_nonneg _) ((abs_nonneg _).trans hQ))
      _ ≤ N := hN

theorem poly1 {x : Ideal .f32} {X : ℝ} (hx : x = (X : EReal)) (hX : |X| ≤ ((5 : ℝ) / 2)) :
    ∃ Q : ℝ, poly (F := Ideal) 1#1 x = (Q : EReal) ∧ |Q| ≤ ((544047 : ℝ) / 250000) := by
  have h0 : ∃ Q : ℝ, co (F := Ideal) 1#1 0x32F16588#32 0xB951F09B#32 = (Q : EReal) ∧ |Q| ≤ ((1 : ℝ) / 1000000) := lit_32F16588
  have h1 := step1 (a := 0x34B84B36#32) (b := 0x38D3B56B#32) (N := ((1 : ℝ) / 250000)) hx hX h0 lit_34B84B36 (by norm_num)
  have h2 := step1 (a := 0xB66C7357#32) (b := 0x3AB0DC72#32) (N := ((7 : ℝ) / 500000)) hx hX h1 lit_B66C7357 (by norm_num)
  have h3 := step1 (a := 0xB6935AC1#32) (b := 0xBB70BDE7#32) (N := ((1 : ℝ) / 25000)) hx hX h2 lit_B6935AC1 (by norm_num)
  have h4 := step1 (a := 0x396532DB#32) (b := 0x3BBC127B#32) (N := ((319 : ℝ) / 1000000)) hx hX h3 lit_396532DB (by norm_num)
  have h5 := step1 (a := 0xBAA45408#32) (b := 0xBBF9C5D7#32) (N := ((513 : ℝ) / 250000)) hx hX h4 lit_BAA45408 (by norm_num)
  have h6 := step1 (a := 0xBB88E4EF#32) (b := 0x3C1AA57E#32) (N := ((2327 : ℝ) / 250000)) hx hX h5 lit_BB88E4EF (by norm_num)
  have h7 := step1 (a := 0x3E7C8F63#32) (b := 0x3F8036DB#32) (N := ((269911 : ℝ) / 1000000)) hx hX h6 lit_3E7C8F63 (by norm_num)
  have h8 := step1 (a := 0x3FC02E2F#32) (b := 0x40354F7E#32) (N := ((544047 : ℝ) / 250000)) hx hX h7 lit_3FC02E2F (by norm_num)
  exact h8

theorem poly0 {x : Ideal .f32} {X : ℝ} (hx : x = (X : EReal)) (hX : |X| ≤ ((11 : ℝ) / 10)) :
    ∃ Q : ℝ, poly (F := Ideal) 0#1 x = (Q : EReal) ∧ |Q| ≤ ((1986867 : ℝ) / 500000) := by
  have h0 : ∃ Q : ℝ, co (F := Ideal) 0#1 0x32F16588#32 0xB951F09B#32 = (Q : EReal) ∧ |Q| ≤ ((201 : ℝ) / 1000000) := lit_B951F09B
  have h1 := step0 (a := 0x34B84B36#32) (b := 0x38D3B56B#32) (N := ((323 : ℝ) / 1000000)) hx hX h0 lit_38D3B56B (by norm_num)
  have h2 := step0 (a := 0xB66C7357#32) (b := 0x3AB0DC72#32) (N := ((853 : ℝ) / 500000)) hx hX h1 lit_3AB0DC72 (by norm_num)
  have h3 := step0 (a := 0xB6935AC1#32) (b := 0xBB70BDE7#32) (N := ((5551 : ℝ) / 1000000)) hx hX h2 lit_BB70BDE7 (by norm_num)
  have h4 := step0 (a := 0x396532DB#32) (b := 0x3BBC127B#32) (N := ((11847 : ℝ) / 1000000)) hx hX h3 lit_3BBC127B (by norm_num)
  have h5 := step0 (a := 0xBAA45408#32) (b := 0xBBF9C5D7#32) (N := ((4131 : ℝ) / 200000)) hx hX h4 lit_BBF9C5D7 (by norm_num)
  have h6 := step0 (a := 0xBB88E4EF#32) (b := 0x3C1AA57E#32) (N := ((201 : ℝ) / 6250)) hx hX h5 lit_3C1AA57E (by norm_num)
  have h7 := step0 (a := 0x3E7C8F63#32) (b := 0x3F8036DB#32) (N := ((1037051 : ℝ) / 1000000)) hx hX h6 lit_3F8036DB (by norm_num)
  have h8 := step0 (a := 0x3FC02E2F#32) (b := 0x40354F7E#32) (N := ((1986867 : ℝ) / 500000)) hx hX h7 lit_40354F7E (by norm_num)
  exact h8

theorem exp_mant (x : W) : (x >>> 9#32 ||| 1065353216#32).extractLsb' 23 8 = 127#8 := by
  apply BitVec.eq_of_getLsbD_eq
  intro i hi
  have h : x.getLsbD (9 + (23 + i)) = false := BitVec.getLsbD_of_ge _ _ (by omega)
  simp only [BitVec.getLsbD_extractLsb', BitVec.getLsbD_or]
  have h2 : (x >>> 9#32).getLsbD (23 + i) = false := by
    show (x >>> (9#32).toNat).getLsbD (23 + i) = false
    rw [BitVec.getLsbD_ushiftRight]
    exact h
  rw [h2]
  interval_cases i <;> rfl

theorem sign_mant (x : W) : (x >>> 9#32 ||| 1065353216#32).extractLsb' 31 1 = 0#1 := by
  apply BitVec.eq_of_getLsbD_eq
  intro i hi
  have h : x.getLsbD (9 + (31 + i)) = false := BitVec.getLsbD_of_ge _ _ (by omega)
  simp only [BitVec.getLsbD_extractLsb', BitVec.getLsbD_or]
  have h2 : (x >>> 9#32).getLsbD (31 + i) = false := by
    show (x >>> (9#32).toNat).getLsbD (31 + i) = false
    rw [BitVec.getLsbD_ushiftRight]
    exact h
  rw [h2]
  interval_cases i; rfl

/-- The float made of a word's upper bits. -/
theorem mant (x : W) : ∃ f : ℝ, Ideal.ofBits .f32 (x >>> 9#32 ||| 1065353216#32) = (f : EReal) ∧ 1 ≤ f ∧ f ≤ 2 - 1 / 8388608 := by
  set b : W := x >>> 9#32 ||| 1065353216#32 with hb
  have he : (b.extractLsb' 23 8).toNat = 127 := by rw [hb, exp_mant]; rfl
  have hs : b.extractLsb' 31 1 = 0#1 := by rw [hb, sign_mant]
  have hf : (b.extractLsb' 0 23).toNat < 8388608 := (b.extractLsb' 0 23).isLt
  generalize hfr : (b.extractLsb' 0 23).toNat = fr at hf
  refine ⟨(2 ^ 23 + fr : ℝ) / 8388608, ?_, ?_, ?_⟩
  · show Ideal.ieee 8 23 b = _
    unfold Ideal.ieee
    simp only [he, hfr, Nat.reduceAdd, hs]
    rw [if_neg (by norm_num), if_neg (by norm_num)]
    refine congrArg (fun r : ℝ => (r : EReal)) ?_
    norm_num
    ring
  · have : (0:ℝ) ≤ fr := Nat.cast_nonneg _
    rw [le_div_iff₀ (by norm_num)]; linarith
  · have : (fr:ℝ) ≤ 8388607 := by exact_mod_cast (by omega : fr ≤ 8388607)
    rw [div_le_iff₀ (by norm_num)]; linarith

theorem lit_lo : Ideal.ofBits .f32 0xBF7FFFFF#32 = ((-16777215 / 16777216 : ℝ) : EReal) := by
  simp [Ideal.ofBits, Ideal.ieee, -EReal.coe_mul]
  norm_num
theorem lit_one : Ideal.ofBits .f32 0x3F800000#32 = ((1 : ℝ) : EReal) := by
  simp [Ideal.ofBits, Ideal.ieee, -EReal.coe_mul]
  norm_num
theorem lit_zero : Ideal.ofBits .f32 0x00000000#32 = ((0 : ℝ) : EReal) := by
  simp [Ideal.ofBits, Ideal.ieee, -EReal.coe_mul]
theorem lit_five : Ideal.ofBits .f32 0x40A00000#32 = ((5 : ℝ) : EReal) := by
  simp [Ideal.ofBits, Ideal.ieee, -EReal.coe_mul]
  norm_num
theorem lit_2h : Ideal.ofBits .f32 0x40200000#32 = ((5 / 2 : ℝ) : EReal) := by
  simp [Ideal.ofBits, Ideal.ieee, -EReal.coe_mul]
  norm_num
theorem lit_three : Ideal.ofBits .f32 0x40400000#32 = ((3 : ℝ) : EReal) := by
  simp [Ideal.ofBits, Ideal.ieee, -EReal.coe_mul]
  norm_num
theorem lit_rt : Ideal.ofBits .f32 0x3FB504F3#32 = ((11863283 / 8388608 : ℝ) : EReal) := by
  simp [Ideal.ofBits, Ideal.ieee, -EReal.coe_mul]
  norm_num
theorem lit_ms : Ideal.ofBits .f32 0x3A83126F#32 = ((8589935 / 8589934592 : ℝ) : EReal) := by
  simp [Ideal.ofBits, Ideal.ieee, -EReal.coe_mul]
  norm_num

theorem coe_max' (a b : ℝ) : max (a : EReal) (b : EReal) = ((max a b : ℝ) : EReal) := (EReal.coe_strictMono.monotone.map_max).symm

/-- The uniform numbers. -/
theorem unif_bound (x : W) : ∃ u : ℝ, unif (F := Ideal) ((33554431 / 16777216 : ℝ) : EReal) x = (u : EReal) ∧ |u| ≤ 16777215 / 16777216 := by
  obtain ⟨f, hf, h1, h2⟩ := mant x
  refine ⟨max ((f - 1) * (33554431 / 16777216) + (-16777215 / 16777216)) (-16777215 / 16777216), ?_, ?_⟩
  · show max ((Ideal.ofBits .f32 (x >>> 9#32 ||| 1065353216#32) - Ideal.ofBits .f32 0x3F800000#32) * ((33554431 / 16777216 : ℝ) : EReal)
        + Ideal.ofBits .f32 0xBF7FFFFF#32) (Ideal.ofBits .f32 0xBF7FFFFF#32) = _
    rw [hf, lit_one, lit_lo, ← EReal.coe_sub, ← EReal.coe_mul, ← EReal.coe_add, coe_max']
  · rw [abs_le]
    constructor
    · refine le_trans (le_of_eq ?_) (le_max_right _ _); norm_num
    · refine max_le ?_ (by norm_num)
      have : (f - 1) * (33554431 / 16777216) ≤ (1 - 1 / 8388608) * (33554431 / 16777216) :=
        mul_le_mul_of_nonneg_right (by linarith) (by norm_num)
      linarith [this]

theorem log_two : Real.log 2 ≤ 7 / 10 := by
  have h1 : Real.log 2 ≤ Real.log ((1.01 : ℝ) ^ 70) := Real.log_le_log (by norm_num) (by norm_num)
  rw [Real.log_pow] at h1
  have h2 := Real.log_le_sub_one_of_pos (show (0:ℝ) < 1.01 by norm_num)
  norm_num at h1 h2 ⊢
  linarith

/-- The logarithm. -/
theorem ew_bound {u : ℝ} (hu : |u| ≤ 16777215 / 16777216) : ∃ w : ℝ, ew (F := Ideal) ((u : ℝ) : EReal) = (w : EReal) ∧ 0 ≤ w ∧ w ≤ 84 / 5 := by
  have hsq : u ^ 2 ≤ (16777215 / 16777216) ^ 2 := by
    rw [← sq_abs u]
    exact pow_le_pow_left₀ (abs_nonneg _) hu 2
  have hpos : (1 / 2 ^ 24 : ℝ) ≤ 1 + u * (0 - u) := by
    have : u * (0 - u) = - u ^ 2 := by ring
    rw [this]
    norm_num at hsq ⊢
    linarith
  have hp : 0 < 1 + u * (0 - u) := lt_of_lt_of_le (by norm_num) hpos
  refine ⟨0 - Real.log (1 + u * (0 - u)), ?_, ?_, ?_⟩
  · show Ideal.ofBits .f32 0x00000000#32 - Ideal.log (1 + (u : EReal) * (Ideal.ofBits .f32 0x00000000#32 - (u : EReal))) = _
    rw [lit_zero, ← EReal.coe_sub, ← EReal.coe_mul, ← EReal.coe_one, ← EReal.coe_add, Ideal.log_coe, if_neg (not_le.2 hp), ← EReal.coe_sub]
  · have : Real.log (1 + u * (0 - u)) ≤ 0 := Real.log_nonpos hp.le (by nlinarith [sq_nonneg u])
    linarith
  · have h1 : Real.log (1 / 2 ^ 24) ≤ Real.log (1 + u * (0 - u)) := Real.log_le_log (by norm_num) hpos
    have h2 : Real.log (1 / 2 ^ 24 : ℝ) = -(24 * Real.log 2) := by
      rw [one_div, Real.log_inv, Real.log_pow]; norm_num
    have h3 := log_two
    rw [h2] at h1
    linarith

theorem cmp_lt (a b : ℝ) : Ideal.cmp .olt (a : EReal) (b : EReal) = BitVec.ofBool (decide (a < b)) := by
  show BitVec.ofBool (decide ((a : EReal) < (b : EReal))) = _
  simp only [EReal.coe_lt_coe_iff]

theorem poly_bound {u : ℝ} (hu : |u| ≤ 16777215 / 16777216) :
    ∃ Q : ℝ, poly (F := Ideal) (elt (F := Ideal) ((u : ℝ) : EReal)) (ex (F := Ideal) ((u : ℝ) : EReal)) = (Q : EReal) ∧ |Q| ≤ 4 := by
  obtain ⟨w, hw, h0, h1⟩ := ew_bound hu
  have hl : elt (F := Ideal) ((u : ℝ) : EReal) = BitVec.ofBool (decide (w < 5)) := by
    show Ideal.cmp .olt (ew (F := Ideal) ((u : ℝ) : EReal)) (Ideal.ofBits .f32 0x40A00000#32) = _
    rw [hw, lit_five, cmp_lt]
  have hx : ex (F := Ideal) ((u : ℝ) : EReal) = Scalar.select (BitVec.ofBool (decide (w < 5)))
      ((w : EReal) - Ideal.ofBits .f32 0x40200000#32) (Ideal.sqrt (w : EReal) - Ideal.ofBits .f32 0x40400000#32) := by
    unfold ex
    rw [hl, hw]
    rfl
  rw [hx, hl]
  by_cases h : w < 5
  · simp only [h, decide_true, BitVec.ofBool_true]
    have hxx : (Scalar.select 1#1 ((w : EReal) - Ideal.ofBits .f32 0x40200000#32) (Ideal.sqrt (w : EReal) - Ideal.ofBits .f32 0x40400000#32) : EReal)
        = ((w - 5 / 2 : ℝ) : EReal) := by
      show (w : EReal) - Ideal.ofBits .f32 0x40200000#32 = _
      rw [lit_2h, EReal.coe_sub]
    obtain ⟨Q, hQ, hb⟩ := poly1 hxx (by rw [abs_le]; constructor <;> linarith)
    exact ⟨Q, hQ, hb.trans (by norm_num)⟩
  · simp only [h, decide_false, BitVec.ofBool_false]
    have hxx : (Scalar.select 0#1 ((w : EReal) - Ideal.ofBits .f32 0x40200000#32) (Ideal.sqrt (w : EReal) - Ideal.ofBits .f32 0x40400000#32) : EReal)
        = ((Real.sqrt w - 3 : ℝ) : EReal) := by
      show Ideal.sqrt (w : EReal) - Ideal.ofBits .f32 0x40400000#32 = _
      rw [lit_three, Ideal.sqrt_coe, if_neg (not_lt.2 h0), EReal.coe_sub]
    have s1 : Real.sqrt w ≤ 4.1 := by
      refine (Real.sqrt_le_left (by norm_num)).2 ?_; norm_num at h1 ⊢; linarith
    have s2 : 2 ≤ Real.sqrt w := by
      refine (Real.le_sqrt' (by norm_num)).2 ?_; norm_num; linarith
    obtain ⟨Q, hQ, hb⟩ := poly0 hxx (by rw [abs_le]; norm_num at s1 ⊢; constructor <;> linarith)
    exact ⟨Q, hQ, hb.trans (by norm_num)⟩

theorem abs_coe' (a : ℝ) : (FloatOps.absf (F := Ideal) (φ := .f32) ((a : ℝ) : EReal) : EReal) = ((|a| : ℝ) : EReal) := by
  show max (a : EReal) (-(a : EReal)) = _
  rw [← EReal.coe_neg, coe_max']
  rfl

/-- The noise. -/
theorem noise_bound (c : W) : ∃ n : ℝ, noise (F := Ideal) ((33554431 / 16777216 : ℝ) : EReal) c = (n : EReal) ∧ |n| ≤ 6 / 1000 := by
  obtain ⟨u, hu, hb⟩ := unif_bound (bits c)
  obtain ⟨Q, hQ, hq⟩ := poly_bound hb
  have he : erfi (F := Ideal) ((u : ℝ) : EReal) = ((Q * u : ℝ) : EReal) := by
    unfold erfi
    rw [abs_coe', hQ]
    have hne : |u| ≠ 1 := by intro h; rw [h] at hb; norm_num at hb
    have hc : (FloatOps.cmpf (F := Ideal) (φ := .f32) .oeq ((|u| : ℝ) : EReal) (FloatOps.ofBits .f32 0x3F800000#32)) = 0#1 := by
      show BitVec.ofBool (decide (((|u| : ℝ) : EReal) = Ideal.ofBits .f32 0x3F800000#32)) = 0#1
      rw [lit_one]
      simp only [EReal.coe_eq_coe_iff, hne, decide_false]
      rfl
    rw [hc]
    show (Q : EReal) * (u : EReal) = _
    rw [EReal.coe_mul]
  refine ⟨(11863283 / 8388608) * (Q * u) * (8589935 / 8589934592), ?_, ?_⟩
  · unfold noise
    rw [hu, he]
    show Ideal.ofBits .f32 0x3FB504F3#32 * ((Q * u : ℝ) : EReal) * Ideal.ofBits .f32 0x3A83126F#32 = _
    rw [lit_rt, lit_ms, ← EReal.coe_mul, ← EReal.coe_mul]
  · have hu1 : |u| ≤ 1 := hb.trans (by norm_num)
    have hQu : |Q * u| ≤ 4 := by
      rw [abs_mul]
      calc |Q| * |u| ≤ 4 * 1 := mul_le_mul hq hu1 (abs_nonneg _) (by norm_num)
        _ = 4 := by norm_num
    rw [abs_le] at hQu ⊢
    constructor <;> linarith [hQu.1, hQu.2]

end Cert.Proof.Bound

end
-- ==== Proof.Rendered.lean ====
/- The two depth tests agree: the selected vertices hold every vertex whose deformed depth can be an extreme, and every
   vertex that the noise can carry across the cut. -/
module

public import Idealize.ShloMosaic.PureOps.Ideal
public import Mathlib.Data.Finset.Fold
public import Mathlib.Tactic.Linarith

@[expose] public section

noncomputable section

namespace Cert.Proof.Rendered

open Idealize.ShloMosaic

/-- The least of finitely many real numbers. -/
theorem fold_min {n : Nat} [NeZero n] (f : Fin n → ℝ) : ∃ m : ℝ, Finset.univ.fold min (⊤ : EReal) (fun i => (f i : EReal)) = (m : EReal)
    ∧ (∀ i, m ≤ f i) ∧ ∃ i, f i = m := by
  obtain ⟨i, hi⟩ := Finite.exists_min f
  refine ⟨f i, le_antisymm ?_ ?_, hi, i, rfl⟩
  · rw [Finset.fold_min_le]; exact Or.inr ⟨i, Finset.mem_univ _, le_rfl⟩
  · rw [Finset.le_fold_min]; exact ⟨le_top, fun j _ => EReal.coe_le_coe_iff.2 (hi j)⟩

theorem fold_max {n : Nat} [NeZero n] (f : Fin n → ℝ) : ∃ m : ℝ, Finset.univ.fold max (⊥ : EReal) (fun i => (f i : EReal)) = (m : EReal)
    ∧ (∀ i, f i ≤ m) ∧ ∃ i, f i = m := by
  obtain ⟨i, hi⟩ := Finite.exists_max f
  refine ⟨f i, le_antisymm ?_ ?_, hi, i, rfl⟩
  · rw [Finset.fold_max_le]; exact ⟨bot_le, fun j _ => EReal.coe_le_coe_iff.2 (hi j)⟩
  · rw [Finset.le_fold_max]; exact Or.inr ⟨i, Finset.mem_univ _, le_rfl⟩

theorem coe_max' (a b : ℝ) : max (a : EReal) (b : EReal) = ((max a b : ℝ) : EReal) := (EReal.coe_strictMono.monotone.map_max).symm

theorem coe_abs' (a : ℝ) : max (a : EReal) (-(a : EReal)) = ((|a| : ℝ) : EReal) := by
  rw [← EReal.coe_neg, coe_max']; rfl

theorem lit_half : Ideal.ofBits .f32 0x3F000000#32 = ((1 / 2 : ℝ) : EReal) := by
  simp [Ideal.ofBits, Ideal.ieee, -EReal.coe_mul]
  norm_num
theorem lit_a : Ideal.ofBits .f32 0x3E99999A#32 = ((10066330 / 33554432 : ℝ) : EReal) := by
  simp [Ideal.ofBits, Ideal.ieee, -EReal.coe_mul]
  norm_num
theorem lit_mu : Ideal.ofBits .f32 0x3C4CCCCD#32 = ((13421773 / 1073741824 : ℝ) : EReal) := by
  simp [Ideal.ofBits, Ideal.ieee, -EReal.coe_mul]
  norm_num
theorem lit_eps : Ideal.ofBits .f32 0x322BCC77#32 = ((11258999 / 1125899906842624 : ℝ) : EReal) := by
  simp [Ideal.ofBits, Ideal.ieee, -EReal.coe_mul]
  norm_num

/-- The extremes, the middle, the distances from it, and those from the cut. -/
def lo (z : Fin 5023 → EReal) : EReal := Finset.univ.fold min ⊤ z
def hi (z : Fin 5023 → EReal) : EReal := Finset.univ.fold max ⊥ z
def mid (z : Fin 5023 → EReal) : EReal := Ideal.ofBits .f32 0x3F000000#32 * (lo z + hi z)
def cut (z : Fin 5023 → EReal) : EReal := lo z + Ideal.ofBits .f32 0x3E99999A#32 * (hi z - lo z)
def fm (z : Fin 5023 → EReal) (k : Fin 5023) : EReal := max (z k - mid z) (-(z k - mid z))
def fc (z : Fin 5023 → EReal) (k : Fin 5023) : EReal := max (z k - cut z) (-(z k - cut z))
def top (z : Fin 5023 → EReal) : EReal := Finset.univ.fold max ⊥ (fm z)

/-- Few vertices near the ends, so all depths are real. -/
theorem finite (z : Fin 5023 → EReal)
    (h : (Finset.univ.filter fun k => top z - Ideal.ofBits .f32 0x3C4CCCCD#32 ≤ fm z k).card ≤ 128) : ∃ ζ : Fin 5023 → ℝ, z = fun k => (ζ k : EReal) := by
  by_cases hb : lo z ≠ ⊥ ∧ hi z ≠ ⊤
  · have h1 : ∀ k, z k ≠ ⊥ := fun k hk => hb.1 (le_bot_iff.1 (by
      unfold lo; rw [Finset.fold_min_le]; exact Or.inr ⟨k, Finset.mem_univ _, hk.le⟩))
    have h2 : ∀ k, z k ≠ ⊤ := fun k hk => hb.2 (top_le_iff.1 (by
      unfold hi; rw [Finset.le_fold_max]; exact Or.inr ⟨k, Finset.mem_univ _, hk.ge⟩))
    exact ⟨fun k => (z k).toReal, funext fun k => (EReal.coe_toReal (h2 k) (h1 k)).symm⟩
  · exfalso
    have hm : mid z = ⊥ ∨ mid z = ⊤ := by
      unfold mid
      rw [lit_half]
      by_cases hl : lo z = ⊥
      · left
        rw [hl, EReal.bot_add, EReal.coe_mul_bot_of_pos (by norm_num)]
      · right
        have hh : hi z = ⊤ := by
          by_contra hh; exact hb ⟨hl, hh⟩
        rw [hh, EReal.add_top_of_ne_bot hl, EReal.coe_mul_top_of_pos (by norm_num)]
    have hf : ∀ k, fm z k = ⊤ := by
      intro k
      unfold fm
      rcases hm with hm | hm
      · rw [hm]
        by_cases hk : z k = ⊥
        · rw [hk]; simp
        · have : z k - ⊥ = ⊤ := by
            rw [sub_eq_add_neg, EReal.neg_bot, EReal.add_top_of_ne_bot hk]
          rw [this]; simp
      · rw [hm]
        have : z k - ⊤ = ⊥ := by
          rw [sub_eq_add_neg, EReal.neg_top, EReal.add_bot]
        rw [this]; simp
    have hall : (Finset.univ.filter fun k => top z - Ideal.ofBits .f32 0x3C4CCCCD#32 ≤ fm z k) = Finset.univ := by
      rw [Finset.filter_true_of_mem]
      intro k _
      rw [hf k]
      exact le_top
    rw [hall, Finset.card_univ, Fintype.card_fin] at h
    omega

/-- The tests, on real depths. -/
theorem agree (ζ : Fin 5023 → ℝ) (d : Fin 5023 → EReal) (hd : ∀ k, ∃ n : ℝ, d k = (ζ k : EReal) + (n : EReal) ∧ |n| ≤ 6 / 1000)
    (z : Fin 5023 → EReal) (hz : z = fun k => (ζ k : EReal)) (e g : Fin 128 → Fin 5023)
    (h1 : (Finset.univ.filter fun k => top z - Ideal.ofBits .f32 0x3C4CCCCD#32 ≤ fm z k).card ≤ 128)
    (h2 : (Finset.univ.filter fun k => fc z k ≤ Ideal.ofBits .f32 0x3C4CCCCD#32).card ≤ 128)
    (he : ∀ θ : EReal, (Finset.univ.filter fun k => θ ≤ fm z k).card ≤ 128 → ∀ k, θ ≤ fm z k → ∃ p, e p = k)
    (hg : ∀ θ : EReal, (Finset.univ.filter fun k => θ ≤ -fc z k).card ≤ 128 → ∀ k, θ ≤ -fc z k → ∃ p, g p = k)
    (LO HI : EReal) (hLO : LO = Finset.univ.fold min ⊤ fun c : Fin 128 => d (e c))
    (hHI : HI = Finset.univ.fold max ⊥ fun c : Fin 128 => d (e c)) (v : Fin 5023) :
    (if ∃ p, g p = v then
        (if Ideal.ofBits .f32 0x3E99999A#32 < Ideal.div (d v - LO) ((HI - LO) + Ideal.ofBits .f32 0x322BCC77#32) then 1 else 0)
      else if LO + Ideal.ofBits .f32 0x3E99999A#32 * ((HI - LO) + Ideal.ofBits .f32 0x322BCC77#32) < z v then 1 else 0 : EReal)
    = if Ideal.ofBits .f32 0x3E99999A#32
        < Ideal.div (d v - Finset.univ.fold min ⊤ d) ((Finset.univ.fold max ⊥ d - Finset.univ.fold min ⊤ d) + Ideal.ofBits .f32 0x322BCC77#32)
      then 1 else 0 := by
  choose n hdn hn using hd
  set δ : Fin 5023 → ℝ := fun k => ζ k + n k with hδ
  have hd' : d = fun k => (δ k : EReal) := funext fun k => by rw [hdn, hδ, EReal.coe_add]
  have hν : ∀ k, δ k ≤ ζ k + 6 / 1000 ∧ ζ k - 6 / 1000 ≤ δ k := fun k => by
    have := abs_le.1 (hn k)
    constructor <;> simp only [hδ] <;> linarith [this.1, this.2]
  -- the template's extremes
  obtain ⟨L, eL, hL, kL, hkL⟩ := fold_min ζ
  obtain ⟨H, eH, hH, kH, hkH⟩ := fold_max ζ
  have elo : lo z = (L : EReal) := by unfold lo; rw [hz]; exact eL
  have ehi : hi z = (H : EReal) := by unfold hi; rw [hz]; exact eH
  have emid : mid z = ((1 / 2 * (L + H) : ℝ) : EReal) := by
    unfold mid; rw [elo, ehi, lit_half, ← EReal.coe_add, ← EReal.coe_mul]
  have ecut : cut z = ((L + 10066330 / 33554432 * (H - L) : ℝ) : EReal) := by
    unfold cut; rw [elo, ehi, lit_a, ← EReal.coe_sub, ← EReal.coe_mul, ← EReal.coe_add]
  have efm : ∀ k, fm z k = ((|ζ k - 1 / 2 * (L + H)| : ℝ) : EReal) := fun k => by
    unfold fm; rw [emid, hz, ← EReal.coe_sub, coe_abs']
  have efc : ∀ k, fc z k = ((|ζ k - (L + 10066330 / 33554432 * (H - L))| : ℝ) : EReal) := fun k => by
    unfold fc; rw [ecut, hz, ← EReal.coe_sub, coe_abs']
  have hLH : L ≤ H := (hL kH).trans (hkH ▸ le_rfl)
  obtain ⟨R, eR, hR, kR, hkR⟩ := fold_max fun k => |ζ k - 1 / 2 * (L + H)|
  have etop : top z = (R : EReal) := by
    unfold top; rw [funext efm]; exact eR
  have hRv : R = 1 / 2 * (H - L) := by
    apply le_antisymm
    · rw [← hkR, abs_le]; constructor <;> linarith [hL kR, hH kR]
    · have := hR kH
      rw [hkH] at this
      exact le_trans (by rw [abs_of_nonneg (by linarith)]; linarith) this
  -- what the selections hold
  have ce : ∀ k, R - 13421773 / 1073741824 ≤ |ζ k - 1 / 2 * (L + H)| → ∃ p, e p = k := fun k hk => by
    refine he _ h1 k ?_
    rw [etop, lit_mu, efm, ← EReal.coe_sub, EReal.coe_le_coe_iff]
    exact hk
  have cg : ∀ k, |ζ k - (L + 10066330 / 33554432 * (H - L))| ≤ 13421773 / 1073741824 → ∃ p, g p = k := fun k hk => by
    refine hg (-(Ideal.ofBits .f32 0x3C4CCCCD#32)) ?_ k ?_
    · refine le_of_eq_of_le (congrArg Finset.card (Finset.filter_congr fun k _ => ?_)) h2
      exact EReal.neg_le_neg_iff
    · rw [EReal.neg_le_neg_iff, lit_mu, efc, EReal.coe_le_coe_iff]
      exact hk
  obtain ⟨pL, hpL⟩ := ce kL (by
    rw [hkL, hRv, abs_of_nonpos (by linarith)]; linarith)
  obtain ⟨pH, hpH⟩ := ce kH (by
    rw [hkH, hRv, abs_of_nonneg (by linarith)]; linarith)
  -- the deformed extremes are the selection's
  obtain ⟨m, em, hm, km, hkm⟩ := fold_min δ
  obtain ⟨M, eM, hM, kM, hkM⟩ := fold_max δ
  obtain ⟨m', em', hm', km', hkm'⟩ := fold_min fun c => δ (e c)
  obtain ⟨M', eM', hM', kM', hkM'⟩ := fold_max fun c => δ (e c)
  have hmm : m' = m := by
    apply le_antisymm
    · by_cases hc : R - 13421773 / 1073741824 ≤ |ζ km - 1 / 2 * (L + H)|
      · obtain ⟨p, hp⟩ := ce km hc
        have := hm' p
        rw [hp, hkm] at this
        exact this
      · have h3 := abs_lt.1 (not_le.1 hc)
        have h4 := hm' pL
        rw [hpL] at h4
        have h5 := (hν kL).1
        have h6 := (hν km).2
        rw [hkL] at h5
        rw [hkm] at h6
        linarith [h3.1]
    · rw [← hkm']; exact hm _
  have hMM : M' = M := by
    apply le_antisymm
    · rw [← hkM']; exact hM _
    · by_cases hc : R - 13421773 / 1073741824 ≤ |ζ kM - 1 / 2 * (L + H)|
      · obtain ⟨p, hp⟩ := ce kM hc
        have := hM' p
        rw [hp, hkM] at this
        exact this
      · have h3 := abs_lt.1 (not_le.1 hc)
        have h4 := hM' pH
        rw [hpH] at h4
        have h5 := (hν kH).2
        have h6 := (hν kM).1
        rw [hkH] at h5
        rw [hkM] at h6
        linarith [h3.2]
  have eLO : LO = (m : EReal) := by rw [hLO, hd', ← hmm]; exact em'
  have eHI : HI = (M : EReal) := by rw [hHI, hd', ← hMM]; exact eM'
  have eLr : Finset.univ.fold min ⊤ d = (m : EReal) := by rw [hd']; exact em
  have eHr : Finset.univ.fold max ⊥ d = (M : EReal) := by rw [hd']; exact eM
  rw [eLO, eHI, eLr, eHr]
  have hmM : m ≤ M := (hm kM).trans (hkM ▸ le_rfl)
  by_cases hp : ∃ p, g p = v
  · rw [if_pos hp]
  · rw [if_neg hp]
    refine if_congr ?_ rfl rfl
    have hfar : 13421773 / 1073741824 < |ζ v - (L + 10066330 / 33554432 * (H - L))| := not_le.1 fun h => hp (cg v h)
    have hD : (0 : ℝ) < (M - m) + 11258999 / 1125899906842624 := by linarith
    have m1 : m ≤ L + 6 / 1000 := by have := hm kL; have h5 := (hν kL).1; rw [hkL] at h5; linarith
    have m2 : L - 6 / 1000 ≤ m := by have := hL km; have h5 := (hν km).2; rw [hkm] at h5; linarith
    have M1 : M ≤ H + 6 / 1000 := by have := hH kM; have h5 := (hν kM).1; rw [hkM] at h5; linarith
    have M2 : H - 6 / 1000 ≤ M := by have := hM kH; have h5 := (hν kH).2; rw [hkH] at h5; linarith
    have v1 := (hν v).1
    have v2 := (hν v).2
    have ed : d v = (δ v : EReal) := congrFun hd' v
    have ez : z v = (ζ v : EReal) := congrFun hz v
    rw [ed, ez, lit_a, lit_eps, ← EReal.coe_sub, ← EReal.coe_add, ← EReal.coe_mul, ← EReal.coe_add, ← EReal.coe_sub, Ideal.div,
      if_neg (fun h => hD.ne' (EReal.coe_eq_zero.1 h)), ← EReal.coe_inv, ← EReal.coe_mul, EReal.coe_lt_coe_iff, EReal.coe_lt_coe_iff,
      ← div_eq_mul_inv, lt_div_iff₀ hD]
    rcases lt_abs.1 hfar with h | h
    · exact ⟨fun _ => by linarith, fun _ => by linarith⟩
    · exact ⟨fun _ => by linarith, fun _ => by linarith⟩

end Cert.Proof.Rendered

end
-- ==== Proof.PreFacts.lean ====
/- What the precondition says of a device's arguments: the integer arguments are in range, few vertices lie near the ends of
   the depth, and few near the cut. -/
module

public import proofs.«01_k».proof.Pre_few_near_the_ends_and_the_cut
public import proofs.«01_k».proof.Proof.Gen.Pre_few_near_the_ends_and_the_cut
public import proofs.«01_k».proof.Proof.KernelHostA
public import proofs.«01_k».proof.Proof.Rendered
public import Idealize.ShloMosaic.Lib.ReduceAll
public import Idealize.ShloMosaic.Lib.Pointwise
public import Idealize.ShloMosaic.Lib.WordCmp

@[expose] public section

set_option maxRecDepth 100000

noncomputable section

namespace Cert.Proof.PreFacts

open Idealize.ShloMosaic Cert.KernelIdeal Cert.KernelIdeal.Gen Cert.Proof.KernelHost

section Text

variable {F : FTy → Type} [FloatOps F] [Named F]

/-- The places near the ends. -/
def nearEnds (z : FVec F S5023 .f32) : IVec S5023 1 :=
  cmpf .oge (fromMid z) (broadcastInDim S5023 ![] bcast_S_S5023 (subf (thi (fromMid z)) (constant S_ .f32 0x3C4CCCCD#32)))

/-- The distance of each depth from the cut. -/
def cutDist (z : FVec F S5023 .f32) : FVec F S5023 .f32 :=
  Host.absf (subf z (broadcastInDim S5023 ![] bcast_S_S5023 (addf (tlo z) (mulf (constant S_ FTy.f32 0x3E99999A#32) (subf (thi z) (tlo z))))))

/-- The places near the cut. -/
def nearCut (z : FVec F S5023 .f32) : IVec S5023 1 :=
  cmpf .ole (cutDist z) (broadcastInDim S5023 ![] bcast_S_S5023 (constant S_ .f32 0x3C4CCCCD#32))

/-- There are at most 128 of them. -/
def few (p : IVec S5023 1) : IVec S_ 1 :=
  cmpf .ole (Host.reduceAdd (uitofp .f32 p : FVec F S5023 .f32) (constant S_ .f32 0x00000000#32) reducesTo_S5023_S_d0 h_S_) (constant S_ .f32 0x43000000#32)

def allOf (s : Shape) {axes : List (Fin s.rank)} (x : IVec s 1) (h : s.ReducesTo axes S_) : IVec S_ 1 := Host.reduce IntOp.andi x (constantI S_ 1 1#1) h h_S_

theorem fn_eq (a0 : FVec F S1024x100 .f32) (a1 : FVec F S1024x50 .f32) (t : FVec F S5023x3 .f32) (fa : IVec S9976x3 32) (ix : IVec S68 32)
    (bc : FVec F S68x3 .f32) (z : FVec F S5023 .f32)
    (hz : shapeCast S5023 (extractStridedSlice S5023x1 ![0, 2] t Cert.Pre_few_near_the_ends_and_the_cut.Gen.slices_S5023x3_S5023x1_0_2)
      Cert.Pre_few_near_the_ends_and_the_cut.Gen.shapeCasts_S5023x1_S5023 = z) :
    Cert.Pre_few_near_the_ends_and_the_cut.fn (F := F) a0 a1 t fa ix bc
      = andi (andi (andi (andi (andi
          (allOf S9976x3 (cmpi .sge fa (broadcastInDim S9976x3 ![] Cert.Pre_few_near_the_ends_and_the_cut.Gen.bcast_S_S9976x3 (constantI S_ 32 0#32))) Cert.Pre_few_near_the_ends_and_the_cut.Gen.reducesTo_S9976x3_S_d0_1)
          (allOf S9976x3 (cmpi .slt fa (broadcastInDim S9976x3 ![] Cert.Pre_few_near_the_ends_and_the_cut.Gen.bcast_S_S9976x3 (constantI S_ 32 5023#32))) Cert.Pre_few_near_the_ends_and_the_cut.Gen.reducesTo_S9976x3_S_d0_1))
          (allOf S68 (cmpi .sge ix (broadcastInDim S68 ![] Cert.Pre_few_near_the_ends_and_the_cut.Gen.bcast_S_S68 (constantI S_ 32 0#32))) Cert.Pre_few_near_the_ends_and_the_cut.Gen.reducesTo_S68_S_d0))
          (allOf S68 (cmpi .slt ix (broadcastInDim S68 ![] Cert.Pre_few_near_the_ends_and_the_cut.Gen.bcast_S_S68 (constantI S_ 32 9976#32))) Cert.Pre_few_near_the_ends_and_the_cut.Gen.reducesTo_S68_S_d0))
          (few (F := F) (nearEnds z))) (few (F := F) (nearCut z)) := by
  subst hz
  rfl

theorem depth_eq (t : FVec F S5023x3 .f32) :
    shapeCast S5023 (extractStridedSlice S5023x1 ![0, 2] t Cert.Pre_few_near_the_ends_and_the_cut.Gen.slices_S5023x3_S5023x1_0_2)
      Cert.Pre_few_near_the_ends_and_the_cut.Gen.shapeCasts_S5023x1_S5023 = depth t := by
  funext i
  idx_vars i
  pointwise [depth]

end Text

theorem and_one {x y : IVec S_ 1} (h : andi x y = fun _ => 1#1) : x = (fun _ => 1#1) ∧ y = fun _ => 1#1 :=
  ⟨funext fun i => (IntOp.andi_eq_one.1 (congrFun h i)).1, funext fun i => (IntOp.andi_eq_one.1 (congrFun h i)).2⟩

theorem all_one {s : Shape} {axes : List (Fin s.rank)} {x : IVec s 1} {h : s.ReducesTo axes S_} (e : allOf s x h = fun _ => 1#1) (i : s.Idx) : x i = 1#1 :=
  have : Subsingleton S_.Idx := ⟨fun a b => funext fun k => k.elim0⟩
  Host.reduce_andi_all _ _ _ _ (Shape.Idx.first h_S_) (congrFun e _) i

/-- A word read signed between 0 and a bound is the number of its own bits. -/
theorem word (n : Nat) (hn : n < 2 ^ 31) (x : BitVec 32) (h0 : 0 ≤ x.toInt) (h1 : x.toInt < n) : x.toNat < n ∧ x = BitVec.ofNat 32 x.toNat := by
  refine ⟨?_, by simp⟩
  rw [BitVec.toInt_eq_toNat_cond] at h0 h1
  split at h0 <;> split at h1 <;> omega

theorem lit_pinf : Ideal.ofBits .f32 2139095040#32 = (⊤ : EReal) := by simp [Ideal.ofBits, Ideal.ieee]
theorem lit_ninf : Ideal.ofBits .f32 4286578688#32 = (⊥ : EReal) := by simp [Ideal.ofBits, Ideal.ieee]
theorem lit_128 : Ideal.ofBits .f32 1124073472#32 = ((128 : ℝ) : EReal) := by
  simp [Ideal.ofBits, Ideal.ieee, -EReal.coe_mul]
  norm_num

theorem bit_cases (w : BitVec 1) : w = 0#1 ∨ w = 1#1 := by revert w; decide

theorem few_card (p : IVec S5023 1) (h : few (F := Ideal) p = fun _ => 1#1) : (Finset.univ.filter fun k : Fin 5023 => p (ix1 k) = 1#1).card ≤ 128 := by
  have h1 := congrFun h (Shape.Idx.first h_S_)
  unfold few at h1
  revert h1
  pointwise
  intro h1
  have e : ∀ x : Fin 5023, (FloatOps.uitofp (F := Ideal) FTy.f32 (p (ix1 x)) : EReal) = ((if p (ix1 x) = 1#1 then 1 else 0 : ℕ) : EReal) := fun x => by
    show (((p (ix1 x)).toNat : ℝ) : EReal) = _
    rcases bit_cases (p (ix1 x)) with h | h <;> rw [h] <;> simp
  have h2 := of_decide_eq_true (BitVec.ofBool_eq_iff_eq.1 (h1.trans rfl : _ = BitVec.ofBool true))
  rw [Finset.sum_congr rfl fun x _ => e x, ← Nat.cast_sum, ← Finset.card_filter, lit_128] at h2
  exact_mod_cast h2

theorem fromMid_at (z : FVec Ideal S5023 .f32) (k : Fin 5023) : @Eq EReal (fromMid z (ix1 k)) (Rendered.fm (fun k => z (ix1 k)) k) := by
  unfold fromMid tlo thi
  pointwise
  rw [lit_pinf, lit_ninf]
  rfl

theorem fromCut_at (z : FVec Ideal S5023 .f32) (k : Fin 5023) : @Eq EReal (fromCut z (ix1 k)) (-Rendered.fc (fun k => z (ix1 k)) k) := by
  unfold fromCut tlo thi
  pointwise
  rw [lit_pinf, lit_ninf]
  rfl

theorem near_ends (z : FVec Ideal S5023 .f32) (k : Fin 5023) : nearEnds z (ix1 k) = 1#1
    ↔ Rendered.top (fun k => z (ix1 k)) - Ideal.ofBits .f32 0x3C4CCCCD#32 ≤ Rendered.fm (fun k => z (ix1 k)) k := by
  rw [← fromMid_at]
  have e : Rendered.top (fun k => z (ix1 k)) = Finset.univ.fold max ⊥ fun k => (fromMid z (ix1 k) : EReal) :=
    congrArg (Finset.univ.fold max (⊥ : EReal)) (funext fun k => (fromMid_at z k).symm)
  rw [e]
  unfold nearEnds thi
  generalize fromMid z = y
  pointwise
  rw [lit_ninf]
  exact ⟨fun h => of_decide_eq_true (BitVec.ofBool_eq_iff_eq.1 (h.trans rfl : _ = BitVec.ofBool true)), fun h => by rw [decide_eq_true h]; rfl⟩

theorem near_cut (z : FVec Ideal S5023 .f32) (k : Fin 5023) : nearCut z (ix1 k) = 1#1
    ↔ Rendered.fc (fun k => z (ix1 k)) k ≤ Ideal.ofBits .f32 0x3C4CCCCD#32 := by
  have e : @Eq EReal (cutDist z (ix1 k)) (Rendered.fc (fun k => z (ix1 k)) k) := by
    unfold cutDist tlo thi
    pointwise
    rw [lit_pinf, lit_ninf]
    rfl
  rw [← e]
  unfold nearCut
  generalize cutDist z = y
  pointwise
  exact ⟨fun h => of_decide_eq_true (BitVec.ofBool_eq_iff_eq.1 (h.trans rfl : _ = BitVec.ofBool true)), fun h => by rw [decide_eq_true h]; rfl⟩

/-- The precondition, read. -/
theorem read (a0 : FVec Ideal S1024x100 .f32) (a1 : FVec Ideal S1024x50 .f32) (t : FVec Ideal S5023x3 .f32) (fa : IVec S9976x3 32) (ix : IVec S68 32)
    (bc : FVec Ideal S68x3 .f32) (h : Cert.Pre_few_near_the_ends_and_the_cut.fn (F := Ideal) a0 a1 t fa ix bc = fun _ => 1#1) :
    (∃ fc : Fin 9976 → Fin 3 → Fin 5023, ∀ r j, fa (ix2 r j) = BitVec.ofNat 32 (fc r j).val)
    ∧ (∃ fi : Fin 68 → Fin 9976, ∀ l, ix (ix1 l) = BitVec.ofNat 32 (fi l).val)
    ∧ (Finset.univ.filter fun k : Fin 5023 => Rendered.top (fun k => t (ix2 k 2)) - Ideal.ofBits .f32 0x3C4CCCCD#32 ≤ Rendered.fm (fun k => t (ix2 k 2)) k).card ≤ 128
    ∧ (Finset.univ.filter fun k : Fin 5023 => Rendered.fc (fun k => t (ix2 k 2)) k ≤ Ideal.ofBits .f32 0x3C4CCCCD#32).card ≤ 128 := by
  rw [fn_eq a0 a1 t fa ix bc (depth t) (depth_eq t)] at h
  obtain ⟨h, hB⟩ := and_one h
  obtain ⟨h, hA⟩ := and_one h
  obtain ⟨h, h4⟩ := and_one h
  obtain ⟨h, h3⟩ := and_one h
  obtain ⟨h1, h2⟩ := and_one h
  have w1 : ∀ r j, (fa (ix2 r j)).toNat < 5023 ∧ fa (ix2 r j) = BitVec.ofNat 32 (fa (ix2 r j)).toNat := fun r j =>
    word 5023 (by norm_num) _ (IntOp.cmpi_sge.1 (all_one h1 (ix2 r j))) (IntOp.cmpi_slt.1 (all_one h2 (ix2 r j)))
  have w2 : ∀ l, (ix (ix1 l)).toNat < 9976 ∧ ix (ix1 l) = BitVec.ofNat 32 (ix (ix1 l)).toNat := fun l =>
    word 9976 (by norm_num) _ (IntOp.cmpi_sge.1 (all_one h3 (ix1 l))) (IntOp.cmpi_slt.1 (all_one h4 (ix1 l)))
  refine ⟨⟨fun r j => ⟨_, (w1 r j).1⟩, fun r j => (w1 r j).2⟩, ⟨fun l => ⟨_, (w2 l).1⟩, fun l => (w2 l).2⟩, ?_, ?_⟩
  · refine le_of_eq_of_le (congrArg Finset.card (Finset.filter_congr fun k _ => ?_)) (few_card _ hA)
    exact (near_ends (depth t) k).symm
  · refine le_of_eq_of_le (congrArg Finset.card (Finset.filter_congr fun k _ => ?_)) (few_card _ hB)
    exact (near_cut (depth t) k).symm

end Cert.Proof.PreFacts

end
-- ==== Proof.Agree.lean ====
/- The two programs leave the same arrays: the rendered depths and the landmarks, over the extended reals, for arguments
   that satisfy the precondition. -/
module

public import proofs.«01_k».proof.Proof.KernelRun
public import proofs.«01_k».proof.Proof.KernelRend
public import proofs.«01_k».proof.Proof.RefValue
public import proofs.«01_k».proof.Proof.Bound
public import proofs.«01_k».proof.Proof.PreFacts

@[expose] public section

set_option maxRecDepth 100000

noncomputable section

namespace Cert.Proof.Agree

open Idealize.ShloMosaic Idealize.ShloMosaic.TcCoe Cert.Proof.Spec Cert.Proof.KernelValue
open Cert.Proof.KernelHost (depth fromMid fromCut)

section Generic

open Cert.KernelIdeal Cert.KernelIdeal.Gen Cert.Proof.KernelRegion

variable {F : FTy → Type} [FloatOps F] [Named F] (m : (ℓ : Loc nD τ sig) → Buf (Elt F) ℓ) (c : Dev nD)

/-- The arrays handed to the call. -/
def W : Valuation τ sig (Elt F) := StableHlo.after (List.flatten [hostOps0, hostOps0_1, hostOps0_2, hostOps0_3, hostOps0_4, hostOps0_5, hostOps0_6, hostOps0_7, hostOps0_8, hostOps0_9, hostOps0_10, hostOps0_11]) (fun b => m (c, b))

theorem G6_at (b : Fin 1024) (v : Fin 5023) : G6 m c (ix2 b v)
    = out0_6 (F := F) (grid0.coords (pt b)) (W m c (Proc.devRef .tc main_v117)) (W m c (Proc.devRef .tc main_v26)) (W m c (Proc.devRef .tc main_v24))
        (W m c (Proc.devRef .tc main_v112)) (W m c (Proc.devRef .tc main_v114)) (W m c (Proc.devRef .tc main_v116)) (ix2 (rw256 b) v) := rfl

theorem G7_at (b : Fin 1024) (q : Fin 204) : G7 m c (ix2 b q)
    = out0_7 (F := F) (grid0.coords (pt b)) (W m c (Proc.devRef .tc main_v117)) (W m c (Proc.devRef .tc main_v26)) (W m c (Proc.devRef .tc main_v24))
        (W m c (Proc.devRef .tc main_v112)) (W m c (Proc.devRef .tc main_v114)) (W m c (Proc.devRef .tc main_v116)) (ix2 (rw256 b) q) := rfl

theorem dfm_eq (t : FVec F S5023x3 .f32) (b : Fin 1024) (v : Fin 5023) (k : Fin 3) :
    dfm t b v k = FloatOps.addf (t (ix2 v k)) (noise (Named.named κ "span" 0x40000000#32) (BitVec.ofNat 32 (b.val * 15069 + v.val * 3 + k.val))) := rfl

/-- The two arrays of results. -/
def K0 : FVec F S1024x5023x3 .f32 := Pipeline.afterTail₀ cfgs (dats m) 0 (V0 m) [hostOps1] c main_v120
def K1 : FVec F S1024x68x3 .f32 := Pipeline.afterTail₀ cfgs (dats m) 0 (V0 m) [hostOps1] c main_v121

theorem kernel_run (ρ : Dev nD → PrngReg) : θ_run defs (onTc (τ := τ) (main (F := F))) ⟨m, fun _ => 0, ρ⟩ (fun r => ∀ c : Dev nD,
      r.2.mem ((c.tc : Thread nD τ).loc main_v120) = K0 m c
      ∧ r.2.mem ((c.tc : Thread nD τ).loc main_v121) = K1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v120 (Pipeline.mem_restRefs_of main_v120 (by decide) (by decide)),
    (h.1 c).2 main_v121 (Pipeline.mem_restRefs_of main_v121 (by decide) (by decide)), h.2 c⟩) (θ_run_and (run_main m ρ) (unchanged m ρ))

end Generic

section Reference

open Cert.ReferenceIdeal Cert.ReferenceIdeal.Gen

variable {F : FTy → Type} [FloatOps F] (m : (ℓ : Loc nD τ sig) → Buf (Elt F) ℓ) (c : Dev nD)

/-- The reference's arrays of results. -/
def R0 : FVec F S1024x5023x3 .f32 := Pipeline.afterTail₀ cfgs (dats m) 0 (V0 m) [hostOps1, hostOps1_1, hostOps1_2] c main_v45
def R1 : FVec F S1024x68x3 .f32 := Pipeline.afterTail₀ cfgs (dats m) 0 (V0 m) [hostOps1, hostOps1_1, hostOps1_2] c main_v27

theorem reference_run (ρ : Dev nD → PrngReg) : θ_run defs (onTc (τ := τ) (main (F := F))) ⟨m, fun _ => 0, ρ⟩ (fun r => ∀ c : Dev nD,
      r.2.mem ((c.tc : Thread nD τ).loc main_v45) = R0 m c
      ∧ r.2.mem ((c.tc : Thread nD τ).loc main_v27) = R1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).2 main_v45 (Pipeline.mem_restRefs_of main_v45 (by decide) (by decide)),
    (h.1 c).2 main_v27 (Pipeline.mem_restRefs_of main_v27 (by decide) (by decide)), h.2 c⟩) (θ_run_and (run_main m ρ) (unchanged m ρ))

end Reference

theorem span_value : @Eq EReal (Named.named (F := Ideal) (φ := .f32) Cert.KernelIdeal.κ "span" 0x40000000#32) ((33554431 / 16777216 : ℝ) : EReal) := by
  show (Cert.KernelIdeal.κ "span").getD _ = _
  rfl

theorem sp_value : @Eq EReal (RefValue.sp (F := Ideal)) ((33554431 / 16777216 : ℝ) : EReal) := by
  show Ideal.ofBits .f32 0x3F800000#32 - Ideal.ofBits .f32 0xBF7FFFFF#32 = _
  rw [Bound.lit_one, Bound.lit_lo, ← EReal.coe_sub]
  congr 1
  norm_num

/-- The noise at a place. -/
def nz (b : Fin 1024) (v : Fin 5023) (k : Fin 3) : EReal :=
  noise (F := Ideal) ((33554431 / 16777216 : ℝ) : EReal) (BitVec.ofNat 32 (b.val * 15069 + v.val * 3 + k.val))

theorem dfm_ideal (t : FVec Ideal Cert.KernelIdeal.S5023x3 .f32) (b : Fin 1024) (v : Fin 5023) (k : Fin 3) :
    @Eq EReal (dfm t b v k) ((t (ix2 v k) : EReal) + nz b v k) := by
  rw [dfm_eq]
  exact congrArg (fun s : EReal => (t (ix2 v k) : EReal) + noise (F := Ideal) s (BitVec.ofNat 32 (b.val * 15069 + v.val * 3 + k.val))) span_value

theorem ref_test (x y w : EReal) :
    @Eq EReal (FloatOps.uitofp (F := Ideal) .f32 (FloatOps.cmpf (F := Ideal) (φ := .f32) .ogt
        (FloatOps.hostDivf (F := Ideal) (φ := .f32) (FloatOps.subf (F := Ideal) (φ := .f32) x y)
          (FloatOps.addf (F := Ideal) (φ := .f32) (FloatOps.subf (F := Ideal) (φ := .f32) w y) (FloatOps.ofBits (F := Ideal) .f32 841731191#32)))
        (FloatOps.ofBits (F := Ideal) .f32 1050253722#32)))
      (if Ideal.ofBits .f32 0x3E99999A#32 < Ideal.div (x - y) ((w - y) + Ideal.ofBits .f32 0x322BCC77#32) then 1 else 0) := by
  show (((BitVec.ofBool (decide (Ideal.div (x - y) ((w - y) + Ideal.ofBits .f32 0x322BCC77#32) > Ideal.ofBits .f32 0x3E99999A#32))).toNat : ℝ) : EReal) = _
  by_cases h : Ideal.ofBits .f32 0x3E99999A#32 < Ideal.div (x - y) ((w - y) + Ideal.ofBits .f32 0x322BCC77#32)
  · rw [if_pos h, decide_eq_true h]; simp
  · rw [if_neg h, decide_eq_false h]; simp

theorem ix3_eta {n0 n1 n2 : Nat} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- The two depth tests, over any selections that hold the vertices near the ends and near the cut. -/
theorem rend_math (t : FVec Ideal Cert.KernelIdeal.S5023x3 .f32) (b : Fin 1024) (e g : Fin 128 → Fin 5023)
    (h1 : (Finset.univ.filter fun k : Fin 5023 => Rendered.top (fun k => t (ix2 k 2)) - Ideal.ofBits .f32 0x3C4CCCCD#32 ≤ Rendered.fm (fun k => t (ix2 k 2)) k).card ≤ 128)
    (h2 : (Finset.univ.filter fun k : Fin 5023 => Rendered.fc (fun k => t (ix2 k 2)) k ≤ Ideal.ofBits .f32 0x3C4CCCCD#32).card ≤ 128)
    (he : ∀ θ : EReal, (Finset.univ.filter fun k : Fin 5023 => θ ≤ Rendered.fm (fun k => t (ix2 k 2)) k).card ≤ 128 →
      ∀ k, θ ≤ Rendered.fm (fun k => t (ix2 k 2)) k → ∃ p, e p = k)
    (hg : ∀ θ : EReal, (Finset.univ.filter fun k : Fin 5023 => θ ≤ -Rendered.fc (fun k => t (ix2 k 2)) k).card ≤ 128 →
      ∀ k, θ ≤ -Rendered.fc (fun k => t (ix2 k 2)) k → ∃ p, g p = k) (v : Fin 5023) :
    @Eq EReal (if ∃ p, g p = v then
          (if Ideal.ofBits .f32 0x3E99999A#32 < Ideal.div (dfm t b v 2 - KernelRend.LO t e b) (KernelRend.DEN t e b) then 1 else 0)
        else if KernelRend.LO t e b + Ideal.ofBits .f32 0x3E99999A#32 * KernelRend.DEN t e b < t (ix2 v 2) then 1 else 0)
      (if Ideal.ofBits .f32 0x3E99999A#32 < Ideal.div (dfm t b v 2 - Finset.univ.fold min (⊤ : EReal) fun v => (dfm t b v 2 : EReal))
        (((Finset.univ.fold max (⊥ : EReal) fun v => (dfm t b v 2 : EReal)) - Finset.univ.fold min (⊤ : EReal) fun v => (dfm t b v 2 : EReal))
          + Ideal.ofBits .f32 0x322BCC77#32) then 1 else 0) := by
  obtain ⟨ζ, hζ⟩ := Rendered.finite _ h1
  have hd : ∀ k, ∃ n : ℝ, @Eq EReal (dfm t b k 2) ((ζ k : EReal) + (n : EReal)) ∧ |n| ≤ 6 / 1000 := fun k => by
    obtain ⟨n, hn, hb⟩ := Bound.noise_bound (BitVec.ofNat 32 (b.val * 15069 + k.val * 3 + (2 : Fin 3).val))
    refine ⟨n, ?_, hb⟩
    refine (dfm_ideal t b k 2).trans ?_
    exact congrArg₂ (fun x y : EReal => x + y) (congrFun hζ k) hn
  unfold KernelRend.DEN KernelRend.HI KernelRend.LO
  have ez : ∀ k, (fun k : Fin 5023 => (t (ix2 k 2) : EReal)) k = t (ix2 k 2) := fun _ => rfl
  rw [← ez v]
  generalize (fun k : Fin 5023 => (t (ix2 k 2) : EReal)) = z at *
  clear ez
  generalize hdd : (fun k : Fin 5023 => (dfm t b k 2 : EReal)) = d at *
  have e0 : ∀ k, (dfm t b k 2 : EReal) = d k := fun k => congrFun hdd k
  have e1 : (fun c : Fin 128 => (dfm t b (e c) 2 : EReal)) = fun c => d (e c) := funext fun c => e0 (e c)
  rw [e1, e0 v]
  have key := Rendered.agree ζ d (fun k => (hd k).imp fun n h => ⟨(e0 k).symm.trans h.1, h.2⟩) z hζ e g h1 h2 he hg _ _ rfl rfl v
  by_cases hp : ∃ p, g p = v
  · rw [if_pos hp] at key ⊢
    exact key
  · rw [if_neg hp] at key ⊢
    exact key

section Meet

variable (m : (ℓ : Loc Cert.KernelIdeal.nD Cert.KernelIdeal.τ Cert.KernelIdeal.sig) → Buf (Elt Ideal) ℓ) (c : Dev Cert.KernelIdeal.nD)
  (m' : (ℓ : Loc Cert.ReferenceIdeal.nD Cert.ReferenceIdeal.τ Cert.ReferenceIdeal.sig) → Buf (Elt Ideal) ℓ) (c' : Dev Cert.ReferenceIdeal.nD)
  (t : FVec Ideal Cert.KernelIdeal.S5023x3 .f32) (fa : IVec Cert.KernelIdeal.S9976x3 32) (ix : IVec Cert.KernelIdeal.S68 32) (bc : FVec Ideal Cert.KernelIdeal.S68x3 .f32)
  (fc : Fin 9976 → Fin 3 → Fin 5023) (fi : Fin 68 → Fin 9976)

/-- The arguments, as the two programs' memories hold them. -/
structure Args : Prop where
  k2 : m ((c : Thread Cert.KernelIdeal.nD Cert.KernelIdeal.τ).loc Cert.KernelIdeal.main_arg2) = t
  k3 : m ((c : Thread Cert.KernelIdeal.nD Cert.KernelIdeal.τ).loc Cert.KernelIdeal.main_arg3) = fa
  k4 : m ((c : Thread Cert.KernelIdeal.nD Cert.KernelIdeal.τ).loc Cert.KernelIdeal.main_arg4) = ix
  k5 : m ((c : Thread Cert.KernelIdeal.nD Cert.KernelIdeal.τ).loc Cert.KernelIdeal.main_arg5) = bc
  r2 : m' ((c' : Thread Cert.ReferenceIdeal.nD Cert.ReferenceIdeal.τ).loc Cert.ReferenceIdeal.main_arg2) = t
  r3 : m' ((c' : Thread Cert.ReferenceIdeal.nD Cert.ReferenceIdeal.τ).loc Cert.ReferenceIdeal.main_arg3) = fa
  r4 : m' ((c' : Thread Cert.ReferenceIdeal.nD Cert.ReferenceIdeal.τ).loc Cert.ReferenceIdeal.main_arg4) = ix
  r5 : m' ((c' : Thread Cert.ReferenceIdeal.nD Cert.ReferenceIdeal.τ).loc Cert.ReferenceIdeal.main_arg5) = bc
  hf : ∀ r j, fa (ix2 r j) = BitVec.ofNat 32 (fc r j).val
  hi : ∀ l, ix (ix1 l) = BitVec.ofNat 32 (fi l).val

variable {m c m' c' t fa ix bc fc fi} (h : Args m c m' c' t fa ix bc fc fi)

include h

theorem kfacts : KernelHost.Facts (W m c) t (Select.pick (fromMid (depth t))) (Select.pick (fromCut (depth t))) (fun l j => fc (fi l) j) bc :=
  KernelHost.facts _ t h.k2 fa h.k3 ix h.k4 bc h.k5 fi h.hi fc h.hf

theorem D_eq (b : Fin 1024) (v : Fin 5023) (k : Fin 3) : @Eq EReal (RefValue.D m' c' (ix3 b v k)) (dfm t b v k) := by
  rw [RefValue.D_ideal m' c' t h.r2, dfm_ideal]
  exact congrArg (fun s : EReal => (t (ix2 v k) : EReal) + noise (F := Ideal) s (BitVec.ofNat 32 (b.val * 15069 + v.val * 3 + k.val))) sp_value

/-- The landmarks. -/
theorem land_eq (b : Fin 1024) (l : Fin 68) (k : Fin 3) :
    @Eq EReal (K1 m c (ix3 b l k))
      (R1 m' c' (ix3 b l k)) := by
  refine (KernelRun.v121_at m c b l k).trans ?_
  refine (G7_at m c b _).trans ?_
  refine (lmk_row (kfacts h) _ b _ (hcoord b) l k).trans ?_
  refine Eq.trans ?_ (congrFun (RefValue.v27_eq m' c') (ix3 b l k)).symm
  have hA : ∀ l j, RefValue.A m' c' (ix2 l j) = BitVec.ofNat 32 (fc (fi l) j).val := fun l j =>
    (RefValue.A_at m' c' ix fa h.r4 h.r3 fi h.hi l j).trans (h.hf _ _)
  rw [h.r5]
  refine Eq.trans ?_ (RefTail.land_at _ _ bc (fun l j => fc (fi l) j) hA b l k).symm
  rw [Fin.sum_univ_three]
  exact congrArg₂ (fun x y : EReal => x + y) (congrArg₂ (fun x y : EReal => x + y)
    (congrArg (fun x : EReal => x * (bc (ix2 l 0) : EReal)) (D_eq h b _ k).symm)
    (congrArg (fun x : EReal => x * (bc (ix2 l 1) : EReal)) (D_eq h b _ k).symm))
    (congrArg (fun x : EReal => x * (bc (ix2 l 2) : EReal)) (D_eq h b _ k).symm)

/-- The rendered depths. -/
theorem rend_eq
    (h1 : (Finset.univ.filter fun k : Fin 5023 => Rendered.top (fun k => t (ix2 k 2)) - Ideal.ofBits .f32 0x3C4CCCCD#32 ≤ Rendered.fm (fun k => t (ix2 k 2)) k).card ≤ 128)
    (h2 : (Finset.univ.filter fun k : Fin 5023 => Rendered.fc (fun k => t (ix2 k 2)) k ≤ Ideal.ofBits .f32 0x3C4CCCCD#32).card ≤ 128)
    (b : Fin 1024) (v : Fin 5023) (k : Fin 3) :
    @Eq EReal (K0 m c (ix3 b v k))
      (R0 m' c' (ix3 b v k)) := by
  refine (KernelRun.v120_at m c b v k).trans ?_
  refine (G6_at m c b v).trans ?_
  refine (KernelRend.rend_row (kfacts h) (Select.pick_injective _) _ b _ (hcoord b) v).trans ?_
  refine Eq.trans ?_ (RefValue.v45_at m' c' b v k).symm
  refine Eq.trans ?_ (ref_test _ _ _).symm
  have eD : (fun v : Fin 5023 => (RefValue.D m' c' (ix3 b v 2) : EReal)) = fun v => (dfm t b v 2 : EReal) := funext fun v => D_eq h b v 2
  rw [RefTail.lo_eq, RefTail.hi_eq, eD, D_eq h b v 2]
  have he : ∀ θ : EReal, (Finset.univ.filter fun k : Fin 5023 => θ ≤ Rendered.fm (fun k => t (ix2 k 2)) k).card ≤ 128 →
      ∀ k, θ ≤ Rendered.fm (fun k => t (ix2 k 2)) k → ∃ p, Select.pick (fromMid (depth t)) p = k := fun θ hc k hk => by
    have eM : ∀ k, @Eq EReal (fromMid (depth t) (ix1 k)) (Rendered.fm (fun k => t (ix2 k 2)) k) := fun k => PreFacts.fromMid_at (depth t) k
    refine Select.pick_covers (fromMid (depth t)) θ ?_ k (le_of_le_of_eq hk (eM k).symm)
    simp only [eM]
    exact hc
  have hg : ∀ θ : EReal, (Finset.univ.filter fun k : Fin 5023 => θ ≤ -Rendered.fc (fun k => t (ix2 k 2)) k).card ≤ 128 →
      ∀ k, θ ≤ -Rendered.fc (fun k => t (ix2 k 2)) k → ∃ p, Select.pick (fromCut (depth t)) p = k := fun θ hc k hk => by
    have eM : ∀ k, @Eq EReal (fromCut (depth t) (ix1 k)) (-Rendered.fc (fun k => t (ix2 k 2)) k) := fun k => PreFacts.fromCut_at (depth t) k
    refine Select.pick_covers (fromCut (depth t)) θ ?_ k (le_of_le_of_eq hk (eM k).symm)
    simp only [eM]
    exact hc
  exact rend_math t b _ _ h1 h2 he hg v

end Meet

/-- Both arrays agree, for arguments that satisfy the precondition. -/
theorem agree (m : (ℓ : Loc Cert.KernelIdeal.nD Cert.KernelIdeal.τ Cert.KernelIdeal.sig) → Buf (Elt Ideal) ℓ) (c : Dev Cert.KernelIdeal.nD)
    (m' : (ℓ : Loc Cert.ReferenceIdeal.nD Cert.ReferenceIdeal.τ Cert.ReferenceIdeal.sig) → Buf (Elt Ideal) ℓ) (c' : Dev Cert.ReferenceIdeal.nD)
    (a0 : FVec Ideal Cert.KernelIdeal.S1024x100 .f32) (a1 : FVec Ideal Cert.KernelIdeal.S1024x50 .f32)
    (t : FVec Ideal Cert.KernelIdeal.S5023x3 .f32) (fa : IVec Cert.KernelIdeal.S9976x3 32) (ix : IVec Cert.KernelIdeal.S68 32) (bc : FVec Ideal Cert.KernelIdeal.S68x3 .f32)
    (hp : Cert.Pre_few_near_the_ends_and_the_cut.fn (F := Ideal) a0 a1 t fa ix bc = fun _ => 1#1)
    (k2 : m ((c : Thread Cert.KernelIdeal.nD Cert.KernelIdeal.τ).loc Cert.KernelIdeal.main_arg2) = t)
    (k3 : m ((c : Thread Cert.KernelIdeal.nD Cert.KernelIdeal.τ).loc Cert.KernelIdeal.main_arg3) = fa)
    (k4 : m ((c : Thread Cert.KernelIdeal.nD Cert.KernelIdeal.τ).loc Cert.KernelIdeal.main_arg4) = ix)
    (k5 : m ((c : Thread Cert.KernelIdeal.nD Cert.KernelIdeal.τ).loc Cert.KernelIdeal.main_arg5) = bc)
    (r2 : m' ((c' : Thread Cert.ReferenceIdeal.nD Cert.ReferenceIdeal.τ).loc Cert.ReferenceIdeal.main_arg2) = t)
    (r3 : m' ((c' : Thread Cert.ReferenceIdeal.nD Cert.ReferenceIdeal.τ).loc Cert.ReferenceIdeal.main_arg3) = fa)
    (r4 : m' ((c' : Thread Cert.ReferenceIdeal.nD Cert.ReferenceIdeal.τ).loc Cert.ReferenceIdeal.main_arg4) = ix)
    (r5 : m' ((c' : Thread Cert.ReferenceIdeal.nD Cert.ReferenceIdeal.τ).loc Cert.ReferenceIdeal.main_arg5) = bc) :
    R0 m' c' = K0 m c ∧ R1 m' c' = K1 m c := by
  obtain ⟨⟨fc, hf⟩, ⟨fi, hi⟩, h1, h2⟩ := PreFacts.read a0 a1 t fa ix bc hp
  have h : Args m c m' c' t fa ix bc fc fi := ⟨k2, k3, k4, k5, r2, r3, r4, r5, hf, hi⟩
  constructor
  · funext i
    rw [ix3_eta i]
    exact (rend_eq h h1 h2 (i 0) (i 1) (i 2)).symm
  · funext i
    rw [ix3_eta i]
    exact (land_eq h (i 0) (i 1) (i 2)).symm

end Cert.Proof.Agree

end
-- ==== Proof.lean ====
module

public import proofs.«01_k».proof.Defs
public import proofs.«01_k».proof.Proof.Gen.KernelIdeal.Frame
public import proofs.«01_k».proof.Proof.Gen.ReferenceIdeal.Frame
public import proofs.«01_k».proof.Proof.Gen.Kernel.Frame
public import proofs.«01_k».proof.Proof.Gen.Pre_few_near_the_ends_and_the_cut
public import proofs.«01_k».proof.Proof.Agree

@[expose] public section

/-- Both programs leave the same two arrays, for arguments that satisfy the precondition. -/
theorem Cert.Proof.values : Cert.algebraic_KernelIdeal_ReferenceIdeal_pre_few_near_the_ends_and_the_cut := by
  intro m g m' g' hp hm
  refine ⟨fun c => Cert.Proof.Agree.K0 m c, fun c => Cert.Proof.Agree.K1 m c, Cert.Proof.Agree.kernel_run m g, ?_⟩
  refine (Idealize.ShloMosaic.θ_run Cert.ReferenceIdeal.defs _ _).mono (fun _ h c => ?_) (Cert.Proof.Agree.reference_run m' g')
  obtain ⟨h0, h1, ha⟩ := h c
  obtain ⟨_, _, e2, e3, e4, e5⟩ := hm c
  obtain ⟨a0, a1⟩ := Cert.Proof.Agree.agree m c m' c _ _ _ _ _ _ (hp c) rfl rfl rfl rfl e2 e3 e4 e5
  exact ⟨h0.trans a0, h1.trans a1, ha⟩

theorem Cert.Proof.claim : Cert.Claim :=
  ⟨Cert.Kernel.Gen.facts, Cert.KernelIdeal.Gen.facts, Cert.ReferenceIdeal.Gen.facts, Cert.Pre_few_near_the_ends_and_the_cut.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, Idealize.ShloMosaic.IdealRules.named_const.statement _ _ _ _ _ rfl, Cert.Proof.values⟩
